-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S3x256x4096 : Shape := ⟨3, ![3, 256, 4096]⟩
abbrev S1x256x4096 : Shape := ⟨3, ![1, 256, 4096]⟩
abbrev S2x256x4096 : Shape := ⟨3, ![2, 256, 4096]⟩
abbrev S16x128 : Shape := ⟨2, ![16, 128]⟩
abbrev S3 : Shape := ⟨1, ![3]⟩
abbrev S2 : Shape := ⟨1, ![2]⟩
abbrev S1 : Shape := ⟨1, ![1]⟩
abbrev S_ : Shape := ⟨0, ![]⟩
abbrev S15 : Shape := ⟨1, ![15]⟩
abbrev S256x128 : Shape := ⟨2, ![256, 128]⟩
abbrev S1x256x128 : Shape := ⟨3, ![1, 256, 128]⟩
abbrev S1x1x1 : Shape := ⟨3, ![1, 1, 1]⟩
abbrev S1x128x4096 : Shape := ⟨3, ![1, 128, 4096]⟩
abbrev S128x4096 : Shape := ⟨2, ![128, 4096]⟩
abbrev S1x128 : Shape := ⟨2, ![1, 128]⟩
abbrev S1x16x128 : Shape := ⟨3, ![1, 16, 128]⟩

abbrev nBuf : Space → Nat
  | .hbm => 3
  | .vmem => 11
  | .smem => 0
  | _ => 0

abbrev bufTy : (tb : Table) → Fin (tcTables nBuf tb) → BufTy
  | .hbm, ⟨0, _⟩ => ⟨S256x4096, .f32⟩
  | .hbm, ⟨1, _⟩ => ⟨S4096x128, .f32⟩
  | .hbm, ⟨2, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S4096x128, .f32⟩
  | .local _ .vmem, ⟨3, _⟩ => ⟨S3x256x4096, .f32⟩
  | .local _ .vmem, ⟨4, _⟩ => ⟨S3x256x4096, .f32⟩
  | .local _ .vmem, ⟨5, _⟩ => ⟨S1x256x4096, .f32⟩
  | .local _ .vmem, ⟨6, _⟩ => ⟨S2x256x4096, .f32⟩
  | .local _ .vmem, ⟨7, _⟩ => ⟨S2x256x4096, .f32⟩
  | .local _ .vmem, ⟨8, _⟩ => ⟨S1x256x4096, .f32⟩
  | .local _ .vmem, ⟨9, _⟩ => ⟨S1x256x4096, .f32⟩
  | .local _ .vmem, ⟨10, _⟩ => ⟨S16x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 5 60 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_23 : BitVec 32 := 1#32
  let v46 : BitVec 32 := Scalar.muli v33 c1_i32_23
  let v47 : BitVec 32 := Scalar.addi c0_i32_24 v46
  v47.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_26 : BitVec 32 := 1#32
  let v48 : BitVec 32 := Scalar.muli v38 c1_i32_26
  let v49 : BitVec 32 := Scalar.addi c0_i32_27 v48
  v49.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v50 : BitVec 1 := Scalar.cmpi .slt v19 c3_i32
  let v51 : BitVec 32 := Scalar.extui v50
  let c0_i32_28 : BitVec 32 := 0#32
  let v52 : BitVec 1 := Scalar.cmpi .ne v51 c0_i32_28
  v52

def k0_dev3 (d0 : Dev nD) : Nat :=
  let c0_i32_1027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_20 : BitVec 32 := 4#32
  let v43 : BitVec 32 := Scalar.addi v2 c4_i32_20
  let c1_i32_1026 : BitVec 32 := 1#32
  let v1136 : BitVec 32 := Scalar.muli v43 c1_i32_1026
  let v1137 : BitVec 32 := Scalar.addi c0_i32_1027 v1136
  v1137.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_29 : BitVec 32 := 0#32
  let v53 : BitVec 1 := Scalar.cmpi .sgt v19 c0_i32_29
  let v54 : BitVec 32 := Scalar.extui v53
  let c0_i32_30 : BitVec 32 := 0#32
  let v55 : BitVec 1 := Scalar.cmpi .ne v54 c0_i32_30
  v55

def k0_dev4 (d0 : Dev nD) : Nat :=
  let c0_i32_1027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_21 : BitVec 32 := 4#32
  let v44 : BitVec 32 := Scalar.subi v2 c4_i32_21
  let c1_i32_1026 : BitVec 32 := 1#32
  let v1136 : BitVec 32 := Scalar.muli v44 c1_i32_1026
  let v1137 : BitVec 32 := Scalar.addi c0_i32_1027 v1136
  v1137.toNat
def k0_amt1 (d0 : Dev nD) : BitVec 32 :=
  let c2_i32_32 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_31 : BitVec 32 := 0#32
  let v56 : BitVec 1 := Scalar.cmpi .sgt v19 c0_i32_31
  let v57 : BitVec 32 := Scalar.extui v56
  let v58 : BitVec 32 := Scalar.addi c2_i32_32 v57
  let c3_i32_33 : BitVec 32 := 3#32
  let v59 : BitVec 1 := Scalar.cmpi .slt v19 c3_i32_33
  let v60 : BitVec 32 := Scalar.extui v59
  let v61 : BitVec 32 := Scalar.addi v58 v60
  v61

def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_34 : BitVec 32 := 0#32
  let v62 : BitVec 1 := Scalar.cmpi .sge v19 c0_i32_34
  let c3_i32_35 : BitVec 32 := 3#32
  let v63 : BitVec 1 := Scalar.cmpi .slt v19 c3_i32_35
  let v64 : BitVec 1 := Scalar.andi v62 v63
  let v65 : BitVec 32 := Scalar.extui v64
  let c0_i32_36 : BitVec 32 := 0#32
  let v66 : BitVec 1 := Scalar.cmpi .ne v65 c0_i32_36
  v66

def k0_dev5 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_20 : BitVec 32 := 4#32
  let v43 : BitVec 32 := Scalar.addi v2 c4_i32_20
  let c1_i32_1028 : BitVec 32 := 1#32
  let v1136 : BitVec 32 := Scalar.muli v43 c1_i32_1028
  let v1137 : BitVec 32 := Scalar.addi c0_i32_1029 v1136
  v1137.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_37 : BitVec 32 := 3#32
  let v67 : BitVec 1 := Scalar.cmpi .sle v19 c3_i32_37
  let c0_i32_38 : BitVec 32 := 0#32
  let v68 : BitVec 1 := Scalar.cmpi .sgt v19 c0_i32_38
  let v69 : BitVec 1 := Scalar.andi v67 v68
  let v70 : BitVec 32 := Scalar.extui v69
  let c0_i32_39 : BitVec 32 := 0#32
  let v71 : BitVec 1 := Scalar.cmpi .ne v70 c0_i32_39
  v71

def k0_dev6 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_21 : BitVec 32 := 4#32
  let v44 : BitVec 32 := Scalar.subi v2 c4_i32_21
  let c1_i32_1028 : BitVec 32 := 1#32
  let v1136 : BitVec 32 := Scalar.muli v44 c1_i32_1028
  let v1137 : BitVec 32 := Scalar.addi c0_i32_1029 v1136
  v1137.toNat
def k0_dev7 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_48 : BitVec 32 := 1#32
  let v77 : BitVec 32 := Scalar.muli v33 c1_i32_48
  let v78 : BitVec 32 := Scalar.addi c0_i32_49 v77
  v78.toNat
def k0_dev8 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_58 : BitVec 32 := 1#32
  let v87 : BitVec 32 := Scalar.muli v38 c1_i32_58
  let v88 : BitVec 32 := Scalar.addi c0_i32_59 v87
  v88.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v102 : BitVec 32 := Scalar.muli v2 c256_i32
  let v103 : Index := Scalar.indexCast v102
  let c0_69 : Index := 0#32
  ![v103.toNat, 0]
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_96 : BitVec 32 := 1#32
  let v127 : BitVec 32 := Scalar.muli v33 c1_i32_96
  let v128 : BitVec 32 := Scalar.addi c0_i32_97 v127
  v128.toNat
def k0_dev10 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_106 : BitVec 32 := 1#32
  let v137 : BitVec 32 := Scalar.muli v38 c1_i32_106
  let v138 : BitVec 32 := Scalar.addi c0_i32_107 v137
  v138.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c4_i32_117 : BitVec 32 := 4#32
  let c0_i32_118 : BitVec 32 := 0#32
  let v152 : BitVec 32 := Scalar.muli c4_i32_117 c0_i32_118
  let v153 : BitVec 32 := Scalar.addi v38 v152
  let c256_i32_119 : BitVec 32 := 256#32
  let v154 : BitVec 32 := Scalar.muli v153 c256_i32_119
  let v155 : Index := Scalar.indexCast v154
  let c0_120 : Index := 0#32
  ![v155.toNat, 0]
def k0_off3 (d0 : Dev nD) (c1_i32_12 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v31 : BitVec 32 := Scalar.addi v29 c1_i32_12
  let c4_i32_13 : BitVec 32 := 4#32
  let v32 : BitVec 32 := Scalar.remsi v31 c4_i32_13
  let v33 : BitVec 32 := Scalar.addi v30 v32
  let c4_i32_128 : BitVec 32 := 4#32
  let c0_i32_129 : BitVec 32 := 0#32
  let v168 : BitVec 32 := Scalar.muli c4_i32_128 c0_i32_129
  let v169 : BitVec 32 := Scalar.addi v33 v168
  let c256_i32_130 : BitVec 32 := 256#32
  let v170 : BitVec 32 := Scalar.muli v169 c256_i32_130
  let v171 : Index := Scalar.indexCast v170
  let c0_131 : Index := 0#32
  ![v171.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_155 : BitVec 32 := 1#32
  let v197 : BitVec 1 := Scalar.cmpi .sge v19 c1_i32_155
  let c3_i32_156 : BitVec 32 := 3#32
  let v198 : BitVec 1 := Scalar.cmpi .slt v19 c3_i32_156
  let v199 : BitVec 1 := Scalar.andi v197 v198
  let v200 : BitVec 32 := Scalar.extui v199
  let c0_i32_157 : BitVec 32 := 0#32
  let v201 : BitVec 1 := Scalar.cmpi .ne v200 c0_i32_157
  v201

def k0_dev11 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_20 : BitVec 32 := 4#32
  let v43 : BitVec 32 := Scalar.addi v2 c4_i32_20
  let c1_i32_1029 : BitVec 32 := 1#32
  let v1136 : BitVec 32 := Scalar.muli v43 c1_i32_1029
  let v1137 : BitVec 32 := Scalar.addi c0_i32_1030 v1136
  v1137.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_158 : BitVec 32 := 2#32
  let v202 : BitVec 1 := Scalar.cmpi .sle v19 c2_i32_158
  let c0_i32_159 : BitVec 32 := 0#32
  let v203 : BitVec 1 := Scalar.cmpi .sgt v19 c0_i32_159
  let v204 : BitVec 1 := Scalar.andi v202 v203
  let v205 : BitVec 32 := Scalar.extui v204
  let c0_i32_160 : BitVec 32 := 0#32
  let v206 : BitVec 1 := Scalar.cmpi .ne v205 c0_i32_160
  v206

def k0_dev12 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_21 : BitVec 32 := 4#32
  let v44 : BitVec 32 := Scalar.subi v2 c4_i32_21
  let c1_i32_1029 : BitVec 32 := 1#32
  let v1136 : BitVec 32 := Scalar.muli v44 c1_i32_1029
  let v1137 : BitVec 32 := Scalar.addi c0_i32_1030 v1136
  v1137.toNat
def k0_dev13 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_171 : BitVec 32 := 1#32
  let v215 : BitVec 32 := Scalar.muli v33 c1_i32_171
  let v216 : BitVec 32 := Scalar.addi c0_i32_172 v215
  v216.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_181 : BitVec 32 := 1#32
  let v225 : BitVec 32 := Scalar.muli v38 c1_i32_181
  let v226 : BitVec 32 := Scalar.addi c0_i32_182 v225
  v226.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_193 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_165 : BitVec 32 := 0#32
  let v213 : BitVec 1 := Scalar.cmpi .eq v19 c0_i32_165
  let c1_i32_166 : BitVec 32 := 1#32
  let c_m1_i32 : BitVec 32 := 4294967295#32
  let v214 : BitVec 32 := Scalar.select v213 c1_i32_166 c_m1_i32
  let v240 : BitVec 32 := Scalar.muli c4_i32_193 v214
  let v241 : BitVec 32 := Scalar.addi v2 v240
  let c256_i32_194 : BitVec 32 := 256#32
  let v242 : BitVec 32 := Scalar.muli v241 c256_i32_194
  let v243 : Index := Scalar.indexCast v242
  let c0_195 : Index := 0#32
  ![v243.toNat, 0]
def k0_dev15 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_216 : BitVec 32 := 1#32
  let v263 : BitVec 32 := Scalar.muli v38 c1_i32_216
  let v264 : BitVec 32 := Scalar.addi c0_i32_217 v263
  v264.toNat
def k0_dev16 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_219 : BitVec 32 := 1#32
  let v265 : BitVec 32 := Scalar.muli v33 c1_i32_219
  let v266 : BitVec 32 := Scalar.addi c0_i32_220 v265
  v266.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_258 : BitVec 32 := 3#32
  let v309 : BitVec 1 := Scalar.cmpi .slt v19 c3_i32_258
  let v310 : BitVec 32 := Scalar.extui v309
  let c0_i32_259 : BitVec 32 := 0#32
  let v311 : BitVec 1 := Scalar.cmpi .ne v310 c0_i32_259
  v311

def k0_dev17 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_20 : BitVec 32 := 4#32
  let v43 : BitVec 32 := Scalar.addi v2 c4_i32_20
  let c1_i32_1029 : BitVec 32 := 1#32
  let v1136 : BitVec 32 := Scalar.muli v43 c1_i32_1029
  let v1137 : BitVec 32 := Scalar.addi c0_i32_1030 v1136
  v1137.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v312 : BitVec 1 := Scalar.cmpi .eq v19 c1_i32_260
  let v313 : BitVec 32 := Scalar.extui v312
  let c0_i32_261 : BitVec 32 := 0#32
  let v314 : BitVec 1 := Scalar.cmpi .ne v313 c0_i32_261
  v314

def k0_dev18 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_21 : BitVec 32 := 4#32
  let v44 : BitVec 32 := Scalar.subi v2 c4_i32_21
  let c1_i32_1029 : BitVec 32 := 1#32
  let v1136 : BitVec 32 := Scalar.muli v44 c1_i32_1029
  let v1137 : BitVec 32 := Scalar.addi c0_i32_1030 v1136
  v1137.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c4_i32_287 : BitVec 32 := 4#32
  let c0_i32_165 : BitVec 32 := 0#32
  let v213 : BitVec 1 := Scalar.cmpi .eq v19 c0_i32_165
  let c1_i32_166 : BitVec 32 := 1#32
  let c_m1_i32 : BitVec 32 := 4294967295#32
  let v214 : BitVec 32 := Scalar.select v213 c1_i32_166 c_m1_i32
  let v336 : BitVec 32 := Scalar.muli c4_i32_287 v214
  let v337 : BitVec 32 := Scalar.addi v38 v336
  let c256_i32_288 : BitVec 32 := 256#32
  let v338 : BitVec 32 := Scalar.muli v337 c256_i32_288
  let v339 : Index := Scalar.indexCast v338
  let c0_289 : Index := 0#32
  ![v339.toNat, 0]
def k0_off6 (d0 : Dev nD) (c1_i32_12 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v31 : BitVec 32 := Scalar.addi v29 c1_i32_12
  let c4_i32_13 : BitVec 32 := 4#32
  let v32 : BitVec 32 := Scalar.remsi v31 c4_i32_13
  let v33 : BitVec 32 := Scalar.addi v30 v32
  let c4_i32_297 : BitVec 32 := 4#32
  let c0_i32_165 : BitVec 32 := 0#32
  let v213 : BitVec 1 := Scalar.cmpi .eq v19 c0_i32_165
  let c1_i32_166 : BitVec 32 := 1#32
  let c_m1_i32 : BitVec 32 := 4294967295#32
  let v214 : BitVec 32 := Scalar.select v213 c1_i32_166 c_m1_i32
  let v352 : BitVec 32 := Scalar.muli c4_i32_297 v214
  let v353 : BitVec 32 := Scalar.addi v33 v352
  let c256_i32_298 : BitVec 32 := 256#32
  let v354 : BitVec 32 := Scalar.muli v353 c256_i32_298
  let v355 : Index := Scalar.indexCast v354
  let c0_299 : Index := 0#32
  ![v355.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_323 : BitVec 32 := 2#32
  let v381 : BitVec 1 := Scalar.cmpi .sge v19 c2_i32_323
  let c3_i32_324 : BitVec 32 := 3#32
  let v382 : BitVec 1 := Scalar.cmpi .slt v19 c3_i32_324
  let v383 : BitVec 1 := Scalar.andi v381 v382
  let v384 : BitVec 32 := Scalar.extui v383
  let c0_i32_325 : BitVec 32 := 0#32
  let v385 : BitVec 1 := Scalar.cmpi .ne v384 c0_i32_325
  v385

def k0_dev19 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_20 : BitVec 32 := 4#32
  let v43 : BitVec 32 := Scalar.addi v2 c4_i32_20
  let c1_i32_1029 : BitVec 32 := 1#32
  let v1136 : BitVec 32 := Scalar.muli v43 c1_i32_1029
  let v1137 : BitVec 32 := Scalar.addi c0_i32_1030 v1136
  v1137.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_326 : BitVec 32 := 1#32
  let v386 : BitVec 1 := Scalar.cmpi .sle v19 c1_i32_326
  let c0_i32_327 : BitVec 32 := 0#32
  let v387 : BitVec 1 := Scalar.cmpi .sgt v19 c0_i32_327
  let v388 : BitVec 1 := Scalar.andi v386 v387
  let v389 : BitVec 32 := Scalar.extui v388
  let c0_i32_328 : BitVec 32 := 0#32
  let v390 : BitVec 1 := Scalar.cmpi .ne v389 c0_i32_328
  v390

def k0_dev20 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_21 : BitVec 32 := 4#32
  let v44 : BitVec 32 := Scalar.subi v2 c4_i32_21
  let c1_i32_1029 : BitVec 32 := 1#32
  let v1136 : BitVec 32 := Scalar.muli v44 c1_i32_1029
  let v1137 : BitVec 32 := Scalar.addi c0_i32_1030 v1136
  v1137.toNat
def k0_dev21 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_348 : BitVec 32 := 1#32
  let v406 : BitVec 32 := Scalar.muli v33 c1_i32_348
  let v407 : BitVec 32 := Scalar.addi c0_i32_349 v406
  v407.toNat
def k0_dev22 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_358 : BitVec 32 := 1#32
  let v416 : BitVec 32 := Scalar.muli v38 c1_i32_358
  let v417 : BitVec 32 := Scalar.addi c0_i32_359 v416
  v417.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_370 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_336 : BitVec 32 := 0#32
  let v402 : BitVec 1 := Scalar.cmpi .eq v19 c0_i32_336
  let c2_i32_339 : BitVec 32 := 2#32
  let c3_i32_337 : BitVec 32 := 3#32
  let v403 : BitVec 1 := Scalar.cmpi .eq v19 c3_i32_337
  let c_m2_i32 : BitVec 32 := 4294967294#32
  let c1_i32_338 : BitVec 32 := 1#32
  let v404 : BitVec 32 := Scalar.select v403 c_m2_i32 c1_i32_338
  let v405 : BitVec 32 := Scalar.select v402 c2_i32_339 v404
  let v431 : BitVec 32 := Scalar.muli c4_i32_370 v405
  let v432 : BitVec 32 := Scalar.addi v2 v431
  let c256_i32_371 : BitVec 32 := 256#32
  let v433 : BitVec 32 := Scalar.muli v432 c256_i32_371
  let v434 : Index := Scalar.indexCast v433
  let c0_372 : Index := 0#32
  ![v434.toNat, 0]
def k0_dev23 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_375 : BitVec 32 := 1#32
  let v442 : BitVec 32 := Scalar.muli v38 c1_i32_375
  let v443 : BitVec 32 := Scalar.addi c0_i32_376 v442
  v443.toNat
def k0_dev24 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_378 : BitVec 32 := 1#32
  let v444 : BitVec 32 := Scalar.muli v33 c1_i32_378
  let v445 : BitVec 32 := Scalar.addi c0_i32_379 v444
  v445.toNat
def k0_dev25 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_405 : BitVec 32 := 1#32
  let v476 : BitVec 32 := Scalar.muli v38 c1_i32_405
  let v477 : BitVec 32 := Scalar.addi c0_i32_406 v476
  v477.toNat
def k0_dev26 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_408 : BitVec 32 := 1#32
  let v478 : BitVec 32 := Scalar.muli v33 c1_i32_408
  let v479 : BitVec 32 := Scalar.addi c0_i32_409 v478
  v479.toNat
def k0_dev27 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_438 : BitVec 32 := 1#32
  let v496 : BitVec 32 := Scalar.muli v33 c1_i32_438
  let v497 : BitVec 32 := Scalar.addi c0_i32_439 v496
  v497.toNat
def k0_dev28 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_448 : BitVec 32 := 1#32
  let v506 : BitVec 32 := Scalar.muli v38 c1_i32_448
  let v507 : BitVec 32 := Scalar.addi c0_i32_449 v506
  v507.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c4_i32_460 : BitVec 32 := 4#32
  let c0_i32_336 : BitVec 32 := 0#32
  let v402 : BitVec 1 := Scalar.cmpi .eq v19 c0_i32_336
  let c2_i32_339 : BitVec 32 := 2#32
  let c3_i32_337 : BitVec 32 := 3#32
  let v403 : BitVec 1 := Scalar.cmpi .eq v19 c3_i32_337
  let c_m2_i32 : BitVec 32 := 4294967294#32
  let c1_i32_338 : BitVec 32 := 1#32
  let v404 : BitVec 32 := Scalar.select v403 c_m2_i32 c1_i32_338
  let v405 : BitVec 32 := Scalar.select v402 c2_i32_339 v404
  let v521 : BitVec 32 := Scalar.muli c4_i32_460 v405
  let v522 : BitVec 32 := Scalar.addi v38 v521
  let c256_i32_461 : BitVec 32 := 256#32
  let v523 : BitVec 32 := Scalar.muli v522 c256_i32_461
  let v524 : Index := Scalar.indexCast v523
  let c0_462 : Index := 0#32
  ![v524.toNat, 0]
def k0_off9 (d0 : Dev nD) (c1_i32_12 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v31 : BitVec 32 := Scalar.addi v29 c1_i32_12
  let c4_i32_13 : BitVec 32 := 4#32
  let v32 : BitVec 32 := Scalar.remsi v31 c4_i32_13
  let v33 : BitVec 32 := Scalar.addi v30 v32
  let c4_i32_470 : BitVec 32 := 4#32
  let c0_i32_336 : BitVec 32 := 0#32
  let v402 : BitVec 1 := Scalar.cmpi .eq v19 c0_i32_336
  let c2_i32_339 : BitVec 32 := 2#32
  let c3_i32_337 : BitVec 32 := 3#32
  let v403 : BitVec 1 := Scalar.cmpi .eq v19 c3_i32_337
  let c_m2_i32 : BitVec 32 := 4294967294#32
  let c1_i32_338 : BitVec 32 := 1#32
  let v404 : BitVec 32 := Scalar.select v403 c_m2_i32 c1_i32_338
  let v405 : BitVec 32 := Scalar.select v402 c2_i32_339 v404
  let v537 : BitVec 32 := Scalar.muli c4_i32_470 v405
  let v538 : BitVec 32 := Scalar.addi v33 v537
  let c256_i32_471 : BitVec 32 := 256#32
  let v539 : BitVec 32 := Scalar.muli v538 c256_i32_471
  let v540 : Index := Scalar.indexCast v539
  let c0_472 : Index := 0#32
  ![v540.toNat, 0]
def k0_dev29 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_518 : BitVec 32 := 1#32
  let v584 : BitVec 32 := Scalar.muli v33 c1_i32_518
  let v585 : BitVec 32 := Scalar.addi c0_i32_519 v584
  v585.toNat
def k0_dev30 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_528 : BitVec 32 := 1#32
  let v594 : BitVec 32 := Scalar.muli v38 c1_i32_528
  let v595 : BitVec 32 := Scalar.addi c0_i32_529 v594
  v595.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_540 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_504 : BitVec 32 := 0#32
  let v578 : BitVec 1 := Scalar.cmpi .eq v19 c0_i32_504
  let c3_i32_509 : BitVec 32 := 3#32
  let c1_i32_505 : BitVec 32 := 1#32
  let v579 : BitVec 1 := Scalar.cmpi .eq v19 c1_i32_505
  let c2_i32_508 : BitVec 32 := 2#32
  let c2_i32_506 : BitVec 32 := 2#32
  let v580 : BitVec 1 := Scalar.cmpi .eq v19 c2_i32_506
  let c_m2_i32_507 : BitVec 32 := 4294967294#32
  let c_m3_i32 : BitVec 32 := 4294967293#32
  let v581 : BitVec 32 := Scalar.select v580 c_m2_i32_507 c_m3_i32
  let v582 : BitVec 32 := Scalar.select v579 c2_i32_508 v581
  let v583 : BitVec 32 := Scalar.select v578 c3_i32_509 v582
  let v609 : BitVec 32 := Scalar.muli c4_i32_540 v583
  let v610 : BitVec 32 := Scalar.addi v2 v609
  let c256_i32_541 : BitVec 32 := 256#32
  let v611 : BitVec 32 := Scalar.muli v610 c256_i32_541
  let v612 : Index := Scalar.indexCast v611
  let c0_542 : Index := 0#32
  ![v612.toNat, 0]
def k0_dev31 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_593 : BitVec 32 := 1#32
  let v664 : BitVec 32 := Scalar.muli v38 c1_i32_593
  let v665 : BitVec 32 := Scalar.addi c0_i32_594 v664
  v665.toNat
def k0_dev32 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_596 : BitVec 32 := 1#32
  let v666 : BitVec 32 := Scalar.muli v33 c1_i32_596
  let v667 : BitVec 32 := Scalar.addi c0_i32_597 v666
  v667.toNat
def k0_dev33 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let v32 : BitVec 32 := Scalar.remsi v31 c4_i32_13
  let v33 : BitVec 32 := Scalar.addi v30 v32
  let c1_i32_626 : BitVec 32 := 1#32
  let v684 : BitVec 32 := Scalar.muli v33 c1_i32_626
  let v685 : BitVec 32 := Scalar.addi c0_i32_627 v684
  v685.toNat
def k0_dev34 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c1_i32_636 : BitVec 32 := 1#32
  let v694 : BitVec 32 := Scalar.muli v38 c1_i32_636
  let v695 : BitVec 32 := Scalar.addi c0_i32_637 v694
  v695.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v34 : BitVec 32 := Scalar.muli v19 c4_i32_14
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.subi v29 c1_i32_15
  let c4_i32_16 : BitVec 32 := 4#32
  let v36 : BitVec 32 := Scalar.addi v35 c4_i32_16
  let c4_i32_17 : BitVec 32 := 4#32
  let v37 : BitVec 32 := Scalar.remsi v36 c4_i32_17
  let v38 : BitVec 32 := Scalar.addi v34 v37
  let c4_i32_648 : BitVec 32 := 4#32
  let c0_i32_504 : BitVec 32 := 0#32
  let v578 : BitVec 1 := Scalar.cmpi .eq v19 c0_i32_504
  let c3_i32_509 : BitVec 32 := 3#32
  let c1_i32_505 : BitVec 32 := 1#32
  let v579 : BitVec 1 := Scalar.cmpi .eq v19 c1_i32_505
  let c2_i32_508 : BitVec 32 := 2#32
  let c2_i32_506 : BitVec 32 := 2#32
  let v580 : BitVec 1 := Scalar.cmpi .eq v19 c2_i32_506
  let c_m2_i32_507 : BitVec 32 := 4294967294#32
  let c_m3_i32 : BitVec 32 := 4294967293#32
  let v581 : BitVec 32 := Scalar.select v580 c_m2_i32_507 c_m3_i32
  let v582 : BitVec 32 := Scalar.select v579 c2_i32_508 v581
  let v583 : BitVec 32 := Scalar.select v578 c3_i32_509 v582
  let v709 : BitVec 32 := Scalar.muli c4_i32_648 v583
  let v710 : BitVec 32 := Scalar.addi v38 v709
  let c256_i32_649 : BitVec 32 := 256#32
  let v711 : BitVec 32 := Scalar.muli v710 c256_i32_649
  let v712 : Index := Scalar.indexCast v711
  let c0_650 : Index := 0#32
  ![v712.toNat, 0]
def k0_off12 (d0 : Dev nD) (c1_i32_12 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v31 : BitVec 32 := Scalar.addi v29 c1_i32_12
  let c4_i32_13 : BitVec 32 := 4#32
  let v32 : BitVec 32 := Scalar.remsi v31 c4_i32_13
  let v33 : BitVec 32 := Scalar.addi v30 v32
  let c4_i32_658 : BitVec 32 := 4#32
  let c0_i32_504 : BitVec 32 := 0#32
  let v578 : BitVec 1 := Scalar.cmpi .eq v19 c0_i32_504
  let c3_i32_509 : BitVec 32 := 3#32
  let c1_i32_505 : BitVec 32 := 1#32
  let v579 : BitVec 1 := Scalar.cmpi .eq v19 c1_i32_505
  let c2_i32_508 : BitVec 32 := 2#32
  let c2_i32_506 : BitVec 32 := 2#32
  let v580 : BitVec 1 := Scalar.cmpi .eq v19 c2_i32_506
  let c_m2_i32_507 : BitVec 32 := 4294967294#32
  let c_m3_i32 : BitVec 32 := 4294967293#32
  let v581 : BitVec 32 := Scalar.select v580 c_m2_i32_507 c_m3_i32
  let v582 : BitVec 32 := Scalar.select v579 c2_i32_508 v581
  let v583 : BitVec 32 := Scalar.select v578 c3_i32_509 v582
  let v725 : BitVec 32 := Scalar.muli c4_i32_658 v583
  let v726 : BitVec 32 := Scalar.addi v33 v725
  let c256_i32_659 : BitVec 32 := 256#32
  let v727 : BitVec 32 := Scalar.muli v726 c256_i32_659
  let v728 : Index := Scalar.indexCast v727
  let c0_660 : Index := 0#32
  ![v728.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v813 : Index := Scalar.indexCast v2
  let c0_740 : Index := 0#32
  ![v813.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_747 : BitVec 32 := 0#32
  ![v2.toNat, 0]
def k0_dev35 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_741 : BitVec 32 := 1#32
  let v817 : BitVec 32 := Scalar.addi v2 c1_i32_741
  let c16_i32_742 : BitVec 32 := 16#32
  let v818 : BitVec 32 := Scalar.remsi v817 c16_i32_742
  let c1_i32_745 : BitVec 32 := 1#32
  let v819 : BitVec 32 := Scalar.muli v818 c1_i32_745
  let v820 : BitVec 32 := Scalar.addi c0_i32_746 v819
  v820.toNat
def k0_dev36 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_749 : BitVec 32 := 2#32
  let v827 : BitVec 32 := Scalar.addi v2 c2_i32_749
  let c16_i32_750 : BitVec 32 := 16#32
  let v828 : BitVec 32 := Scalar.remsi v827 c16_i32_750
  let c1_i32_753 : BitVec 32 := 1#32
  let v829 : BitVec 32 := Scalar.muli v828 c1_i32_753
  let v830 : BitVec 32 := Scalar.addi c0_i32_754 v829
  v830.toNat
def k0_dev37 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_757 : BitVec 32 := 3#32
  let v837 : BitVec 32 := Scalar.addi v2 c3_i32_757
  let c16_i32_758 : BitVec 32 := 16#32
  let v838 : BitVec 32 := Scalar.remsi v837 c16_i32_758
  let c1_i32_761 : BitVec 32 := 1#32
  let v839 : BitVec 32 := Scalar.muli v838 c1_i32_761
  let v840 : BitVec 32 := Scalar.addi c0_i32_762 v839
  v840.toNat
def k0_dev38 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_765 : BitVec 32 := 4#32
  let v847 : BitVec 32 := Scalar.addi v2 c4_i32_765
  let c16_i32_766 : BitVec 32 := 16#32
  let v848 : BitVec 32 := Scalar.remsi v847 c16_i32_766
  let c1_i32_769 : BitVec 32 := 1#32
  let v849 : BitVec 32 := Scalar.muli v848 c1_i32_769
  let v850 : BitVec 32 := Scalar.addi c0_i32_770 v849
  v850.toNat
def k0_dev39 (d0 : Dev nD) : Nat :=
  let c0_i32_777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v857 : BitVec 32 := Scalar.addi v2 c5_i32
  let c16_i32_773 : BitVec 32 := 16#32
  let v858 : BitVec 32 := Scalar.remsi v857 c16_i32_773
  let c1_i32_776 : BitVec 32 := 1#32
  let v859 : BitVec 32 := Scalar.muli v858 c1_i32_776
  let v860 : BitVec 32 := Scalar.addi c0_i32_777 v859
  v860.toNat
def k0_dev40 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v867 : BitVec 32 := Scalar.addi v2 c6_i32
  let c16_i32_780 : BitVec 32 := 16#32
  let v868 : BitVec 32 := Scalar.remsi v867 c16_i32_780
  let c1_i32_783 : BitVec 32 := 1#32
  let v869 : BitVec 32 := Scalar.muli v868 c1_i32_783
  let v870 : BitVec 32 := Scalar.addi c0_i32_784 v869
  v870.toNat
def k0_dev41 (d0 : Dev nD) : Nat :=
  let c0_i32_791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v877 : BitVec 32 := Scalar.addi v2 c7_i32
  let c16_i32_787 : BitVec 32 := 16#32
  let v878 : BitVec 32 := Scalar.remsi v877 c16_i32_787
  let c1_i32_790 : BitVec 32 := 1#32
  let v879 : BitVec 32 := Scalar.muli v878 c1_i32_790
  let v880 : BitVec 32 := Scalar.addi c0_i32_791 v879
  v880.toNat
def k0_dev42 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v887 : BitVec 32 := Scalar.addi v2 c8_i32
  let c16_i32_794 : BitVec 32 := 16#32
  let v888 : BitVec 32 := Scalar.remsi v887 c16_i32_794
  let c1_i32_797 : BitVec 32 := 1#32
  let v889 : BitVec 32 := Scalar.muli v888 c1_i32_797
  let v890 : BitVec 32 := Scalar.addi c0_i32_798 v889
  v890.toNat
def k0_dev43 (d0 : Dev nD) : Nat :=
  let c0_i32_805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v897 : BitVec 32 := Scalar.addi v2 c9_i32
  let c16_i32_801 : BitVec 32 := 16#32
  let v898 : BitVec 32 := Scalar.remsi v897 c16_i32_801
  let c1_i32_804 : BitVec 32 := 1#32
  let v899 : BitVec 32 := Scalar.muli v898 c1_i32_804
  let v900 : BitVec 32 := Scalar.addi c0_i32_805 v899
  v900.toNat
def k0_dev44 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v907 : BitVec 32 := Scalar.addi v2 c10_i32
  let c16_i32_808 : BitVec 32 := 16#32
  let v908 : BitVec 32 := Scalar.remsi v907 c16_i32_808
  let c1_i32_811 : BitVec 32 := 1#32
  let v909 : BitVec 32 := Scalar.muli v908 c1_i32_811
  let v910 : BitVec 32 := Scalar.addi c0_i32_812 v909
  v910.toNat
def k0_dev45 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v917 : BitVec 32 := Scalar.addi v2 c11_i32
  let c16_i32_815 : BitVec 32 := 16#32
  let v918 : BitVec 32 := Scalar.remsi v917 c16_i32_815
  let c1_i32_818 : BitVec 32 := 1#32
  let v919 : BitVec 32 := Scalar.muli v918 c1_i32_818
  let v920 : BitVec 32 := Scalar.addi c0_i32_819 v919
  v920.toNat
def k0_dev46 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v927 : BitVec 32 := Scalar.addi v2 c12_i32
  let c16_i32_822 : BitVec 32 := 16#32
  let v928 : BitVec 32 := Scalar.remsi v927 c16_i32_822
  let c1_i32_825 : BitVec 32 := 1#32
  let v929 : BitVec 32 := Scalar.muli v928 c1_i32_825
  let v930 : BitVec 32 := Scalar.addi c0_i32_826 v929
  v930.toNat
def k0_dev47 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v937 : BitVec 32 := Scalar.addi v2 c13_i32
  let c16_i32_829 : BitVec 32 := 16#32
  let v938 : BitVec 32 := Scalar.remsi v937 c16_i32_829
  let c1_i32_832 : BitVec 32 := 1#32
  let v939 : BitVec 32 := Scalar.muli v938 c1_i32_832
  let v940 : BitVec 32 := Scalar.addi c0_i32_833 v939
  v940.toNat
def k0_dev48 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v947 : BitVec 32 := Scalar.addi v2 c14_i32
  let c16_i32_836 : BitVec 32 := 16#32
  let v948 : BitVec 32 := Scalar.remsi v947 c16_i32_836
  let c1_i32_839 : BitVec 32 := 1#32
  let v949 : BitVec 32 := Scalar.muli v948 c1_i32_839
  let v950 : BitVec 32 := Scalar.addi c0_i32_840 v949
  v950.toNat
def k0_dev49 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v957 : BitVec 32 := Scalar.addi v2 c15_i32
  let c16_i32_843 : BitVec 32 := 16#32
  let v958 : BitVec 32 := Scalar.remsi v957 c16_i32_843
  let c1_i32_846 : BitVec 32 := 1#32
  let v959 : BitVec 32 := Scalar.muli v958 c1_i32_846
  let v960 : BitVec 32 := Scalar.addi c0_i32_847 v959
  v960.toNat
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Table.lean ====
/-
The protocol of the gather-matmul as DATA.

Sixteen devices stand in four planes (`z = c / 4`) of four places (`w = c % 4`). The kernel makes 49 kinds of
payment to other devices, in one program order that is the same on every device up to conditions on `z`: four
entry signals, six steps up and down the planes, the exchanges inside a plane, two relays, eight credits that
return a buffer to its writer, and fifteen rows of maxima. Each is a MESSAGE `μ : Fin 49`: who pays it
(`act`), to whom (`mv`), on which semaphores and in which round of them. The tables below give this as numbers;
everything else is computed from them.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

/-! ## The devices -/

/-- The device `a` planes above `c` and `b` places after it in its plane, both counted round. -/
def sh (a b : ℕ) : Equiv.Perm (Dev nD) where
  toFun c := ⟨4 * ((c.val / 4 + a) % 4) + (c.val % 4 + b) % 4, by show _ < 16; omega⟩
  invFun c := ⟨4 * ((c.val / 4 + (4 - a % 4)) % 4) + (c.val % 4 + (4 - b % 4)) % 4, by show _ < 16; omega⟩
  left_inv c := Fin.ext (by have : c.val < 16 := c.isLt; simp only; omega)
  right_inv c := Fin.ext (by have : c.val < 16 := c.isLt; simp only; omega)

/-- The device `j` after `c` among the sixteen, counted round. -/
def rot (j : ℕ) : Equiv.Perm (Dev nD) where
  toFun c := ⟨(c.val + j) % 16, by show _ < 16; omega⟩
  invFun c := ⟨(c.val + (16 - j % 16)) % 16, by show _ < 16; omega⟩
  left_inv c := Fin.ext (by have : c.val < 16 := c.isLt; simp only; omega)
  right_inv c := Fin.ext (by have : c.val < 16 := c.isLt; simp only; omega)

abbrev nxt : Equiv.Perm (Dev nD) := sh 0 1
abbrev prv : Equiv.Perm (Dev nD) := sh 0 3
abbrev anti : Equiv.Perm (Dev nD) := sh 0 2
abbrev up : Equiv.Perm (Dev nD) := sh 1 0
abbrev dn : Equiv.Perm (Dev nD) := sh 3 0

/-- How many planes up the plane lies whose blocks are exchanged in step `q` by a device of plane `z`. -/
def dz (q z : ℕ) : ℕ := (([[0,0,0,0],[1,3,3,3],[2,1,1,2],[3,2,2,1]].getD q []).getD z 0)
/-- The device of `c`'s place in that plane. -/
def so (q : ℕ) (c : Dev nD) : Dev nD := sh (dz q (c.val / 4)) 0 c

/-- The order in which `c` multiplies the sixteen row blocks. -/
def order (c : Dev nD) : List (Dev nD) :=
  [c, prv (so 0 c), nxt (so 0 c), so 1 c, anti (so 0 c), prv (so 1 c), nxt (so 1 c), so 2 c, anti (so 1 c),
   prv (so 2 c), nxt (so 2 c), so 3 c, anti (so 2 c), prv (so 3 c), nxt (so 3 c), anti (so 3 c)]
/-- Its `n`-th entry. -/
def ord (c : Dev nD) (n : ℕ) : Dev nD := (order c).getD n c

/-! ## The messages -/

/-- To whom message `μ` goes. -/
def mv (μ : Fin 49) : Equiv.Perm (Dev nD) :=
  if 34 ≤ μ.val then rot (μ.val - 33)
  else [nxt, prv, up, dn, up, dn, nxt, prv, nxt, prv, up, dn, nxt, prv, prv, nxt, up, dn, up, dn, nxt, prv,
    prv, nxt, prv, nxt, nxt, prv, nxt, prv, prv, nxt, nxt, prv].getD μ.val nxt

/-- Whether a device of plane `z` pays message `μ`: as the least and one past the greatest such `z`. -/
def act (μ : Fin 49) (c : Dev nD) : Bool :=
  let z := c.val / 4
  match μ.val with
  | 2 | 4 | 16 => decide (z < 3)
  | 3 | 5 => decide (0 < z)
  | 10 => decide (1 ≤ z ∧ z < 3)
  | 11 => decide (z ≤ 2 ∧ 0 < z)
  | 17 => decide (z = 1)
  | 18 => decide (2 ≤ z ∧ z < 3)
  | 19 => decide (z ≤ 1 ∧ 0 < z)
  | _ => true

/-- Whether `c` is paid message `μ`. -/
def ract (μ : Fin 49) (c : Dev nD) : Bool := act μ ((mv μ).symm c)

/-- The messages that are copies (the others are signals). -/
def copy (μ : Fin 49) : Bool := !(decide (μ.val < 4) || decide (μ.val ∈ [14,15,22,23,24,25,30,31]))

/-- The receiver's semaphore, as a number below 62 (`csem`), -/
def rsN (μ : Fin 49) : ℕ :=
  if 34 ≤ μ.val then μ.val + 8
  else [61,61,61,61, 3,9, 16,18, 22,23, 4,10, 17,19, 57,58, 26,26, 5,11, 16,18, 57,58, 59,60, 22,23, 17,19, 59,60, 22,23].getD μ.val 0
/-- the sender's, -/
def ssN (μ : Fin 49) : ℕ :=
  if 34 ≤ μ.val then μ.val - 7
  else [0,0,0,0, 0,6, 12,14, 20,21, 1,7, 13,15, 0,0, 24,25, 2,8, 12,14, 0,0, 0,0, 20,21, 13,15, 0,0, 20,21].getD μ.val 0
/-- and the round of both. -/
def rd (μ : Fin 49) : ℕ :=
  if μ.val ∈ [20,21,28,29,26,27] then 1 else if μ.val ∈ [32,33] then 2 else 0

set_option maxRecDepth 4000 in
/-- The receiver's semaphore is one of 62, -/
theorem rsN_lt : ∀ μ, rsN μ < 62 := by decide +kernel
/-- and so is the sender's. -/
theorem ssN_lt : ∀ μ, ssN μ < 62 := by decide +kernel
def rs (μ : Fin 49) : Fin 62 := ⟨rsN μ, rsN_lt μ⟩
def ss (μ : Fin 49) : Fin 62 := ⟨ssN μ, ssN_lt μ⟩

/-- The region of the receiver that copy `μ` from `c` fills, among its 29: the six slots of the exchange buffers and the
    six of the plane buffers, the two halves of the opposite buffer, the relay buffer, and the sixteen rows of maxima. -/
def kyN (μ : Fin 49) (c : Dev nD) : ℕ :=
  if 34 ≤ μ.val then 13 + c.val
  else [0,0,0,0, 4,7, 0,2, 10,11, 5,8, 1,3, 0,0, 12,12, 6,9, 0,2, 0,0, 0,0, 10,11, 1,3, 0,0, 10,11].getD μ.val 0
/-- The region is one of 29. -/
theorem kyN_lt : ∀ μ c, kyN μ c < 29 := by decide +kernel
def ky (μ : Fin 49) (c : Dev nD) : Fin 29 := ⟨kyN μ c, kyN_lt μ c⟩

/-- Whether region `k` of `c` is ever written. -/
def written (c : Dev nD) (k : Fin 29) : Bool :=
  (List.finRange 49).any fun μ => copy μ && ract μ c && decide (ky μ ((mv μ).symm c) = k)

/-- The index at which message `μ` is owed: its place in the program order, one higher; the entry signals together at 1,
    the two relays together. -/
def ix (μ : Fin 49) : ℕ := if μ.val < 4 then 1 else if μ.val = 16 then 18 else μ.val + 1

/-! ## The duties: a message seen at its receiver (`true`) or at its sender's send semaphore (`false`) -/

abbrev D : Type := Fin 49 × Bool
def dS (d : D) : Fin 62 := if d.2 then rs d.1 else ss d.1
def dix (d : D) : ℕ := if d.2 then ix d.1 else 0
def dAct (d : D) (c : Dev nD) : Bool := if d.2 then ract d.1 c else copy d.1 && act d.1 c
/-- The duties of round `r` of semaphore `k` on device `c`. -/
def dut (c : Dev nD) (k : Fin 62) (r : ℕ) : Finset D :=
  Finset.univ.filter fun d => dS d = k ∧ rd d.1 = r ∧ dAct d c = true

/-! ## The waits, in program order -/

def waits : List D :=
  [(0,true), (6,true), (7,true), (6,false), (7,false), (4,true), (5,true), (8,false), (9,false), (4,false), (5,false),
   (8,true), (9,true), (12,true), (13,true), (12,false), (13,false), (10,true), (11,true), (14,true), (15,true),
   (16,true), (17,true), (16,false), (17,false), (20,true), (21,true), (24,true), (25,true), (20,false), (21,false),
   (18,true), (19,true), (22,true), (23,true), (26,false), (27,false), (26,true), (27,true), (28,true), (29,true),
   (30,true), (31,true), (28,false), (29,false), (32,false), (33,false), (32,true), (33,true), (10,false), (11,false),
   (18,false), (19,false)]
  ++ (List.finRange 15).map (fun i => (⟨i.val + 34, by omega⟩, false))
  ++ (List.finRange 15).map (fun i => (⟨i.val + 34, by omega⟩, true))

/-- At which wait the units of duty `d` are taken: the entry signals all at the first. -/
def wpos (d : D) : ℕ := if d.1.val < 4 then 0 else waits.idxOf d

/-- How many waits of `c` on semaphore `k` are among its first `j`. -/
def cnt (c : Dev nD) (k : Fin 62) (j : ℕ) : ℕ := (waits.take j).countP fun d => decide (dS d = k) && dAct d c

/-! ## The semaphores -/

abbrev barS : Sem sig := (SemArray.scalar (sig.barrier 0 rfl) : Sems sig S_).sem

/-- The kernel's 62 semaphores: 57 DMA semaphores (after the three of the staging buffers), four regular ones, the barrier. -/
def csem (k : Fin 62) : SemLoc sig :=
  if h : k.val < 57 then .dma ⟨k.val + 3, by show _ < 60; omega⟩ else .reg ⟨k.val - 57, by show _ < 5; omega⟩

/-- Different numbers name different semaphores. -/
theorem csem_inj : Function.Injective csem := by
  intro a b h
  revert a b; decide +kernel

/-- Semaphore `k` of device `c`'s core. -/
abbrev kcell (c : Dev nD) (k : Fin 62) : GSem nD τ sig := ((c : Thread nD τ), csem k)

/-! ## The buffers -/

abbrev xM : Memref sig .tc .vmem S256x4096 .f32 := Memref.whole cc0_stg0_0
abbrev wM : Memref sig .tc .vmem S4096x128 .f32 := Memref.whole cc0_stg1_0
abbrev oM : Memref sig .tc .vmem S4096x128 .f32 := Memref.whole cc0_stg2_0
abbrev upM : Memref sig .tc .vmem S3x256x4096 .f32 := Memref.whole cc0_scratch0
abbrev dnM : Memref sig .tc .vmem S3x256x4096 .f32 := Memref.whole cc0_scratch1
abbrev stM : Memref sig .tc .vmem S1x256x4096 .f32 := Memref.whole cc0_scratch2
abbrev fpM : Memref sig .tc .vmem S2x256x4096 .f32 := Memref.whole cc0_scratch3
abbrev fnM : Memref sig .tc .vmem S2x256x4096 .f32 := Memref.whole cc0_scratch4
abbrev anM : Memref sig .tc .vmem S1x256x4096 .f32 := Memref.whole cc0_scratch5
abbrev rzM : Memref sig .tc .vmem S1x256x4096 .f32 := Memref.whole cc0_scratch6
abbrev mxM : Memref sig .tc .vmem S16x128 .f32 := Memref.whole cc0_scratch7

/-- One slot of a buffer of slots, as the program addresses it, -/
abbrev slab {n : ℕ} (M : Memref sig .tc .vmem ⟨3, ![n, 256, 4096]⟩ .f32) (k : ℕ)
    (h : ∀ a, (![k, 0, 0] : Fin 3 → ℕ) a + S1x256x4096.size a ≤ (⟨3, ![n, 256, 4096]⟩ : Shape).size a) :
    Memref sig .tc .vmem S256x4096 .f32 :=
  (M.slice (Rect.unit (s := ⟨3, ![n, 256, 4096]⟩) ![k, 0, 0] S1x256x4096.size h) (fun _ => rfl)).squeeze S256x4096 squeezes_S1x256x4096_S256x4096
/-- and one half of a slot. -/
abbrev half {n : ℕ} (M : Memref sig .tc .vmem ⟨3, ![n, 256, 4096]⟩ .f32) (k o : ℕ)
    (h : ∀ a, (![k, o, 0] : Fin 3 → ℕ) a + S1x128x4096.size a ≤ (⟨3, ![n, 256, 4096]⟩ : Shape).size a) :
    Memref sig .tc .vmem S128x4096 .f32 :=
  (M.slice (Rect.unit (s := ⟨3, ![n, 256, 4096]⟩) ![k, o, 0] S1x128x4096.size h) (fun _ => rfl)).squeeze S128x4096 squeezes_S1x128x4096_S128x4096

/-- Row `d` of the maxima. -/
abbrev rowM (d : Dev nD) : Memref sig .tc .vmem S1x128 .f32 :=
  mxM.slice (Rect.unit (s := S16x128) (k0_off14 d) S1x128.size (k0_off14_inb d)) (fun _ => rfl)

abbrev up0 := slab upM 0 inb_S3x256x4096_S1x256x4096_0_0_0
abbrev up1 := slab upM 1 inb_S3x256x4096_S1x256x4096_1_0_0
abbrev up2 := slab upM 2 inb_S3x256x4096_S1x256x4096_2_0_0
abbrev dn0 := slab dnM 0 inb_S3x256x4096_S1x256x4096_0_0_0
abbrev dn1 := slab dnM 1 inb_S3x256x4096_S1x256x4096_1_0_0
abbrev dn2 := slab dnM 2 inb_S3x256x4096_S1x256x4096_2_0_0
abbrev fp0 := slab fpM 0 inb_S2x256x4096_S1x256x4096_0_0_0
abbrev fp1 := slab fpM 1 inb_S2x256x4096_S1x256x4096_1_0_0
abbrev fn0 := slab fnM 0 inb_S2x256x4096_S1x256x4096_0_0_0
abbrev fn1 := slab fnM 1 inb_S2x256x4096_S1x256x4096_1_0_0
abbrev st := slab stM 0 inb_S1x256x4096_S1x256x4096_0_0_0
abbrev an := slab anM 0 inb_S1x256x4096_S1x256x4096_0_0_0
abbrev rz := slab rzM 0 inb_S1x256x4096_S1x256x4096_0_0_0
abbrev anT := half anM 0 0 inb_S1x256x4096_S1x128x4096_0_0_0
abbrev anB := half anM 0 128 inb_S1x256x4096_S1x128x4096_0_128_0
abbrev fp0T := half fpM 0 0 inb_S2x256x4096_S1x128x4096_0_0_0
abbrev fp1T := half fpM 1 0 inb_S2x256x4096_S1x128x4096_1_0_0
abbrev fn0B := half fnM 0 128 inb_S2x256x4096_S1x128x4096_0_128_0
abbrev fn1B := half fnM 1 128 inb_S2x256x4096_S1x128x4096_1_128_0

end Cert.Gather

end
-- ==== Proof.Proto.lean ====
/-
What the messages of `Table` carry, as a schedule of the rounds library.

Every data message hands its receiver the region it filled, at the contents the sender read, together with the fact
that the device the data came from has offered all its regions to their writers (`RA`): the maxima go to all sixteen
devices, of which only the neighbours were met at entry. A credit hands the writer that a region is free again. At the
sender's own semaphore a copy hands back the share of the source it read. A region a copy fills is taken from the
invariant of Lib/Release.lean, where its owner put it.
-/
module

public import proofs.«01_k».proof.Proof.Table
public import Idealize.ShloMosaic.Lib.Pointwise.Index

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The algebra: the pipeline's rounds, this protocol's rounds, and the regions' releases -/

abbrev UB : Type := URounds (GSem nD τ sig) D
abbrev UK : Type := USlots (Dev nD × Fin 29)
abbrev UU : Type := UR sig nD τ × (UB × UK)

instance instUB : URA UB := inferInstance
instance instKeys : URA (IProdConst (Dev nD × Fin 29) (Auth RSlot)) := inferInstance
instance instToks : URA (ISumConst ((Dev nD × Fin 29) × ℕ) (Excl Unit)) := inferInstance
instance instUK : URA UK := inferInstance
instance instBK : URA (UB × UK) := inferInstance
instance instUU : URA UU := inferInstance

local notation "𝕄" => MT nD τ sig ℕ (Elt F) ℕ UU ℕ

abbrev EP : Emb (UR sig nD τ) (MT nD τ sig ℕ (Elt F) ℕ UU ℕ) := embL
/-- This protocol's rounds inside the whole algebra, -/
def EB : Emb UB (MT nD τ sig ℕ (Elt F) ℕ UU ℕ) := (Emb.inl : Emb UB (UB × UK)).trans embR
/-- and the releases. -/
def EK : Emb UK (MT nD τ sig ℕ (Elt F) ℕ UU ℕ) := (Emb.inr : Emb UK (UB × UK)).trans embR

instance EB_landsIn : (EB : Emb UB 𝕄).LandsIn (upEmb : UEmb _ 𝕄) := by unfold EB; infer_instance
instance EK_landsIn : (EK : Emb UK 𝕄).LandsIn (upEmb : UEmb _ 𝕄) := by unfold EK; infer_instance

/-! ## Contents -/

/-- The rows of a block from row `o` on, 128 of them. -/
def halfOf (o : ℕ) (ho : o ≤ 128) (X : S256x4096.Idx → Elt F .f32) : S128x4096.Idx → Elt F .f32 :=
  fun i => X (ix2 (n0 := 256) (n1 := 4096) ⟨(i 0).val + o, by have : (i 0).val < 128 := (i 0).isLt; omega⟩ (i 1))
abbrev topOf (X : S256x4096.Idx → Elt F .f32) := halfOf 0 (by decide) X
abbrev botOf (X : S256x4096.Idx → Elt F .f32) := halfOf 128 (by decide) X

/-- The device whose block message `μ`, paid by `c`, carries. -/
def org (μ : Fin 49) (c : Dev nD) : Dev nD :=
  match μ.val with
  | 6 | 7 => so 0 c
  | 8 => prv (so 0 c)
  | 9 => nxt (so 0 c)
  | 10 => dn c
  | 11 => up c
  | 12 | 13 => so 1 c
  | 16 | 17 => anti (so 0 c)
  | 18 => dn (dn c)
  | 19 => up (up c)
  | 20 | 21 => so 2 c
  | 26 => prv (so 2 c)
  | 27 => nxt (so 2 c)
  | 28 | 29 => so 3 c
  | 32 => prv (so 3 c)
  | 33 => nxt (so 3 c)
  | _ => c

/-- The share the `j`-th of many concurrent readers holds: half of what the earlier ones left. -/
def shr : ℕ → PosShare TreeShare
  | 0 => fullShare
  | j + 1 => (shr j).right

/-! ## The regions -/

/-- A memref's elements, whole, at some contents. -/
def Slot {s : Shape} (c : Dev nD) (m : Memref sig .tc .vmem s .f32) : sProp 𝕄 :=
  slot (m.view.loc (c : Thread nD τ)) m.view.set

instance Slot_storable {s : Shape} (c : Dev nD) (m : Memref sig .tc .vmem s .f32) :
    BI.Storable (upEmb : UEmb _ 𝕄) (Slot (F := F) c m) := by unfold Slot; infer_instance

/-- Region `k` of device `c`. -/
def reg (c : Dev nD) (k : Fin 29) : sProp 𝕄 :=
  match k with
  | 0 => Slot c fp0 | 1 => Slot c fp1 | 2 => Slot c fn0 | 3 => Slot c fn1
  | 4 => Slot c up0 | 5 => Slot c up1 | 6 => Slot c up2 | 7 => Slot c dn0 | 8 => Slot c dn1 | 9 => Slot c dn2
  | 10 => Slot c anT | 11 => Slot c anB | 12 => Slot c rz
  | ⟨k + 13, h⟩ => Slot c (rowM ⟨k, by show _ < 16; omega⟩)

instance reg_storable (c : Dev nD) (k : Fin 29) : BI.Storable (upEmb : UEmb _ 𝕄) (reg (F := F) c k) := by
  unfold reg; split <;> infer_instance

/-- Device `c` has offered each region that is ever written, once. -/
def RA (c : Dev nD) : sProp 𝕄 :=
  bigSep (Finset.univ.filter fun k => written c k = true) fun k => released EK (c, k) 1

instance RA_persistent (c : Dev nD) : BI.Persistent (RA (F := F) c) := by unfold RA; infer_instance
instance RA_storable (c : Dev nD) : BI.Storable (upEmb : UEmb _ 𝕄) (RA (F := F) c) := by unfold RA; infer_instance

/-! ## Payloads -/

section Payloads

variable (X : Dev nD → S256x4096.Idx → Elt F .f32) (A : Dev nD → F .f32)

/-- A region filled with what device `e` has, and that `e` has offered its regions. -/
def got {s : Shape} (c : Dev nD) (m : Memref sig .tc .vmem s .f32) (Y : s.Idx → Elt F .f32) (e : Dev nD) : sProp 𝕄 :=
  iprop(owns (c : Thread nD τ) m fullShare Y ∗ RA e)

instance got_storable {s : Shape} (c : Dev nD) (m : Memref sig .tc .vmem s .f32) (Y : s.Idx → Elt F .f32) (e : Dev nD) :
    BI.Storable (upEmb : UEmb _ 𝕄) (got (F := F) c m Y e) := by unfold got; infer_instance

/-- Region `k` of `e` is free for write `n`, whose semaphore `q` has reached the round of that write. -/
def free (e : Dev nD) (k : Fin 29) (q : Fin 62) (n : ℕ) : sProp 𝕄 :=
  iprop(released EK (e, k) (n + 1) ∗ reached EB (kcell e q) n)

instance free_storable (e : Dev nD) (k : Fin 29) (q : Fin 62) (n : ℕ) : BI.Storable (upEmb : UEmb _ 𝕄) (free (F := F) e k q n) := by
  unfold free; infer_instance
instance free_persistent (e : Dev nD) (k : Fin 29) (q : Fin 62) (n : ℕ) : BI.Persistent (free (F := F) e k q n) := by
  unfold free; infer_instance

/-- What message `μ` hands its receiver `c`, paid by `s` from what `e` has. -/
def recvBy (μ : Fin 49) (c s e : Dev nD) : sProp 𝕄 :=
  match μ.val with
  | 0 | 1 | 2 | 3 => RA s
  | 4 => got c up0 (X e) e | 5 => got c dn0 (X e) e
  | 6 => got c fp0 (X e) e | 7 => got c fn0 (X e) e
  | 8 => got c anT (topOf (X e)) e | 9 => got c anB (botOf (X e)) e
  | 10 => got c up1 (X e) e | 11 => got c dn1 (X e) e
  | 12 => got c fp1 (X e) e | 13 => got c fn1 (X e) e
  | 14 => free s 0 16 1 | 15 => free s 2 18 1
  | 16 | 17 => got c rz (X e) e
  | 18 => got c up2 (X e) e | 19 => got c dn2 (X e) e
  | 20 => got c fp0 (X e) e | 21 => got c fn0 (X e) e
  | 22 => iprop(free s 0 16 1 ∗ free s 1 17 1) | 23 => iprop(free s 2 18 1 ∗ free s 3 19 1)
  | 24 => free s 10 22 1 | 25 => free s 11 23 1
  | 26 => got c anT (topOf (X e)) e | 27 => got c anB (botOf (X e)) e
  | 28 => got c fp1 (X e) e | 29 => got c fn1 (X e) e
  | 30 => iprop(free s 10 22 1 ∗ free s 10 22 2) | 31 => iprop(free s 11 23 1 ∗ free s 11 23 2)
  | 32 => got c anT (topOf (X e)) e | 33 => got c anB (botOf (X e)) e
  | _ => owns (c : Thread nD τ) (rowM s) fullShare (k0_pay45 (A s))

/-- What message `μ` hands its receiver `c`. -/
def recvPay (μ : Fin 49) (c : Dev nD) : sProp 𝕄 := recvBy X A μ c ((mv μ).symm c) (org μ ((mv μ).symm c))

/-- A share of a memref at what `e` has. -/
abbrev part {s : Shape} (c : Dev nD) (m : Memref sig .tc .vmem s .f32) (q : PosShare TreeShare) (Y : s.Idx → Elt F .f32) : sProp 𝕄 :=
  owns (c : Thread nD τ) m q Y

/-- What copy `μ` of `c`, of what `e` has, hands back to `c` when it has read its source. -/
def sendBy (μ : Fin 49) (c e : Dev nD) : sProp 𝕄 :=
  match μ.val with
  | 4 => part c xM fullShare.left (X e) | 5 => part c xM fullShare.right.left (X e)
  | 6 | 12 | 20 | 28 => part c st fullShare.left (X e)
  | 7 | 13 | 21 | 29 => part c st fullShare.right.left (X e)
  | 8 | 26 => part c fp0T fullShare.left (topOf (X e)) | 32 => part c fp1T fullShare.left (topOf (X e))
  | 9 | 27 => part c fn0B fullShare.left (botOf (X e)) | 33 => part c fn1B fullShare.left (botOf (X e))
  | 10 => part c up0 fullShare.left (X e) | 11 => part c dn0 fullShare.left (X e)
  | 18 => part c up1 fullShare.left (X e) | 19 => part c dn1 fullShare.left (X e)
  | 16 => part c an fullShare.left (X e) | 17 => part c an fullShare.right.left (X e)
  | 0 | 1 | 2 | 3 | 14 | 15 | 22 | 23 | 24 | 25 | 30 | 31 => iprop(emp)
  | k => part c (rowM c) (shr (k - 34)).left (k0_pay45 (A c))

/-- What copy `μ` of `c` hands back to `c`. -/
def sendPay (μ : Fin 49) (c : Dev nD) : sProp 𝕄 := sendBy X A μ c (org μ c)

instance recvPay_storable (μ : Fin 49) (c : Dev nD) : BI.Storable (upEmb : UEmb _ 𝕄) (recvPay (F := F) X A μ c) := by
  unfold recvPay recvBy; split <;> infer_instance
instance sendPay_storable (μ : Fin 49) (c : Dev nD) : BI.Storable (upEmb : UEmb _ 𝕄) (sendPay (F := F) X A μ c) := by
  unfold sendPay sendBy; split <;> infer_instance

/-! ## The schedule -/

abbrev NF : ℕ := (fp0 : Memref sig .tc .vmem S256x4096 .f32).view.dmaCredit
abbrev NH : ℕ := (anT : Memref sig .tc .vmem S128x4096 .f32).view.dmaCredit
abbrev NR : ℕ := (rowM (0 : Dev nD) : Memref sig .tc .vmem S1x128 .f32).view.dmaCredit

/-- The units of message `μ`: a signal's one, or the credit of the copied memref's shape. -/
def amt (μ : Fin 49) : ℕ :=
  if copy μ then (if 34 ≤ μ.val then NR else if μ.val ∈ [8,9,26,27,32,33] then NH else NF) else 1

/-- Every message is of at least one unit. -/
theorem amt_pos (μ : Fin 49) : 0 < amt μ := by
  unfold amt
  split
  · split
    · exact View.dmaCredit_pos _ (by decide)
    · split
      · exact View.dmaCredit_pos _ (by decide)
      · exact View.dmaCredit_pos _ (by decide)
  · exact Nat.one_pos

/-- The protocol as a schedule: the duties of a semaphore's round are the table's, a duty hands over its message's
    payload at the receiver or at the sender. -/
def Rd : Rounds.Schedule (GSem nD τ sig) D 𝕄 where
  duties g r := if g.1.2 = .tc then Finset.univ.filter (fun d => csem (dS d) = g.2 ∧ rd d.1 = r ∧ dAct d g.1.1 = true) else ∅
  unitless _ := False
  amount _ _ d := amt d.1
  payload g _ d := if d.2 = true then recvPay X A d.1 g.1.1 else sendPay X A d.1 g.1.1
  amount_pos _ _ d _ := amt_pos d.1

instance Rd_payload_storable (g : GSem nD τ sig) (r : ℕ) (d : D) :
    BI.Storable (upEmb : UEmb _ 𝕄) ((Rd (F := F) X A).payload g r d) := by
  show BI.Storable upEmb (if d.2 = true then recvPay X A d.1 g.1.1 else sendPay X A d.1 g.1.1)
  split <;> infer_instance

/-- The schedule's duties at a device's semaphore are those of the tables. -/
theorem duties_kcell (c : Dev nD) (k : Fin 62) (r : ℕ) : (Rd (F := F) X A).duties (kcell c k) r = dut c k r := by
  dsimp only [Rd]
  rw [if_pos rfl]
  unfold dut
  refine Finset.filter_congr fun d _ => ?_
  simp only [csem_inj.eq_iff]

end Payloads

/-! ## Facts of the tables -/

/-- A DMA semaphore's round has one duty. -/
theorem dut_single (d : D) (c : Dev nD) (h : dAct d c = true) (hk : (dS d).val < 57) : dut c (dS d) (rd d.1) = {d} := by
  have key : ∀ d d' : D, dS d = dS d' → rd d.1 = rd d'.1 → (dS d).val < 57 → d = d' ∨ (d.2 = false ∧ copy d.1 = false)
      ∨ (d'.2 = false ∧ copy d'.1 = false) ∨ (d = (16, true) ∧ d' = (17, true)) ∨ (d = (17, true) ∧ d' = (16, true)) := by decide +kernel
  have key2 : ∀ c, ¬ (dAct (16, true) c = true ∧ dAct (17, true) c = true) := by decide +kernel
  ext d'
  simp only [dut, Finset.mem_filter, Finset.mem_univ, true_and, Finset.mem_singleton]
  constructor
  · rintro ⟨h1, h2, h3⟩
    rcases key d' d h1 h2 (h1 ▸ hk) with e | ⟨e1, e2⟩ | ⟨e1, e2⟩ | ⟨rfl, rfl⟩ | ⟨rfl, rfl⟩
    · exact e
    · simp [dAct, e1, e2] at h3
    · simp [dAct, e1, e2] at h
    · exact absurd ⟨h3, h⟩ (key2 c)
    · exact absurd ⟨h, h3⟩ (key2 c)
  · rintro rfl; exact ⟨rfl, rfl, h⟩

end Cert.Gather

end
-- ==== Proof.Mem.lean ====
/-
The buffers: a slot as two halves, a buffer as its slots or its rows, and the loads and stores of the kernel.

Everything goes through one assertion, `ownsOn`: the elements of a memref at a SET of its indices, read as `X` there.
A slot, a half of a slot and a row are such sets of their buffer's indices.
-/
module

public import proofs.«01_k».proof.Proof.Proto
public import Idealize.ShloMosaic.Lib.MemrefSat
public import Idealize.ShloMosaic.Lib.ValueLayout
public import Idealize.ShloMosaic.Lib.ViewIndex
public import Idealize.ShloMosaic.Lib.Pointwise.Reshape

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- A big conjunction over one more member. -/
theorem sep_insert {I : Type} [DecidableEq I] {i : I} {s : Finset I} (h : i ∉ s) {Φ : I → sProp 𝕄} :
    bigSep (insert i s) Φ = iprop(Φ i ∗ bigSep s Φ) := BI.bigSep_insert h

/-! ## Elements at a set of indices -/

/-- Core `c` owns the elements of `M` at the indices `I`, and reads `X` there. -/
def ownsOn (c : Dev nD) {sp : Space} {s : Shape} {e : EltTy} (M : Memref sig .tc sp s e) (q : PosShare TreeShare)
    (I : Finset s.Idx) (X : s.Idx → Elt F e) : sProp 𝕄 :=
  iprop(∃ f, ⌜∀ x ∈ I, M.view.read (Elt F) f x = X x⌝ ∗ (M.view.loc (c : Thread nD τ) ↦[M.view.setOn I]{q} f))

section OwnsOn

variable (c : Dev nD) {sp : Space} {s s' : Shape} {e : EltTy} (M : Memref sig .tc sp s e) (q : PosShare TreeShare)

/-- All indices: the memref itself. -/
theorem ownsOn_univ (X : s.Idx → Elt F e) : (ownsOn c M q Finset.univ X : sProp 𝕄) ⊣⊢ owns (c : Thread nD τ) M q X := by
  unfold ownsOn owns
  constructor
  · iintro ⟨%f, %h, H⟩; iexists f
    isplitr; · ipureintro; exact funext fun x => h x (Finset.mem_univ x)
    iexact H
  · iintro ⟨%f, %h, H⟩; iexists f
    isplitr; · ipureintro; exact fun x _ => congrFun h x
    iexact H

/-- What `X` is elsewhere does not matter. -/
theorem ownsOn_congr {I : Finset s.Idx} {X Y : s.Idx → Elt F e} (h : ∀ x ∈ I, X x = Y x) :
    (ownsOn c M q I X : sProp 𝕄) ⊢ ownsOn c M q I Y := by
  unfold ownsOn
  iintro ⟨%f, %hf, H⟩; iexists f
  isplitr; · ipureintro; exact fun x hx => (hf x hx).trans (h x hx)
  iexact H

/-- The elements at indices of two kinds are those at each, -/
theorem setOn_union (I J : Finset s.Idx) : M.view.setOn (I ∪ J) = M.view.setOn I ∪ M.view.setOn J := Finset.map_union _ _
/-- and they are apart when the indices are. -/
theorem setOn_disjoint {I J : Finset s.Idx} (h : Disjoint I J) : Disjoint (M.view.setOn I) (M.view.setOn J) :=
  (Finset.disjoint_map _).mpr h

/-- Disjoint sets of indices are held side by side. -/
theorem ownsOn_union {I J : Finset s.Idx} (h : Disjoint I J) (X : s.Idx → Elt F e) :
    (ownsOn c M q (I ∪ J) X : sProp 𝕄) ⊣⊢ iprop(ownsOn c M q I X ∗ ownsOn c M q J X) := by
  unfold ownsOn
  constructor
  · iintro ⟨%f, %hf, H⟩
    rw [setOn_union]
    ihave H' := (pointsTo_union (setOn_disjoint M h)).1 $$ H
    icases H' with ⟨H1, H2⟩
    isplitl [H1]
    · iexists f; isplitr; · ipureintro; exact fun x hx => hf x (Finset.mem_union_left _ hx)
      iexact H1
    · iexists f; isplitr; · ipureintro; exact fun x hx => hf x (Finset.mem_union_right _ hx)
      iexact H2
  · iintro ⟨⟨%f, %hf, H1⟩, ⟨%g, %hg, H2⟩⟩
    ihave H := (pointsTo_join (ℓ := M.view.loc (c : Thread nD τ)) (q := q) (f := f) (g := g) (setOn_disjoint M h)) $$ [H1 H2]
    · isplitl [H1]; · iexact H1
      iexact H2
    iexists ((M.view.setOn J).piecewise g f)
    isplitr
    · ipureintro
      intro x hx
      rcases Finset.mem_union.mp hx with h1 | h1
      · rw [View.read_apply, Finset.piecewise_eq_of_notMem _ _ _ (fun hm => Finset.disjoint_left.mp h h1 ((View.mem_setOn _).mp hm))]
        exact hf x h1
      · rw [View.read_apply, Finset.piecewise_eq_of_mem _ _ _ ((View.mem_setOn _).mpr h1)]
        exact hg x h1
    rw [setOn_union]; iexact H

/-- A family of pairwise disjoint sets. -/
theorem ownsOn_family {T : Type} [Fintype T] [DecidableEq T] [Nonempty T] (K : T → Finset s.Idx) (hK : ∀ t t', t ≠ t' → Disjoint (K t) (K t'))
    (X : s.Idx → Elt F e) :
    (ownsOn c M q (Finset.univ.biUnion K) X : sProp 𝕄) ⊣⊢ bigSep Finset.univ fun t => ownsOn c M q (K t) X := by
  have key : ∀ S : Finset T, S.Nonempty → ((ownsOn c M q (S.biUnion K) X : sProp 𝕄) ⊣⊢ bigSep S fun t => ownsOn c M q (K t) X) := by
    intro S hS
    induction hS using Finset.Nonempty.cons_induction with
    | singleton a => rw [Finset.singleton_biUnion, BI.bigSep_singleton]
    | cons a S ha hS ih =>
      rw [Finset.cons_eq_insert, Finset.biUnion_insert, sep_insert ha]
      have hd : Disjoint (K a) (S.biUnion K) := by
        rw [Finset.disjoint_biUnion_right]
        exact fun t ht => hK a t (fun e => ha (e ▸ ht))
      constructor
      · exact (ownsOn_union c M q hd X).1.trans (sep_mono_right ih.1)
      · exact (sep_mono_right ih.2).trans (ownsOn_union c M q hd X).2
  exact key _ Finset.univ_nonempty

variable {q}

/-- A squeezed slice is its rectangle's indices. -/
theorem owns_squeeze (r : Rect s) (hr : ∀ a, r.stride a = 1) (hq : r.shape.Squeezes s') (Y : s'.Idx → Elt F e) (X : s.Idx → Elt F e)
    (hX : ∀ x : s'.Idx, X (r.emb (Shape.reshapeEquiv hq.numel_eq x)) = Y x) :
    (owns (c : Thread nD τ) ((M.slice r hr).squeeze s' hq) q Y : sProp 𝕄)
      ⊣⊢ ownsOn c M q (Finset.univ.map ((Shape.reshapeEquiv hq.numel_eq).toEmbedding.trans r.emb)) X := by
  have hset : ((M.slice r hr).squeeze s' hq).view.set = M.view.setOn (Finset.univ.map ((Shape.reshapeEquiv hq.numel_eq).toEmbedding.trans r.emb)) := by
    show Finset.univ.map _ = Finset.map _ (Finset.univ.map _)
    rw [Finset.map_map]; rfl
  unfold owns ownsOn
  rw [hset]
  constructor
  · iintro ⟨%f, %hf, H⟩; iexists f
    isplitr
    · ipureintro
      intro x hx
      obtain ⟨z, -, rfl⟩ := Finset.mem_map.mp hx
      exact (congrFun hf z).trans (hX z).symm
    iexact H
  · iintro ⟨%f, %hf, H⟩; iexists f
    isplitr
    · ipureintro
      exact funext fun z => (hf _ (Finset.mem_map_of_mem _ (Finset.mem_univ z))).trans (hX z)
    iexact H

/-- A slice is its rectangle's indices. -/
theorem owns_slice_on (r : Rect s) (hr : ∀ a, r.stride a = 1) (Y : r.shape.Idx → Elt F e) (X : s.Idx → Elt F e)
    (hX : ∀ x, X (r.emb x) = Y x) :
    (owns (c : Thread nD τ) (M.slice r hr) q Y : sProp 𝕄) ⊣⊢ ownsOn c M q (Finset.univ.map r.emb) X := by
  have hset : (M.slice r hr).view.set = M.view.setOn (Finset.univ.map r.emb) := by
    show Finset.univ.map _ = Finset.map _ (Finset.univ.map _)
    rw [Finset.map_map]
  unfold owns ownsOn
  rw [hset]
  constructor
  · iintro ⟨%f, %hf, H⟩; iexists f
    isplitr
    · ipureintro
      intro x hx
      obtain ⟨z, -, rfl⟩ := Finset.mem_map.mp hx
      exact (congrFun hf z).trans (hX z).symm
    iexact H
  · iintro ⟨%f, %hf, H⟩; iexists f
    isplitr
    · ipureintro
      exact funext fun z => (hf _ (Finset.mem_map_of_mem _ (Finset.mem_univ z))).trans (hX z)
    iexact H

end OwnsOn

/-! ## Slots of unknown contents -/

/-- A memref held whole at known contents is held at some, -/
theorem owns_Slot {s : Shape} (c : Dev nD) (m : Memref sig .tc .vmem s .f32) (Y : s.Idx → Elt F .f32) :
    (owns (c : Thread nD τ) m fullShare Y : sProp 𝕄) ⊢ Slot c m := by
  unfold owns Slot slot
  iintro ⟨%f, -, H⟩; iexists f; iexact H

/-- and the other way round. -/
theorem Slot_owns {s : Shape} (c : Dev nD) (m : Memref sig .tc .vmem s .f32) :
    (Slot c m : sProp 𝕄) ⊢ iprop(∃ Y, owns (c : Thread nD τ) m fullShare Y) := by
  unfold owns Slot slot
  iintro ⟨%f, H⟩; iexists _; iexists f
  isplitr; · (ipureintro; rfl)
  iexact H

/-! ## Slots and their halves -/

section Slabs

variable {n : ℕ} (M : Memref sig .tc .vmem ⟨3, ![n, 256, 4096]⟩ .f32)

/-- The indices of slot `k`, -/
def slabI (n k : ℕ) : Finset (⟨3, ![n, 256, 4096]⟩ : Shape).Idx := Finset.univ.filter fun y => (y 0).val = k
/-- and of the 128 rows of it from row `o` on. -/
def halfI (n k o : ℕ) : Finset (⟨3, ![n, 256, 4096]⟩ : Shape).Idx :=
  Finset.univ.filter fun y => (y 0).val = k ∧ o ≤ (y 1).val ∧ (y 1).val < o + 128

/-- A block's contents as contents of every slot. -/
def spread (n : ℕ) (Y : S256x4096.Idx → Elt F .f32) : (⟨3, ![n, 256, 4096]⟩ : Shape).Idx → Elt F .f32 :=
  fun y => Y (ix2 (n0 := 256) (n1 := 4096) (y 1) (y 2))

/-- An index of slot `k` in the buffer of slots. -/
theorem slab_emb (k : ℕ) (h) (x : S256x4096.Idx) :
    (Rect.unit (s := ⟨3, ![n, 256, 4096]⟩) ![k, 0, 0] S1x256x4096.size h).emb
        (Shape.reshapeEquiv squeezes_S1x256x4096_S256x4096.numel_eq x)
      = ix3 (n0 := n) (n1 := 256) (n2 := 4096) ⟨k, by have := h 0; simp at this; omega⟩ (x 0) (x 1) := by
  rw [Shape.reshapeEquiv_cons_one (n := 2) (d := ![256, 4096])]
  refine Shape.idx3_ext ?_ ?_ ?_
  · show k + 1 * 0 = k; omega
  · show 0 + 1 * (x 0).val = _; simp
  · show 0 + 1 * (x 1).val = _; simp

/-- An index of half of a slot in the buffer of slots. -/
theorem half_emb (k o : ℕ) (ho : o ≤ 128) (h) (x : S128x4096.Idx) :
    (Rect.unit (s := ⟨3, ![n, 256, 4096]⟩) ![k, o, 0] S1x128x4096.size h).emb
        (Shape.reshapeEquiv squeezes_S1x128x4096_S128x4096.numel_eq x)
      = ix3 (n0 := n) (n1 := 256) (n2 := 4096) ⟨k, by have := h 0; simp at this; omega⟩
          ⟨(x 0).val + o, by have : (x 0).val < 128 := (x 0).isLt; omega⟩ (x 1) := by
  rw [Shape.reshapeEquiv_cons_one (n := 2) (d := ![128, 4096])]
  refine Shape.idx3_ext ?_ ?_ ?_
  · show k + 1 * 0 = k; omega
  · show o + 1 * (x 0).val = (x 0).val + o; omega
  · show 0 + 1 * (x 1).val = _; simp

/-- To hold a slot is to hold the buffer's elements at its indices, -/
theorem owns_slab (c : Dev nD) (k : ℕ) (h) (q : PosShare TreeShare) (Y : S256x4096.Idx → Elt F .f32) :
    (owns (c : Thread nD τ) (slab M k h) q Y : sProp 𝕄) ⊣⊢ ownsOn c M q (slabI n k) (spread n Y) := by
  have hI : slabI n k = Finset.univ.map ((Shape.reshapeEquiv squeezes_S1x256x4096_S256x4096.numel_eq).toEmbedding.trans
      (Rect.unit (s := ⟨3, ![n, 256, 4096]⟩) ![k, 0, 0] S1x256x4096.size h).emb) := by
    ext y
    simp only [slabI, Finset.mem_filter, Finset.mem_univ, true_and, Finset.mem_map, Function.Embedding.trans_apply, Equiv.coe_toEmbedding]
    constructor
    · intro hy
      refine ⟨ix2 (n0 := 256) (n1 := 4096) (y 1) (y 2), (slab_emb k h _).trans ?_⟩
      exact Shape.idx3_ext hy.symm rfl rfl
    · rintro ⟨x, rfl⟩
      rw [slab_emb]; rfl
  rw [hI]
  refine owns_squeeze c M _ (fun _ => rfl) squeezes_S1x256x4096_S256x4096 Y (spread n Y) fun x => ?_
  rw [slab_emb]
  exact congrArg Y (ix2_eta x)

/-- and to hold half of a slot, at those of the half. -/
theorem owns_half (c : Dev nD) (k o : ℕ) (ho : o ≤ 128) (h) (q : PosShare TreeShare) (Y : S256x4096.Idx → Elt F .f32) :
    (owns (c : Thread nD τ) (half M k o h) q (halfOf o ho Y) : sProp 𝕄) ⊣⊢ ownsOn c M q (halfI n k o) (spread n Y) := by
  have hI : halfI n k o = Finset.univ.map ((Shape.reshapeEquiv squeezes_S1x128x4096_S128x4096.numel_eq).toEmbedding.trans
      (Rect.unit (s := ⟨3, ![n, 256, 4096]⟩) ![k, o, 0] S1x128x4096.size h).emb) := by
    ext y
    simp only [halfI, Finset.mem_filter, Finset.mem_univ, true_and, Finset.mem_map, Function.Embedding.trans_apply, Equiv.coe_toEmbedding]
    constructor
    · rintro ⟨hy, h1, h2⟩
      refine ⟨ix2 (n0 := 128) (n1 := 4096) ⟨(y 1).val - o, by omega⟩ (y 2), (half_emb k o ho h _).trans ?_⟩
      refine Shape.idx3_ext hy.symm ?_ rfl
      show (y 1).val - o + o = (y 1).val
      omega
    · rintro ⟨x, rfl⟩
      rw [half_emb k o ho]
      have : (x 0).val < 128 := (x 0).isLt
      refine ⟨rfl, ?_, ?_⟩
      · show o ≤ (x 0).val + o; omega
      · show (x 0).val + o < o + 128; omega
  rw [hI]
  refine owns_squeeze c M _ (fun _ => rfl) squeezes_S1x128x4096_S128x4096 (halfOf o ho Y) (spread n Y) fun x => ?_
  rw [half_emb k o ho]
  rfl

/-- A slot is its upper and its lower half. -/
theorem owns_halved (c : Dev nD) (k : ℕ) (h h1 h2) (q : PosShare TreeShare) (Y : S256x4096.Idx → Elt F .f32) :
    (owns (c : Thread nD τ) (slab M k h) q Y : sProp 𝕄)
      ⊣⊢ iprop(owns (c : Thread nD τ) (half M k 0 h1) q (topOf Y) ∗ owns (c : Thread nD τ) (half M k 128 h2) q (botOf Y)) := by
  have hI : slabI n k = halfI n k 0 ∪ halfI n k 128 := by
    ext y
    have : (y 1).val < 256 := (y 1).isLt
    simp only [slabI, halfI, Finset.mem_union, Finset.mem_filter, Finset.mem_univ, true_and]
    omega
  have hd : Disjoint (halfI n k 0) (halfI n k 128) := by
    rw [Finset.disjoint_left]
    intro y
    simp only [halfI, Finset.mem_filter, Finset.mem_univ, true_and]
    omega
  have e := ownsOn_union (F := F) c M q hd (spread n Y)
  rw [← hI] at e
  constructor
  · exact (owns_slab M c k h q Y).1.trans (e.1.trans (BIClass.sep_mono (owns_half M c k 0 (by decide) h1 q Y).2 (owns_half M c k 128 (by decide) h2 q Y).2))
  · exact (BIClass.sep_mono (owns_half M c k 0 (by decide) h1 q Y).1 (owns_half M c k 128 (by decide) h2 q Y).1).trans (e.2.trans (owns_slab M c k h q Y).2)

/-- Both halves of a block determine it. -/
def glue (T B : S128x4096.Idx → Elt F .f32) : S256x4096.Idx → Elt F .f32 := fun x =>
  if h : (x 0).val < 128 then T (ix2 (n0 := 128) (n1 := 4096) ⟨(x 0).val, h⟩ (x 1))
  else B (ix2 (n0 := 128) (n1 := 4096) ⟨(x 0).val - 128, by have : (x 0).val < 256 := (x 0).isLt; omega⟩ (x 1))

/-- The upper half of two halves put together, -/
theorem topOf_glue (T B : S128x4096.Idx → Elt F .f32) : topOf (glue T B) = T := by
  funext x
  have hx : (x 0).val < 128 := (x 0).isLt
  unfold topOf halfOf glue
  exact (dif_pos (show (x 0).val + 0 < 128 from hx)).trans (congrArg T (ix2_eta x))
/-- and the lower. -/
theorem botOf_glue (T B : S128x4096.Idx → Elt F .f32) : botOf (glue T B) = B := by
  funext x
  unfold botOf halfOf glue
  refine (dif_neg (show ¬ (x 0).val + 128 < 128 by omega)).trans (congrArg B (Eq.trans ?_ (ix2_eta x)))
  exact congrArg₂ ix2 (Fin.ext (show (x 0).val + 128 - 128 = (x 0).val by omega)) rfl

/-- A slot is its two halves. -/
theorem Slot_halved (c : Dev nD) (k : ℕ) (h h1 h2) :
    (Slot c (slab M k h) : sProp 𝕄) ⊣⊢ iprop(Slot c (half M k 0 h1) ∗ Slot c (half M k 128 h2)) := by
  constructor
  · iintro H
    ihave H := (Slot_owns c _) $$ H
    icases H with ⟨%Y, H⟩
    ihave H := (owns_halved M c k h h1 h2 fullShare Y).1 $$ H
    icases H with ⟨H1, H2⟩
    isplitl [H1]
    · iapply (owns_Slot c _ _); iexact H1
    · iapply (owns_Slot c _ _); iexact H2
  · iintro ⟨H1, H2⟩
    ihave H1 := (Slot_owns c _) $$ H1
    ihave H2 := (Slot_owns c _) $$ H2
    icases H1 with ⟨%T, H1⟩
    icases H2 with ⟨%B, H2⟩
    iapply (owns_Slot c _ (glue T B))
    iapply (owns_halved M c k h h1 h2 fullShare (glue T B)).2
    rw [topOf_glue, botOf_glue]
    isplitl [H1]; · iexact H1
    iexact H2

/-- A buffer is its slots. -/
theorem ownsOn_slabs [NeZero n] (c : Dev nD) (q : PosShare TreeShare) (X : (⟨3, ![n, 256, 4096]⟩ : Shape).Idx → Elt F .f32) :
    (owns (c : Thread nD τ) M q X : sProp 𝕄) ⊣⊢ bigSep (Finset.univ : Finset (Fin n)) fun k => ownsOn c M q (slabI n k.val) X := by
  have hu : (Finset.univ : Finset (⟨3, ![n, 256, 4096]⟩ : Shape).Idx) = (Finset.univ : Finset (Fin n)).biUnion fun k => slabI n k.val := by
    ext y
    simp only [Finset.mem_univ, Finset.mem_biUnion, slabI, Finset.mem_filter, true_and, true_iff]
    exact ⟨y 0, rfl⟩
  have hd : ∀ t t' : Fin n, t ≠ t' → Disjoint (slabI n t.val) (slabI n t'.val) := by
    intro t t' h
    rw [Finset.disjoint_left]
    intro y
    simp only [slabI, Finset.mem_filter, Finset.mem_univ, true_and]
    exact fun h1 h2 => h (Fin.ext (h1.symm.trans h2))
  have e := ownsOn_family (F := F) c M q (fun k : Fin n => slabI n k.val) hd X
  rw [← hu] at e
  exact ⟨(ownsOn_univ c M q X).2.trans e.1, e.2.trans (ownsOn_univ c M q X).1⟩

end Slabs

/-! ## Rows of the maxima and the rows of the output -/

/-- The indices of `m` whole rows from row `o` on. -/
def rowsI (n w o m : ℕ) : Finset (⟨2, ![n, w]⟩ : Shape).Idx := Finset.univ.filter fun y => o ≤ (y 0).val ∧ (y 0).val < o + m

/-- A row of maxima is at its device's number, -/
theorem off14_eq : ∀ d : Dev nD, k0_off14 d = ![d.val, 0] := by decide +kernel
/-- where the kernel writes its own and where it sends it. -/
theorem off13_eq : ∀ d : Dev nD, k0_off13 d = k0_off14 d := by decide +kernel

/-- An index of device `d`'s row in the table of maxima. -/
theorem row_emb (d : Dev nD) (x : S1x128.Idx) :
    (Rect.unit (s := S16x128) (k0_off14 d) S1x128.size (k0_off14_inb d)).emb x = ix2 (n0 := 16) (n1 := 128) d (x 1) := by
  have h0 : (x 0).val < 1 := (x 0).isLt
  funext a
  match a with
  | ⟨0, _⟩ =>
    refine Fin.ext ?_
    show k0_off14 d 0 + 1 * (x 0).val = d.val
    rw [off14_eq]; show d.val + _ = _; omega
  | ⟨1, _⟩ =>
    refine Fin.ext ?_
    show k0_off14 d 1 + 1 * (x 1).val = (x 1).val
    rw [off14_eq]; show 0 + _ = _; omega

/-- The indices of device `d`'s row. -/
theorem rowsI_eq (d : Dev nD) : rowsI 16 128 d.val 1 = Finset.univ.map (Rect.unit (s := S16x128) (k0_off14 d) S1x128.size (k0_off14_inb d)).emb := by
  ext y
  simp only [rowsI, Finset.mem_filter, Finset.mem_univ, true_and, Finset.mem_map]
  constructor
  · rintro ⟨h1, h2⟩
    refine ⟨ix2 (n0 := 1) (n1 := 128) 0 (y 1), (row_emb d _).trans ?_⟩
    refine Eq.trans ?_ (ix2_eta y)
    exact congrArg₂ ix2 (Fin.ext (by omega)) rfl
  · rintro ⟨x, rfl⟩
    rw [row_emb d]
    exact ⟨le_rfl, Nat.lt_succ_self _⟩

/-- To hold a row filled with one number is to hold the table's elements at its indices. -/
theorem owns_row (c d : Dev nD) (q : PosShare TreeShare) (a : F .f32) (X : S16x128.Idx → Elt F .f32) (hX : ∀ j, X (ix2 (n0 := 16) (n1 := 128) d j) = a) :
    (owns (c : Thread nD τ) (rowM d) q (k0_pay45 a) : sProp 𝕄) ⊣⊢ ownsOn c mxM q (rowsI 16 128 d.val 1) X := by
  have hI := rowsI_eq d
  rw [hI]
  refine owns_slice_on c mxM _ (fun _ => rfl) _ X fun x => ?_
  rw [row_emb]
  exact hX _

/-- The maxima's buffer is its sixteen rows. -/
theorem owns_rows (c : Dev nD) (q : PosShare TreeShare) (X : S16x128.Idx → Elt F .f32) :
    (owns (c : Thread nD τ) mxM q X : sProp 𝕄) ⊣⊢ bigSep (Finset.univ : Finset (Dev nD)) fun d => ownsOn c mxM q (rowsI 16 128 d.val 1) X := by
  have hu : (Finset.univ : Finset S16x128.Idx) = (Finset.univ : Finset (Dev nD)).biUnion fun d => rowsI 16 128 d.val 1 := by
    ext y
    simp only [Finset.mem_univ, Finset.mem_biUnion, rowsI, Finset.mem_filter, true_and, true_iff]
    exact ⟨⟨(y 0).val, (y 0).isLt⟩, le_rfl, Nat.lt_succ_self _⟩
  have hd : ∀ t t' : Dev nD, t ≠ t' → Disjoint (rowsI 16 128 t.val 1) (rowsI 16 128 t'.val 1) := by
    intro t t' h
    rw [Finset.disjoint_left]
    intro y
    simp only [rowsI, Finset.mem_filter, Finset.mem_univ, true_and]
    exact fun h1 h2 => h (Fin.ext (by omega))
  have e := ownsOn_family (F := F) c mxM q (fun d : Dev nD => rowsI 16 128 d.val 1) hd X
  rw [← hu] at e
  exact ⟨(ownsOn_univ c mxM q X).2.trans e.1, e.2.trans (ownsOn_univ c mxM q X).1⟩

/-- A row of unknown contents, as indices of the buffer. -/
theorem Slot_row (c d : Dev nD) : (Slot c (rowM d) : sProp 𝕄) ⊣⊢ iprop(∃ X, ownsOn c mxM fullShare (rowsI 16 128 d.val 1) X) := by
  have hI := rowsI_eq d
  have hset : (rowM d).view.set = mxM.view.setOn (rowsI 16 128 d.val 1) := by
    rw [hI]
    show Finset.univ.map _ = Finset.map _ (Finset.univ.map _)
    rw [Finset.map_map]
  unfold Slot slot ownsOn
  rw [hset]
  constructor
  · iintro ⟨%f, H⟩; iexists _; iexists f
    isplitr
    · ipureintro; exact fun x _ => rfl
    iexact H
  · iintro ⟨%X, %f, -, H⟩; iexists f; iexact H

/-! ## Loads and stores -/

abbrev 𝒱₀ : Variants := Variants.none

/-- What a program run by core `c` must be given so that `Q` holds at its end. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A block read back through its one-slot shape. -/
theorem cast_back (v : S1x256x4096.Idx → Elt F .f32) :
    v = shapeCast S1x256x4096 (shapeCast S256x4096 v shapeCasts_S1x256x4096_S256x4096) shapeCasts_S256x4096_S1x256x4096 :=
  ((shapeCast_comp _ _ _).trans (shapeCast_id _ _)).symm
/-- Reading a block as one layer and back changes nothing. -/
theorem cast_forth (v : S256x4096.Idx → Elt F .f32) :
    shapeCast S256x4096 (shapeCast S1x256x4096 v shapeCasts_S256x4096_S1x256x4096) shapeCasts_S1x256x4096_S256x4096 = v :=
  (shapeCast_comp _ _ _).trans (shapeCast_id _ _)

section LoadStore

variable (c : Dev nD)

/-- Loading through a squeezed slice's rectangle. -/
theorem wp_load_squeeze {α : Type} {Q : α → sProp 𝕄} {s s' : Shape} (M : Memref sig .tc .vmem s .f32) (r : Rect s) (hr : ∀ a, r.stride a = 1) (hq : r.shape.Squeezes s')
    (hc : s'.ShapeCasts r.shape) (hc' : r.shape.ShapeCasts s') {q : PosShare TreeShare} {Y : s'.Idx → Elt F .f32}
    {hl : M.view.LoadsAt r.toLoadRect} {K : (r.shape.Idx → Elt F .f32) → Prog (TpuEff nD τ sig (Elt F) Λ₀ .tc) α} :
    (owns (c : Thread nD τ) ((M.slice r hr).squeeze s' hq) q Y : sProp 𝕄)
      ⊢ iprop((owns (c : Thread nD τ) ((M.slice r hr).squeeze s' hq) q Y -∗ WP c (K (shapeCast r.shape Y hc)) Q)
        -∗ WP c (.op (.load M r.toLoadRect hl) K) Q) := by
  unfold owns
  iintro ⟨%f, %hf, H⟩ Hk
  iapply (wp_load_rect 𝒱₀ (c : Thread nD τ) none Set.univ (m := M) (r := r)
    (S := ((M.slice r hr).squeeze s' hq).view.set) (Eq.subset (View.set_reshape _ hq.numel_eq).symm)) $$ H
  iintro H
  rw [show (M.access r).read (Elt F) f = shapeCast r.shape Y hc from by
    rw [← hf]
    exact ((shapeCast_comp ((M.access r).read (Elt F) f) hc' hc).trans (shapeCast_id _ _)).symm]
  iapply Hk
  iexists f
  isplitr; · ipureintro; exact hf
  iexact H

/-- Storing through a squeezed slice's rectangle. -/
theorem wp_store_squeeze {α : Type} {Q : α → sProp 𝕄} {s s' : Shape} (M : Memref sig .tc .vmem s .f32) (r : Rect s) (hr : ∀ a, r.stride a = 1) (hq : r.shape.Squeezes s')
    (hc' : r.shape.ShapeCasts s') {w : r.shape.Idx → Elt F .f32}
    {hx : (M.access r).Stores Finset.univ} {hm : (Finset.univ : Finset r.shape.Idx) = Finset.univ ∨ ∀ a, r.stride a = 1}
    {K : PUnit → Prog (TpuEff nD τ sig (Elt F) Λ₀ .tc) α} :
    (Slot c ((M.slice r hr).squeeze s' hq) : sProp 𝕄)
      ⊢ iprop((owns (c : Thread nD τ) ((M.slice r hr).squeeze s' hq) fullShare (shapeCast s' w hc') -∗ WP c (K ⟨⟩) Q)
        -∗ WP c (.op (.store M r w Finset.univ hx hm) K) Q) := by
  unfold owns Slot slot
  iintro ⟨%f, H⟩ Hk
  iapply (wp_store 𝒱₀ (c : Thread nD τ) none Set.univ (m := M) (r := r)
    (Mk := Finset.univ) (S := ((M.slice r hr).squeeze s' hq).view.set) (Eq.subset (View.set_reshape _ hq.numel_eq).symm)) $$ H
  iintro H
  iapply Hk
  iexists _
  isplitr
  rotate_left
  · iexact H
  · ipureintro
    have e1 : (M.access r).read (Elt F) ((M.access r).write (Elt F) f w Finset.univ) = w := View.read_write_univ (v := M.access r) f w
    exact (Memref.read_squeeze_slice M r hr hq hc' _).trans (congrArg (fun v : r.shape.Idx → Elt F .f32 => shapeCast s' v hc') e1)

/-- Loading a slot. -/
theorem wp_load_slab {α : Type} {Q : α → sProp 𝕄} {n : ℕ} (M : Memref sig .tc .vmem ⟨3, ![n, 256, 4096]⟩ .f32) (k : ℕ) (h) {q : PosShare TreeShare} {Y : S256x4096.Idx → Elt F .f32}
    {hl : M.view.LoadsAt (Rect.unit (s := ⟨3, ![n, 256, 4096]⟩) ![k, 0, 0] S1x256x4096.size h).toLoadRect}
    {K : (S1x256x4096.Idx → Elt F .f32) → Prog (TpuEff nD τ sig (Elt F) Λ₀ .tc) α} :
    (owns (c : Thread nD τ) (slab M k h) q Y : sProp 𝕄)
      ⊢ iprop((owns (c : Thread nD τ) (slab M k h) q Y -∗ WP c (K (shapeCast S1x256x4096 Y shapeCasts_S256x4096_S1x256x4096)) Q)
        -∗ WP c (.op (.load M (Rect.unit (s := ⟨3, ![n, 256, 4096]⟩) ![k, 0, 0] S1x256x4096.size h).toLoadRect hl) K) Q) :=
  wp_load_squeeze c M _ (fun _ => rfl) squeezes_S1x256x4096_S256x4096 shapeCasts_S256x4096_S1x256x4096 shapeCasts_S1x256x4096_S256x4096

/-- Loading a whole buffer of rank two. -/
theorem wp_load_full {α : Type} {Q : α → sProp 𝕄} {s : Shape} (M : Memref sig .tc .vmem s .f32) (r : Rect s) {q : PosShare TreeShare} {X : s.Idx → Elt F .f32} {hl}
    {K : (r.shape.Idx → Elt F .f32) → Prog (TpuEff nD τ sig (Elt F) Λ₀ .tc) α} :
    (owns (c : Thread nD τ) M q X : sProp 𝕄)
      ⊢ iprop((owns (c : Thread nD τ) M q X -∗ WP c (K (fun x => X (r.emb x))) Q)
        -∗ WP c (.op (.load M r.toLoadRect hl) K) Q) := by
  unfold owns
  iintro ⟨%f, %hf, H⟩ Hk
  iapply (wp_load_rect 𝒱₀ (c : Thread nD τ) none Set.univ (m := M) (r := r) (S := M.view.set) (View.set_slice_subset _ _)) $$ H
  iintro H
  rw [show (M.access r).read (Elt F) f = fun x => X (r.emb x) from by rw [← hf]; rfl]
  iapply Hk
  iexists f
  isplitr; · ipureintro; exact hf
  iexact H

/-- Storing a whole slot. -/
theorem wp_store_slab {α : Type} {Q : α → sProp 𝕄} {n : ℕ} (M : Memref sig .tc .vmem ⟨3, ![n, 256, 4096]⟩ .f32) (k : ℕ) (h) {w : S1x256x4096.Idx → Elt F .f32}
    {hx : (M.access (Rect.unit (s := ⟨3, ![n, 256, 4096]⟩) ![k, 0, 0] S1x256x4096.size h)).Stores Finset.univ} {hm}
    {K : PUnit → Prog (TpuEff nD τ sig (Elt F) Λ₀ .tc) α} :
    (Slot c (slab M k h) : sProp 𝕄)
      ⊢ iprop((owns (c : Thread nD τ) (slab M k h) fullShare (shapeCast S256x4096 w shapeCasts_S1x256x4096_S256x4096) -∗ WP c (K ⟨⟩) Q)
        -∗ WP c (.op (.store M (Rect.unit (s := ⟨3, ![n, 256, 4096]⟩) ![k, 0, 0] S1x256x4096.size h) w Finset.univ hx hm) K) Q) :=
  wp_store_squeeze c M _ (fun _ => rfl) squeezes_S1x256x4096_S256x4096 shapeCasts_S1x256x4096_S256x4096

/-- Storing a row of the maxima. -/
theorem wp_store_row {α : Type} {Q : α → sProp 𝕄} (off : Fin 2 → ℕ) (ho : off = k0_off14 c) (h) {w : S1x128.Idx → Elt F .f32} {hx hm}
    {K : PUnit → Prog (TpuEff nD τ sig (Elt F) Λ₀ .tc) α} :
    (Slot c (rowM c) : sProp 𝕄)
      ⊢ iprop((owns (c : Thread nD τ) (rowM c) fullShare w -∗ WP c (K ⟨⟩) Q)
        -∗ WP c (.op (.store mxM (Rect.unit (s := S16x128) off S1x128.size h) w Finset.univ hx hm) K) Q) := by
  subst ho
  unfold owns Slot slot
  iintro ⟨%f, H⟩ Hk
  iapply (wp_store 𝒱₀ (c : Thread nD τ) none Set.univ (m := mxM) (r := Rect.unit (s := S16x128) (k0_off14 c) S1x128.size h)
    (Mk := Finset.univ) (S := (rowM c).view.set) (Finset.Subset.refl _)) $$ H
  iintro H
  iapply Hk
  iexists _
  isplitr
  rotate_left
  · iexact H
  · ipureintro
    exact View.read_write_univ _ _

/-- Loading a row of the maxima that holds anything. -/
theorem wp_load_row {α : Type} {Q : α → sProp 𝕄} (off : Fin 2 → ℕ) (ho : off = k0_off14 c) (h) {hl}
    {K : (S1x128.Idx → Elt F .f32) → Prog (TpuEff nD τ sig (Elt F) Λ₀ .tc) α} :
    (Slot c (rowM c) : sProp 𝕄)
      ⊢ iprop((∀ v, Slot c (rowM c) -∗ WP c (K v) Q)
        -∗ WP c (.op (.load mxM (Rect.unit (s := S16x128) off S1x128.size h).toLoadRect hl) K) Q) := by
  subst ho
  unfold Slot slot
  iintro ⟨%f, H⟩ Hk
  iapply (wp_load_rect 𝒱₀ (c : Thread nD τ) none Set.univ (m := mxM) (r := Rect.unit (s := S16x128) (k0_off14 c) S1x128.size h)
    (S := (rowM c).view.set) (Finset.Subset.refl _)) $$ H
  iintro H
  iapply Hk
  iexists f
  iexact H

/-- Storing a tile of whole rows into the output block. -/
theorem wp_store_tile {α : Type} {Q : α → sProp 𝕄} (off : Fin 2 → ℕ) (o : ℕ) (ho : off = ![o, 0]) (h) {Y : S4096x128.Idx → Elt F .f32} {w : S256x128.Idx → Elt F .f32} {hx hm}
    {K : PUnit → Prog (TpuEff nD τ sig (Elt F) Λ₀ .tc) α} :
    (owns (c : Thread nD τ) oM fullShare Y : sProp 𝕄)
      ⊢ iprop((owns (c : Thread nD τ) oM fullShare (fun y => if hy : o ≤ (y 0).val ∧ (y 0).val < o + 256
            then w (ix2 (n0 := 256) (n1 := 128) ⟨(y 0).val - o, by omega⟩ (y 1)) else Y y) -∗ WP c (K ⟨⟩) Q)
        -∗ WP c (.op (.store oM (Rect.unit (s := S4096x128) off S256x128.size h) w Finset.univ hx hm) K) Q) := by
  subst ho
  unfold owns
  iintro ⟨%f, %hf, H⟩ Hk
  iapply (wp_store 𝒱₀ (c : Thread nD τ) none Set.univ (m := oM) (r := Rect.unit (s := S4096x128) ![o, 0] S256x128.size h)
    (Mk := Finset.univ) (S := oM.view.set) (View.set_slice_subset _ _)) $$ H
  iintro H
  iapply Hk
  iexists _
  isplitr
  rotate_left
  · iexact H
  · ipureintro
    funext y
    split
    · rename_i hy
      have hy' : y = (Rect.unit (s := S4096x128) ![o, 0] S256x128.size h).emb (ix2 (n0 := 256) (n1 := 128) ⟨(y 0).val - o, by omega⟩ (y 1)) := by
        funext a
        match a with
        | ⟨0, _⟩ => exact Fin.ext (show (y 0).val = o + 1 * ((y 0).val - o) by omega)
        | ⟨1, _⟩ => exact Fin.ext (show (y 1).val = 0 + 1 * (y 1).val by omega)
      conv_lhs => rw [hy']
      exact View.read_slice_write_emb (v := oM.view) _ _ _ (Finset.mem_univ _)
    · rename_i hy
      refine (View.read_slice_write_of_not_mem (v := oM.view) _ _ _ _ (fun hm => hy ?_)).trans (congrFun hf y)
      obtain ⟨z, -, rfl⟩ := Finset.mem_map.mp hm
      have hz : (z 0).val < 256 := (z 0).isLt
      exact ⟨show o ≤ o + 1 * (z 0).val by omega, show o + 1 * (z 0).val < o + 256 by omega⟩

end LoadStore

end Cert.Gather

end
-- ==== Proof.State.lean ====
/-
The state of the protocol on one device, and the facts of the tables its steps need.
-/
module

public import proofs.«01_k».proof.Proof.Mem

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## What the run is about, and the facts every step may use -/

/-- The blocks of the operand, the blocks of the weights, and the names of the invariants. -/
structure Env (F : FTy → Type) where
  X : Dev nD → S256x4096.Idx → Elt F .f32
  W : Dev nD → S4096x128.Idx → Elt F .f32
  κ : Dev nD × Fin 62 → ℕ
  ι : Dev nD × Fin 29 → ℕ

namespace Env
variable (e : Env F)

/-- The product of device `c` with the row block of device `d`. -/
def tile (c d : Dev nD) : FVec F S256x128 .f32 := k0_pay3 (shapeCast S1x256x4096 (e.X d) shapeCasts_S256x4096_S1x256x4096) (e.W c)
/-- The greatest magnitude device `c` has met in its first `n` products. -/
def run (c : Dev nD) : ℕ → F .f32
  | 0 => Scalar.ofBits .f32 0x00000000#32
  | n + 1 => k0_pay13 (run c n) (e.tile c (ord c n))
/-- The greatest magnitude of all of device `c`'s products. -/
def A (c : Dev nD) : F .f32 := e.run c 16

end Env

/-- A device's cells are open at every index the protocol uses, no other cell at any, -/
def L (g : GSem nD τ sig) : Finset ℕ := if g.1.2 = .tc then Finset.range 60 else ∅
/-- and the index is the level. -/
def lv (g : GSem nD τ sig) (ι : ℕ) : ℕ := ι

/-- A device's cells are open at the protocol's indices, -/
theorem L_kcell (c : Dev nD) (sm : SemLoc sig) : L ((c : Thread nD τ), sm) = Finset.range 60 := if_pos rfl
/-- and no others are open. -/
theorem L_of_ne (g : GSem nD τ sig) (h : g.1.2 ≠ .tc) : L g = ∅ := if_neg h

/-- The levels, as a fact of the run. -/
@[irreducible] def Lev : sProp 𝕄 := levAts L lv
instance Lev_persistent : BI.Persistent (Lev (F := F)) := by unfold Lev; infer_instance

/-- The invariants of every semaphore and every region, round 0 of every semaphore, and the levels. -/
def Inv (e : Env F) : sProp 𝕄 :=
  iprop((bigSep Finset.univ fun p : Dev nD × Fin 62 => cellInv EB (Rd e.X e.A) (e.κ p) (kcell p.1 p.2))
    ∗ (bigSep Finset.univ fun p : Dev nD × Fin 62 => reached EB (kcell p.1 p.2) 0)
    ∗ (bigSep Finset.univ fun p : Dev nD × Fin 29 => slotInv EK (e.ι p) p (reg p.1 p.2))
    ∗ Lev)

instance Inv_persistent (e : Env F) : BI.Persistent (Inv e) := by unfold Inv; infer_instance

section Facts
variable (e : Env F)

/-- One part of a conjunction follows from it. -/
theorem sep_elim {I : Type} [DecidableEq I] {i : I} {s : Finset I} {Φ : I → sProp 𝕄} (h : i ∈ s) : bigSep s Φ ⊢ Φ i := BI.bigSep_elim h

/-- Among the invariants is that of every semaphore, -/
theorem Inv_cell (c : Dev nD) (k : Fin 62) : Inv e ⊢ cellInv EB (Rd e.X e.A) (e.κ (c, k)) (kcell c k) := by
  unfold Inv; iintro ⟨H, -, -, -⟩
  iapply (sep_elim (Finset.mem_univ (c, k))
    (Φ := fun p : Dev nD × Fin 62 => (cellInv EB (Rd e.X e.A) (e.κ p) (kcell p.1 p.2) : sProp 𝕄))); iexact H
/-- round 0 of every semaphore, -/
theorem Inv_reached (c : Dev nD) (k : Fin 62) : Inv e ⊢ reached EB (kcell c k) 0 := by
  unfold Inv; iintro ⟨-, H, -, -⟩
  iapply (sep_elim (Finset.mem_univ (c, k))
    (Φ := fun p : Dev nD × Fin 62 => (reached EB (kcell p.1 p.2) 0 : sProp 𝕄))); iexact H
/-- that of every region, -/
theorem Inv_slot (c : Dev nD) (k : Fin 29) : Inv e ⊢ slotInv EK (e.ι (c, k)) (c, k) (reg c k) := by
  unfold Inv; iintro ⟨-, -, H, -⟩
  iapply (sep_elim (Finset.mem_univ (c, k))
    (Φ := fun p : Dev nD × Fin 29 => (slotInv EK (e.ι p) p (reg p.1 p.2) : sProp 𝕄))); iexact H
/-- and the levels. -/
theorem Inv_lev : Inv e ⊢ Lev (F := F) := by
  unfold Inv; iintro ⟨-, -, -, H⟩; iexact H

/-- A region is free for its first write when its owner has offered it. -/
theorem RA_free (c : Dev nD) (k : Fin 29) (q : Fin 62) (h : written c k = true) : iprop(Inv e ∗ RA c) ⊢ free c k q 0 := by
  unfold free RA
  iintro ⟨#HI, H⟩
  isplitl [H]
  · iapply (sep_elim (i := k) (s := Finset.univ.filter fun k => written c k = true) (Φ := fun k => (released EK (c, k) 1 : sProp 𝕄)) (Finset.mem_filter.mpr ⟨Finset.mem_univ _, h⟩)); iexact H
  · iapply (Inv_reached e c q); iexact HI

end Facts

/-! ## The state of the protocol on a device: `n` messages paid, `j` waits done -/

section State
variable (e : Env F) (c : Dev nD)

/-- What the device still owes. -/
def Oat (n : ℕ) : CellTallies nD τ sig ℕ :=
  ∑ μ : Fin 49, if n ≤ μ.val ∧ act μ c = true then tallyAt (kcell (mv μ c) (rs μ)) (ix μ) (amt μ) else 0

/-- The tokens of message `μ`, unless it is paid. -/
def TokF (n : ℕ) (μ : Fin 49) : sProp 𝕄 :=
  if n ≤ μ.val ∧ act μ c = true then
    iprop(dutyTok EB (kcell (mv μ c) (rs μ)) (rd μ) (μ, true)
      ∗ if copy μ = true then iprop(dutyTok EB (kcell c (ss μ)) (rd μ) (μ, false) ∗ writeTok EK (mv μ c, ky μ c) (rd μ + 1)) else iprop(emp))
  else iprop(emp)

/-- The units to wait for of duty `d`, unless they are taken; a send's are there once it is issued. -/
def CrdF (n j : ℕ) (d : D) : sProp 𝕄 :=
  if dAct d c = true ∧ j ≤ wpos d ∧ (d.2 = false → d.1.val < n) then cred (tallyAt (kcell c (dS d)) (dix d) (amt d.1)) else iprop(emp)

/-- The device's place at its semaphore `k`: a credit semaphore's one round is taken in two waits. -/
def PosF (j : ℕ) (k : Fin 62) : sProp 𝕄 :=
  if 57 ≤ k.val ∧ k.val ≤ 60 then
    match cnt c k j with
    | 0 => atPos EB (kcell c k) 0 ∅ 0
    | 1 => iprop(∃ S : Finset D, ⌜S ⊆ dut c k 0⌝ ∗ atPos EB (kcell c k) 0 S 1 ∗ bigSep S fun d => recvPay e.X e.A d.1 c)
    | _ => atPos EB (kcell c k) 1 ∅ 0
  else iprop(atPos EB (kcell c k) (cnt c k j) ∅ 0 ∗ reached EB (kcell c k) (cnt c k j))

def St (n j : ℕ) : sProp 𝕄 :=
  iprop((∃ W, owes (c : Thread nD τ) (Oat c n) W) ∗ bigSep Finset.univ (TokF (F := F) c n)
    ∗ bigSep Finset.univ (CrdF (F := F) c n j) ∗ bigSep Finset.univ (PosF e c j))

/-- The payload of a duty of `c`. -/
def dpay (d : D) : sProp 𝕄 := if d.2 = true then recvPay e.X e.A d.1 c else sendPay e.X e.A d.1 c

end State

/-! ## Facts of the tables -/

/-- No duty is waited for twice. -/
theorem waits_nodup : waits.Nodup := by decide +kernel
/-- There are 83 waits. -/
theorem waits_length : waits.length = 83 := by decide +kernel
/-- Only the first is for an entry signal: -/
theorem waits_late : ∀ j : Fin 83, 0 < j.val → ∀ d, waits[j.val]? = some d → 4 ≤ d.1.val := by decide +kernel
/-- this one. -/
theorem waits_first : waits[0]? = some (0, true) := by decide +kernel

/-- A wait's place is below 83. -/
theorem lt_of_wait {j : ℕ} {d : D} (hj : waits[j]? = some d) : j < 83 := by
  obtain ⟨h, -⟩ := List.getElem?_eq_some_iff.mp hj
  rw [waits_length] at h; exact h

/-- A later wait is not for an entry signal. -/
theorem wait_late {j : ℕ} {d : D} (h0 : 0 < j) (hj : waits[j]? = some d) : 4 ≤ d.1.val :=
  waits_late ⟨j, lt_of_wait hj⟩ h0 d hj

/-- A duty's place among the waits is where the list has it, -/
theorem wpos_wait {j : ℕ} {d : D} (h0 : 0 < j) (hj : waits[j]? = some d) : wpos d = j := by
  have h4 := wait_late h0 hj
  obtain ⟨h, rfl⟩ := List.getElem?_eq_some_iff.mp hj
  unfold wpos
  rw [if_neg (by omega)]
  exact waits_nodup.idxOf_getElem j h

/-- and another duty's is elsewhere. -/
theorem wpos_ne {j : ℕ} {d d' : D} (h0 : 0 < j) (hj : waits[j]? = some d) (hd : d' ≠ d) : wpos d' ≠ j := by
  obtain ⟨h, rfl⟩ := List.getElem?_eq_some_iff.mp hj
  unfold wpos
  split
  · omega
  · intro hw
    refine hd ?_
    subst hw
    exact (List.getElem_idxOf h).symm

/-- A wait that is made at a semaphore counts one more there. -/
theorem cnt_succ (c : Dev nD) (k : Fin 62) {j : ℕ} {d : D} (hj : waits[j]? = some d) :
    cnt c k (j + 1) = cnt c k j + if dS d = k ∧ dAct d c = true then 1 else 0 := by
  unfold cnt
  rw [List.take_succ, List.countP_append, hj]
  congr 1
  by_cases h1 : dS d = k <;> by_cases h2 : dAct d c = true <;> simp [h1, h2]

/-- An active wait comes at its duty's round, -/
theorem cnt_wait : ∀ (c : Dev nD) (j : Fin 83) (d : D), waits[j.val]? = some d → dAct d c = true → ((dS d).val < 57 ∨ dS d = 61) → cnt c (dS d) j.val = rd d.1 := by
  have h : ∀ (c : Dev nD) (j : Fin 83), ∀ d ∈ waits[j.val]?, dAct d c = true → ((dS d).val < 57 ∨ dS d = 61) → cnt c (dS d) j.val = rd d.1 := by
    decide +kernel
  exact fun c j d hd => h c j d hd

/-- The credits' two waits. -/
def crdW (d : D) : ℕ := if d ∈ ([(14,true),(15,true),(24,true),(25,true)] : List D) then 0 else 1
/-- A credit's wait comes after as many at its semaphore as it says. -/
theorem cnt_crd : ∀ (c : Dev nD) (j : Fin 83) (d : D), waits[j.val]? = some d → (57 ≤ (dS d).val ∧ (dS d).val ≤ 60) → cnt c (dS d) j.val = crdW d := by
  have h : ∀ (c : Dev nD) (j : Fin 83), ∀ d ∈ waits[j.val]?, (57 ≤ (dS d).val ∧ (dS d).val ≤ 60) → cnt c (dS d) j.val = crdW d := by decide +kernel
  exact fun c j d hd => h c j d hd
/-- A credit semaphore has two duties, -/
theorem crd_card : ∀ (c : Dev nD) (k : Fin 62), (57 ≤ k.val ∧ k.val ≤ 60) → (dut c k 0).card = 2 := by decide +kernel
/-- which are signals of round 0, to every device, and nothing comes after them. -/
theorem crd_facts : ∀ (c : Dev nD) (d : D), (57 ≤ (dS d).val ∧ (dS d).val ≤ 60) → d.2 = true ∧ dAct d c = true ∧ rd d.1 = 0 ∧ copy d.1 = false ∧ dut c (dS d) 1 = ∅ := by
  have h1 : ∀ (d : D), (57 ≤ (dS d).val ∧ (dS d).val ≤ 60) → d.2 = true ∧ rd d.1 = 0 ∧ copy d.1 = false := by decide +kernel
  have h2 : ∀ (c : Dev nD) (d : D), (57 ≤ (dS d).val ∧ (dS d).val ≤ 60) → dAct d c = true := by decide +kernel
  have h3 : ∀ (d d' : D), (57 ≤ (dS d).val ∧ (dS d).val ≤ 60) → dS d' = dS d → rd d'.1 ≠ 1 := by decide +kernel
  intro c d hd
  refine ⟨(h1 d hd).1, h2 c d hd, (h1 d hd).2.1, (h1 d hd).2.2, ?_⟩
  refine Finset.filter_false_of_mem fun d' _ h => h3 d d' hd h.1 h.2.1

/-- The waits done when message `μ` comes, -/
def jat (μ : Fin 49) : ℕ :=
  if 34 ≤ μ.val then 53
  else [0,0,0,0,1,1,1,1,3,3,7,7,7,7,9,9,13,13,19,19,21,21,21,21,25,25,29,29,35,35,39,39,43,43].getD μ.val 0
/-- and the messages paid at wait `j`. -/
def nat (j : ℕ) : ℕ :=
  if 53 ≤ j then 49
  else [4,8,8,10,10,10,10,14,14,16,16,16,16,18,18,18,18,18,18,20,20,24,24,24,24,26,26,26,26,28,28,28,28,28,28,
    30,30,30,30,32,32,32,32,34,34,34,34,34,34,34,34,34,34].getD j 0

/-- A send's wait comes after the send, and its semaphore is none of the credits'. -/
theorem send_facts : ∀ μ : Fin 49, copy μ = true → jat μ ≤ wpos (μ, false) ∧ (ss μ).val < 57 := by decide +kernel
/-- When a copy is sent, its semaphore has reached the copy's round. -/
theorem send_cnt : ∀ (c : Dev nD) (μ : Fin 49), copy μ = true → act μ c = true → cnt c (ss μ) (jat μ) = rd μ := by decide +kernel
/-- A wait is at an index below all that is still owed, and after its own send. -/
theorem wait_facts : ∀ (j : Fin 83) (d : D), waits[j.val]? = some d → dix d ≤ nat j.val ∧ 4 ≤ nat j.val ∧ (d.2 = false → d.1.val < nat j.val) ∧ dix d < 60 := by
  have h : ∀ (j : Fin 83), ∀ d ∈ waits[j.val]?, dix d ≤ nat j.val ∧ 4 ≤ nat j.val ∧ (d.2 = false → d.1.val < nat j.val) ∧ dix d < 60 := by decide +kernel
  exact fun j d hd => h j d hd

/-- A signal is one unit. -/
theorem amt_signal {μ : Fin 49} (h : copy μ = false) : amt μ = 1 := by unfold amt; rw [h]; rfl

/-- Who is sent a message receives it. -/
theorem act_ract (μ : Fin 49) (c : Dev nD) (h : act μ c = true) : dAct (μ, true) (mv μ c) = true := by
  show ract μ (mv μ c) = true
  unfold ract; rw [Equiv.symm_apply_apply]; exact h

/-- A duty to a device is among its semaphore's duties of that round. -/
theorem mem_dut {c : Dev nD} {d : D} (h : dAct d c = true) : d ∈ dut c (dS d) (rd d.1) :=
  Finset.mem_filter.mpr ⟨Finset.mem_univ _, rfl, rfl, h⟩

/-- What a message hands its receiver, seen from its sender. -/
theorem recvPay_mv (e : Env F) (μ : Fin 49) (c : Dev nD) : recvPay e.X e.A μ (mv μ c) = recvBy e.X e.A μ (mv μ c) c (org μ c) := by
  unfold recvPay; rw [Equiv.symm_apply_apply]

/-- A message is owed at an index above its number -/
theorem ix_gt : ∀ μ : Fin 49, 4 ≤ μ.val → μ.val < ix μ := by decide +kernel
/-- and below 60. -/
theorem ix_lt : ∀ μ : Fin 49, ix μ < 60 := by decide +kernel

end Cert.Gather

end
-- ==== Proof.Steps.lean ====
/-
How each kind of step changes the state of the protocol on one device.
-/
module

public import proofs.«01_k».proof.Proof.State

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Levels -/

/-- What is owed is owed to the receiver of a message to come. -/
theorem Oat_pos {c : Dev nD} {n : ℕ} {g : GSem nD τ sig} {i : ℕ} (h : 0 < Oat c n g i) :
    ∃ μ : Fin 49, n ≤ μ.val ∧ g = kcell (mv μ c) (rs μ) ∧ i = ix μ := by
  by_contra hc
  push Not at hc
  refine absurd h (Nat.not_lt.mpr (Nat.le_of_eq ?_))
  unfold Oat
  rw [Finset.sum_apply, Finsupp.finset_sum_apply]
  refine Finset.sum_eq_zero fun μ _ => ?_
  by_cases hm : n ≤ μ.val ∧ act μ c = true
  · rw [if_pos hm, tallyAt_apply]
    by_cases hg : g = kcell (mv μ c) (rs μ) ∧ i = ix μ
    · exact absurd hg.2 (hc μ hm.1 hg.1)
    · exact if_neg hg
  · rw [if_neg hm]; rfl

/-- A device that has paid `n` messages may wait at any index up to `n`. -/
theorem mayWait {c : Dev nD} {n i : ℕ} (hn : 4 ≤ n) (hi : i ≤ n) (h60 : i < 60) (sm : SemLoc sig) :
    (levAts L lv : sProp 𝕄) ⊢ MayWait (c : Thread nD τ) sm i (Oat c n) :=
  MayOwe.of_cut (L := L) (lev := lv) n
    (fun p hp => by rw [Finset.mem_singleton.mp hp, L_kcell]; exact Finset.mem_range.mpr h60)
    (fun g u hg => by
      obtain ⟨μ, -, rfl, rfl⟩ := Oat_pos hg
      rw [L_kcell]; exact Finset.mem_range.mpr (ix_lt μ))
    (fun p hp => by rw [Finset.mem_singleton.mp hp]; exact hi)
    (fun g u hg => by
      obtain ⟨μ, hm, rfl, rfl⟩ := Oat_pos hg
      exact lt_of_le_of_lt hm (ix_gt μ (hn.trans hm)))

/-- A device may wait below all that it still owes. -/
theorem inv_mayWait (e : Env F) {c : Dev nD} {n i : ℕ} (hn : 4 ≤ n) (hi : i ≤ n) (h60 : i < 60) (sm : SemLoc sig) :
    Inv e ⊢ MayWait (c : Thread nD τ) sm i (Oat c n) := by
  refine BIBase.Entails.trans (Inv_lev e) ?_
  unfold Lev
  exact mayWait hn hi h60 sm

/-! ## Stepping the state -/

section Steps
variable (e : Env F) (c : Dev nD)

/-- A paid message is owed no more. -/
theorem Oat_pay {n : ℕ} (μ : Fin 49) (hμ : μ.val = n) (ha : act μ c = true) :
    Oat c n = Oat c (n + 1) + tallyAt (kcell (mv μ c) (rs μ)) (ix μ) (amt μ) := by
  unfold Oat
  rw [← Finset.add_sum_erase _ _ (Finset.mem_univ μ), ← Finset.add_sum_erase (Finset.univ : Finset (Fin 49)) _ (Finset.mem_univ μ),
    if_pos ⟨hμ.ge, ha⟩, if_neg (by omega), zero_add, add_comm]
  congr 1
  refine Finset.sum_congr rfl fun ν hν => ?_
  have : ν.val ≠ n := fun h => (Finset.mem_erase.mp hν).1 (Fin.ext (h.trans hμ.symm))
  exact if_congr (by constructor <;> rintro ⟨h1, h2⟩ <;> exact ⟨by omega, h2⟩) rfl rfl

/-- Paying a message leaves the other messages' tokens. -/
theorem TokF_step {n : ℕ} (μ : Fin 49) (hμ : μ.val = n) (ν : Fin 49) (h : ν ≠ μ) : TokF (F := F) c (n + 1) ν = TokF c n ν := by
  have : ν.val ≠ n := fun h' => h (Fin.ext (h'.trans hμ.symm))
  unfold TokF
  exact if_congr (by constructor <;> rintro ⟨h1, h2⟩ <;> exact ⟨by omega, h2⟩) rfl rfl

/-- Paying a message leaves the units to wait for, but for its own send's. -/
theorem CrdF_pay {n j : ℕ} (d : D) (h : ¬ (d.2 = false ∧ d.1.val = n ∧ dAct d c = true)) : CrdF (F := F) c (n + 1) j d = CrdF c n j d := by
  unfold CrdF
  refine if_congr ?_ rfl rfl
  constructor
  · rintro ⟨h1, h2, h3⟩
    refine ⟨h1, h2, fun h4 => ?_⟩
    have := h3 h4
    by_contra h5
    exact h ⟨h4, by omega, h1⟩
  · rintro ⟨h1, h2, h3⟩; exact ⟨h1, h2, fun h4 => by have := h3 h4; omega⟩

/-- A wait leaves the other duties' units, -/
theorem CrdF_wait {n j : ℕ} (d d' : D) (h0 : 0 < j) (hj : waits[j]? = some d) (h : d' ≠ d) : CrdF (F := F) c n (j + 1) d' = CrdF c n j d' := by
  have := wpos_ne h0 hj h
  unfold CrdF
  exact if_congr (by constructor <;> rintro ⟨h1, h2, h3⟩ <;> exact ⟨h1, by omega, h3⟩) rfl rfl

/-- and takes its own. -/
theorem CrdF_done {n j : ℕ} (d : D) (h0 : 0 < j) (hj : waits[j]? = some d) : CrdF (F := F) c n (j + 1) d = iprop(emp) := by
  have := wpos_wait h0 hj
  unfold CrdF
  exact if_neg (by omega)

/-- A wait leaves the places at the other semaphores. -/
theorem PosF_wait {j : ℕ} (d : D) (hj : waits[j]? = some d) (k : Fin 62) (h : k ≠ dS d ∨ dAct d c = false) : PosF e c (j + 1) k = PosF e c j k := by
  have hc : cnt c k (j + 1) = cnt c k j := by
    rw [cnt_succ c k hj, if_neg]
    · rfl
    · rintro ⟨h1, h2⟩; rcases h with h | h
      · exact h h1.symm
      · rw [h] at h2; cases h2
  unfold PosF; rw [hc]

/-- A device's place at an ordinary semaphore is the number of its waits there, -/
theorem PosF_plain {j r : ℕ} {k : Fin 62} (hk : k.val < 57) (hr : cnt c k j = r) :
    PosF e c j k = iprop(atPos EB (kcell c k) r ∅ 0 ∗ reached EB (kcell c k) r) := by
  unfold PosF; rw [if_neg (by omega), hr]
/-- and so it is at the barrier's. -/
theorem PosF_bar {j r : ℕ} (hr : cnt c 61 j = r) :
    PosF e c j 61 = iprop(atPos EB (kcell c 61) r ∅ 0 ∗ reached EB (kcell c 61) r) := by
  unfold PosF; rw [if_neg (by decide), hr]
/-- At a credit semaphore it is the start, -/
theorem PosF_crd0 {j : ℕ} {k : Fin 62} (hk : 57 ≤ k.val ∧ k.val ≤ 60) (hr : cnt c k j = 0) : PosF e c j k = atPos EB (kcell c k) 0 ∅ 0 := by
  unfold PosF; rw [if_pos hk, hr]; rfl
/-- then the round half taken, with the other credit's payload still to come, -/
theorem PosF_crd1 {j : ℕ} {k : Fin 62} (hk : 57 ≤ k.val ∧ k.val ≤ 60) (hr : cnt c k j = 1) :
    PosF e c j k = iprop(∃ S : Finset D, ⌜S ⊆ dut c k 0⌝ ∗ atPos EB (kcell c k) 0 S 1 ∗ bigSep S fun d => recvPay e.X e.A d.1 c) := by
  unfold PosF; rw [if_pos hk, hr]; rfl
/-- then the round after. -/
theorem PosF_crd2 {j : ℕ} {k : Fin 62} (hk : 57 ≤ k.val ∧ k.val ≤ 60) (hr : cnt c k j = 2) : PosF e c j k = atPos EB (kcell c k) 1 ∅ 0 := by
  unfold PosF; rw [if_pos hk, hr]; rfl

/-- A member that gives a lasting fact gives it and stays. -/
theorem sep_persist {I : Type} [DecidableEq I] {i : I} {s : Finset I} {Φ : I → sProp 𝕄} {R : sProp 𝕄} [BI.Persistent R] (h : i ∈ s) (hR : Φ i ⊢ R) :
    bigSep s Φ ⊢ iprop(bigSep s Φ ∗ R) := by
  have he : bigSep s Φ = iprop(Φ i ∗ bigSep (s.erase i) Φ) := BI.bigSep_erase h
  rw [he]
  have hd : Φ i ⊢ iprop(Φ i ∗ R) := by
    iintro H
    ihave #HR := hR $$ H
    isplitl [H]; · iexact H
    iexact HR
  iintro ⟨Hi, Hr⟩
  ihave Hi := hd $$ Hi
  icases Hi with ⟨Hi, HR⟩
  isplitr [HR]
  · isplitl [Hi] <;> iassumption
  · iexact HR

/-- A message the device does not pay is passed over, -/
theorem St_skip_pay {n j : ℕ} (μ : Fin 49) (hμ : μ.val = n) (h : act μ c = false) : St e c n j = St e c (n + 1) j := by
  have hO : Oat c n = Oat c (n + 1) := by
    unfold Oat
    refine Finset.sum_congr rfl fun ν _ => ?_
    by_cases hν : ν = μ
    · subst hν; rw [if_neg (by rw [h]; simp), if_neg (by rw [h]; simp)]
    · have : ν.val ≠ n := fun h' => hν (Fin.ext (h'.trans hμ.symm))
      exact if_congr (by constructor <;> rintro ⟨h1, h2⟩ <;> exact ⟨by omega, h2⟩) rfl rfl
  have hT : TokF (F := F) c n = TokF c (n + 1) := by
    funext ν
    by_cases hν : ν = μ
    · subst hν; unfold TokF; rw [if_neg (by rw [h]; simp), if_neg (by rw [h]; simp)]
    · exact (TokF_step c μ hμ ν hν).symm
  have hC : CrdF (F := F) c n j = CrdF c (n + 1) j := by
    funext d
    refine (CrdF_pay c d ?_).symm
    rintro ⟨h1, h2, h3⟩
    have : d.1 = μ := Fin.ext (h2.trans hμ.symm)
    unfold dAct at h3
    rw [h1, this, h] at h3
    simp at h3
  unfold St
  rw [hO, hT, hC]

/-- and so is a wait it does not make. -/
theorem St_skip_wait {n j : ℕ} (d : D) (h0 : 0 < j) (hj : waits[j]? = some d) (h : dAct d c = false) : St e c n j = St e c n (j + 1) := by
  have hC : CrdF (F := F) c n j = CrdF c n (j + 1) := by
    funext d'
    by_cases hd : d' = d
    · subst hd; unfold CrdF; rw [if_neg (by rw [h]; simp), if_neg (by rw [h]; simp)]
    · exact (CrdF_wait c d d' h0 hj hd).symm
  have hP : PosF e c j = PosF e c (j + 1) := funext fun k => (PosF_wait e c d hj k (Or.inr h)).symm
  unfold St
  rw [hC, hP]

/-- The schedule's payload of a received message, -/
theorem payload_recv (k : Fin 62) (r : ℕ) (d : D) (h : d.2 = true) : (Rd (F := F) e.X e.A).payload (kcell c k) r d = recvPay e.X e.A d.1 c := by
  dsimp only [Rd]; exact if_pos h
/-- of a send come back, -/
theorem payload_send (k : Fin 62) (r : ℕ) (d : D) (h : d.2 = false) : (Rd (F := F) e.X e.A).payload (kcell c k) r d = sendPay e.X e.A d.1 c := by
  dsimp only [Rd]; exact if_neg (by rw [h]; exact Bool.false_ne_true)
/-- and of any duty. -/
theorem payload_dpay (k : Fin 62) (r : ℕ) (d : D) : (Rd (F := F) e.X e.A).payload (kcell c k) r d = dpay e c d := rfl

variable {α : Type}

/-- A signal pays its message. -/
theorem signal_step {Q : α → sProp 𝕄} {n j : ℕ} (μ : Fin 49) (hμ : μ.val = n) (ha : act μ c = true) (hc : copy μ = false)
    {c' : Dev nD} (hc' : c' = mv μ c) {sem : Sem sig} (hs : SemLoc.reg sem = csem (rs μ)) (hr0 : rd μ = 0)
    {k : PUnit → Prog (TpuEff nD τ sig (Elt F) Λ₀ .tc) α} :
    iprop(Inv e ∗ St e c n j ∗ recvBy e.X e.A μ c' c (org μ c))
      ⊢ iprop((St e c (n + 1) j -∗ WP c (k ⟨⟩) Q) -∗ WP c (.op (.semSignal (c' : Thread nD τ) sem 1) k) Q) := by
  subst hc'
  have hcell : (((mv μ c : Dev nD) : Thread nD τ), SemLoc.reg sem) = kcell (mv μ c) (rs μ) := by rw [hs]
  iintro ⟨#HI, HS, Hp⟩ Hk
  unfold St
  icases HS with ⟨⟨%W, HO⟩, HT, HC, HP⟩
  ihave HT := (BI.bigSep_univ_update (Φ := TokF (F := F) c n) (Ψ := TokF c (n + 1)) μ (TokF_step c μ hμ)) $$ HT
  icases HT with ⟨Ht, HT⟩
  have ht : TokF (F := F) c n μ = iprop(dutyTok EB (kcell (mv μ c) (rs μ)) 0 (μ, true) ∗ emp) := by
    unfold TokF; rw [if_pos ⟨hμ.ge, ha⟩, if_neg (by rw [hc]; exact Bool.false_ne_true), hr0]
  ihave Ht := (Entails.of_eq ht) $$ Ht
  icases Ht with ⟨Ht, -⟩
  ihave #Hi := (Inv_cell e (mv μ c) (rs μ)) $$ HI
  ihave #Hr := (Inv_reached e (mv μ c) (rs μ)) $$ HI
  iapply (Rounds.wp_signal 𝒱₀ EB (Rd e.X e.A) (c : Thread nD τ) none (dst := ((mv μ c : Dev nD) : Thread nD τ)) (sem := sem) (κ := e.κ (mv μ c, rs μ)) (r := 0)
      (d := (μ, true)) (by rw [hcell, duties_kcell]; exact hr0 ▸ mem_dut (act_ract μ c ha)) (show amt μ = 1 from amt_signal hc) (ix μ)
      (O₀ := Oat c n) (Oat c (n + 1)) ((Oat_pay c μ hμ ha).trans (by rw [hcell, amt_signal hc])) (W := W)) $$ [HO Ht Hp]
  · rw [hcell, payload_recv _ _ _ _ _ rfl, recvPay_mv]
    isplitr; · iexact Hi
    isplitl [HO]; · iexact HO
    isplitl [Ht]; · iexact Ht
    isplitl [Hp]; · iexact Hp
    iexact Hr
  iintro HO
  iapply Hk
  isplitl [HO]; · iexists W; iexact HO
  isplitl [HT]
  · iapply HT
    unfold TokF; rw [if_neg (by omega)]; iempintro
  isplitl [HC]
  · rw [show CrdF (F := F) c (n + 1) j = CrdF c n j from funext fun d => CrdF_pay c d (by
      rintro ⟨h1, h2, h3⟩
      have : d.1 = μ := Fin.ext (h2.trans hμ.symm)
      unfold dAct at h3
      rw [h1, this, hc] at h3
      simp at h3)]
    iexact HC
  iexact HP

/-- A copy pays its message: it takes the receiver's region, which is free. -/
theorem send_step {Q : α → sProp 𝕄} {n j : ℕ} (μ : Fin 49) (hμ : μ.val = n) (ha : act μ c = true) (hc : copy μ = true) (hj : jat μ = j)
    {c' : Dev nD} (hc' : c' = mv μ c) {s : Shape} {src dst : Memref sig .tc .vmem s .f32} {hsc : dst.view.ref.isScScratch = false}
    {sS sem : SemLoc sig} (hsS : sS = csem (ss μ)) (hsem : sem = csem (rs μ)) {q : PosShare TreeShare} {Y : s.Idx → Elt F .f32}
    (hreg : reg (F := F) c' (ky μ c) = Slot c' dst) (hN : dst.view.amount sem = amt μ) {R : sProp 𝕄}
    (hsend : owns (c : Thread nD τ) src q Y ⊢ sendBy e.X e.A μ c (org μ c))
    (hrecv : iprop(owns (c' : Thread nD τ) dst fullShare Y ∗ R) ⊢ recvBy e.X e.A μ c' c (org μ c))
    {hsrc : src.view.WordExact} {hdst : dst.view.WordExact} {ht : DmaTarget.Typed .vmem sem (.remote (c' : Thread nD τ) dst sS hsc)}
    {k : PUnit → Prog (TpuEff nD τ sig (Elt F) Λ₀ .tc) α} :
    iprop(Inv e ∗ St e c n j ∗ owns (c : Thread nD τ) src q Y ∗ R ∗ free c' (ky μ c) (rs μ) (rd μ))
      ⊢ iprop((St e c (n + 1) j -∗ WP c (k ⟨⟩) Q)
        -∗ WP c (.op (.enqueueDma src (.remote (c' : Thread nD τ) dst sS hsc) sem hsrc hdst ht) k) Q) := by
  subst hc' hsS hsem
  iintro ⟨#HI, HS, Hs, HR, Hf⟩ Hk
  unfold St
  icases HS with ⟨⟨%W, HO⟩, HT, HC, HP⟩
  ihave HT := (BI.bigSep_univ_update (Φ := TokF (F := F) c n) (Ψ := TokF c (n + 1)) μ (TokF_step c μ hμ)) $$ HT
  icases HT with ⟨Ht, HT⟩
  have ht : TokF (F := F) c n μ = iprop(dutyTok EB (kcell (mv μ c) (rs μ)) (rd μ) (μ, true)
      ∗ dutyTok EB (kcell c (ss μ)) (rd μ) (μ, false) ∗ writeTok EK (mv μ c, ky μ c) (rd μ + 1)) := by
    unfold TokF; rw [if_pos ⟨hμ.ge, ha⟩, if_pos hc]
  ihave Ht := (Entails.of_eq ht) $$ Ht
  icases Ht with ⟨Ht1, Ht2, Hw⟩
  unfold free
  icases Hf with ⟨Hrel, Hrc⟩
  ihave #Hi1 := (Inv_cell e c (ss μ)) $$ HI
  ihave #Hi2 := (Inv_cell e (mv μ c) (rs μ)) $$ HI
  ihave #Hsl := (Inv_slot e (mv μ c) (ky μ c)) $$ HI
  obtain ⟨hw, hk⟩ := send_facts μ hc
  rw [hj] at hw
  have hcnt := send_cnt c μ hc ha
  rw [hj] at hcnt
  ihave HP := (BI.bigSep_univ_update (Φ := PosF e c j) (Ψ := PosF e c j) (ss μ) (fun _ _ => rfl)) $$ HP
  icases HP with ⟨Hp, HP⟩
  ihave Hp := (Entails.of_eq (PosF_plain e c hk hcnt)) $$ Hp
  icases Hp with ⟨Hat, #Hrs⟩
  ihave HP := HP $$ [Hat]
  · iapply (Entails.of_eq (PosF_plain e c hk hcnt).symm)
    isplitl [Hat]; · iexact Hat
    iexact Hrs
  imod (slot_take EK (Set.mem_univ (e.ι (mv μ c, ky μ c))) (rd μ + 1)) $$ [Hrel Hw] with Hd
  · isplitr; · iexact Hsl
    isplitl [Hrel]; · iexact Hrel
    iexact Hw
  ihave Hd := (Entails.of_eq hreg) $$ Hd
  unfold owns
  icases Hs with ⟨%fs, %hfs, Hs⟩
  unfold Slot slot
  icases Hd with ⟨%fd, Hd⟩
  iapply (Rounds.wp_send_pointsTo_with 𝒱₀ EB (Rd e.X e.A) (c : Thread nD τ) none (κ₁ := e.κ (c, ss μ)) (κ₂ := e.κ (mv μ c, rs μ))
      (r₁ := rd μ) (r₂ := rd μ) (d₁ := (μ, false)) (d₂ := (μ, true)) (c' := ((mv μ c : Dev nD) : Thread nD τ)) (src := src) (dst := dst)
      (q := q) (fs := fs) (fd := fd) (F := R)
      (by rw [duties_kcell]; exact mem_dut (d := (μ, false)) (by show (copy μ && act μ c) = true; rw [hc, ha]; rfl))
      (by rw [duties_kcell]; exact mem_dut (act_ract μ c ha)) (ix μ) 0 (amt μ) hN rfl rfl
      (O₀ := Oat c n) (Oat c (n + 1)) (Oat_pay c μ hμ ha) (W := W)
      (by
        rw [payload_send _ _ _ _ _ rfl]
        refine BIBase.Entails.trans (Q := owns (c : Thread nD τ) src q Y) ?_ hsend
        unfold owns
        iintro H; iexists fs
        isplitr; · (ipureintro; exact hfs)
        iexact H)
      (by
        rw [payload_recv _ _ _ _ _ rfl, recvPay_mv]
        refine BIBase.Entails.trans (sep_mono_left ?_) hrecv
        unfold owns
        iintro H; iexists _
        isplitr
        · ipureintro
          exact (View.read_write_univ (v := dst.view) fd (src.view.read (Elt F) fs)).trans hfs
        iexact H)) $$ [HO Ht1 Ht2 Hs Hd HR Hrc]
  · isplitr; · iexact Hi1
    isplitr; · iexact Hi2
    isplitl [Hs]; · iexact Hs
    isplitl [Hd HR]
    · isplitl [Hd]; · iexact Hd
      iexact HR
    isplitl [HO]; · iexact HO
    isplitl [Ht2]; · iexact Ht2
    isplitr; · iexact Hrs
    isplitl [Ht1]; · iexact Ht1
    iexact Hrc
  iintro ⟨Hcr, HO⟩
  iapply Hk
  isplitl [HO]; · iexists W; iexact HO
  isplitl [HT]
  · iapply HT
    unfold TokF; rw [if_neg (by omega)]; iempintro
  isplitl [HC Hcr]
  · ihave HC := (BI.bigSep_univ_update (Φ := CrdF (F := F) c n j) (Ψ := CrdF c (n + 1) j) (μ, false) (fun d hd => CrdF_pay c d (by
        rintro ⟨h1, h2, h3⟩
        exact hd (Prod.ext (Fin.ext (h2.trans hμ.symm)) h1)))) $$ HC
    icases HC with ⟨-, HC⟩
    iapply HC
    unfold CrdF
    rw [if_pos ⟨show (copy μ && act μ c) = true by rw [hc, ha]; rfl, hw, fun _ => by show μ.val < n + 1; omega⟩]
    iexact Hcr
  iexact HP

/-- The units of a duty about to be waited for, and the rest. -/
theorem CrdF_take {n j : ℕ} (d : D) (h0 : 0 < j) (hj : waits[j]? = some d) (hn : nat j = n) (ha : dAct d c = true) :
    bigSep Finset.univ (CrdF (F := F) c n j)
      ⊢ iprop(cred (tallyAt (kcell c (dS d)) (dix d) (amt d.1)) ∗ bigSep Finset.univ (CrdF (F := F) c n (j + 1))) := by
  obtain ⟨-, -, hf, -⟩ := wait_facts ⟨j, lt_of_wait hj⟩ d hj
  have hw := wpos_wait h0 hj
  have hd : CrdF (F := F) c n j d = cred (tallyAt (kcell c (dS d)) (dix d) (amt d.1)) := by
    unfold CrdF; exact if_pos ⟨ha, hw.ge, fun h => hn ▸ hf h⟩
  iintro HC
  ihave HC := (BI.bigSep_univ_update (Φ := CrdF (F := F) c n j) (Ψ := CrdF c n (j + 1)) d (fun d' hd' => CrdF_wait c d d' h0 hj hd')) $$ HC
  icases HC with ⟨Hc, HC⟩
  isplitl [Hc]; · (iapply (Entails.of_eq hd); iexact Hc)
  iapply HC
  iapply (Entails.of_eq (CrdF_done c d h0 hj).symm)
  iempintro

/-- The units of an open round of one duty. -/
theorem expect_single (d : D) (ha : dAct d c = true) (hk : (dS d).val < 57) :
    (Rd (F := F) e.X e.A).expect (kcell c (dS d)) (rd d.1) = amt d.1 := by
  show ∑ d' ∈ (Rd (F := F) e.X e.A).duties (kcell c (dS d)) (rd d.1), amt d'.1 = amt d.1
  rw [duties_kcell, dut_single d c ha hk, Finset.sum_singleton]

/-- A wait for a copy gives what the copy hands over. -/
theorem wait_step {Q : α → sProp 𝕄} {n j : ℕ} (d : D) (h0 : 0 < j) (hj : waits[j]? = some d) (hn : nat j = n) (ha : dAct d c = true) (hk : (dS d).val < 57)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem (dS d)) (amt d.1) K)
    {k : PUnit → Prog (TpuEff nD τ sig (Elt F) Λ₀ .tc) α} :
    iprop(Inv e ∗ St e c n j) ⊢ iprop((St e c n (j + 1) ∗ dpay e c d -∗ WP c (k ⟨⟩) Q) -∗ WP c (.op w k) Q) := by
  obtain ⟨hi, h4, hf, h60⟩ := wait_facts ⟨j, lt_of_wait hj⟩ d hj
  have hcnt := cnt_wait c ⟨j, lt_of_wait hj⟩ d hj ha (Or.inl hk)
  have hcnt' : cnt c (dS d) (j + 1) = rd d.1 + 1 := by rw [cnt_succ c _ hj, if_pos ⟨rfl, ha⟩, hcnt]
  subst hn
  iintro ⟨#HI, HS⟩ Hk
  unfold St
  icases HS with ⟨⟨%W, HO⟩, HT, HC, HP⟩
  ihave HC := (CrdF_take c d h0 hj rfl ha) $$ HC
  icases HC with ⟨Hc, HC⟩
  ihave HP := (BI.bigSep_univ_update (Φ := PosF e c j) (Ψ := PosF e c (j + 1)) (dS d) (fun k hk' => PosF_wait e c d hj k (Or.inl hk'))) $$ HP
  icases HP with ⟨Hp, HP⟩
  ihave Hp := (Entails.of_eq (PosF_plain e c hk hcnt)) $$ Hp
  icases Hp with ⟨Hat, -⟩
  ihave #Hi := (Inv_cell e c (dS d)) $$ HI
  iapply (Rounds.wp_wait_rest_token 𝒱₀ EB (Rd e.X e.A) (c : Thread nD τ) none (κ := e.κ (c, dS d)) hw (Set.mem_univ _) (dix d)
      (O := Oat c (nat j)) (W := W) (R := rd d.1) (m := 0) (T := ∅) (by rw [expect_single e c d ha hk, Nat.zero_add])) $$ [Hc HO Hat]
  · isplitr; · iexact Hi
    isplitl [Hc]; · iexact Hc
    isplitl [HO]; · iexact HO
    isplitr; · iapply (inv_mayWait e h4 hi h60); iexact HI
    iexact Hat
  iintro ⟨HO, Hat, Hr, Hpay⟩
  iapply Hk
  isplitr [Hpay]
  · isplitl [HO]; · iexists _; iexact HO
    isplitl [HT]; · iexact HT
    isplitl [HC]; · iexact HC
    iapply HP
    iapply (Entails.of_eq (PosF_plain e c hk hcnt').symm)
    isplitl [Hat] <;> iassumption
  · iapply (Entails.of_eq (show bigSep ((Rd (F := F) e.X e.A).duties (kcell c (dS d)) (rd d.1) \ ∅) (fun d' => (Rd e.X e.A).payload (kcell c (dS d)) (rd d.1) d') = dpay e c d by
      rw [duties_kcell, dut_single d c ha hk, Finset.sdiff_empty, BI.bigSep_singleton]; rfl))
    iexact Hpay

/-- The entry wait gives the payloads of all the entry signals. -/
theorem entry_step {Q : α → sProp 𝕄} {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (csem 61) (∑ d ∈ dut c 61 0, amt d.1) K)
    {k : PUnit → Prog (TpuEff nD τ sig (Elt F) Λ₀ .tc) α} :
    iprop(Inv e ∗ St e c 4 0) ⊢ iprop((St e c 4 1 ∗ bigSep (dut c 61 0) (dpay e c) -∗ WP c (k ⟨⟩) Q) -∗ WP c (.op w k) Q) := by
  have hcnt : cnt c 61 0 = 0 := rfl
  have hcnt' : cnt c 61 1 = 1 := by
    have : ∀ c, dAct (0, true) c = true := by decide +kernel
    rw [cnt_succ c _ waits_first, if_pos ⟨rfl, this c⟩]; rfl
  have hcr : bigSep Finset.univ (CrdF (F := F) c 4 0) ⊢ iprop(cred (tallyAt (kcell c 61) 1 (∑ d ∈ dut c 61 0, amt d.1)) ∗ bigSep Finset.univ (CrdF (F := F) c 4 1)) := by
    have hbar : ∀ d : D, d ∈ dut c 61 0 → dS d = 61 ∧ dix d = 1 ∧ wpos d = 0 ∧ d.2 = true := by
      have h : ∀ d : D, dS d = 61 → (d.2 = true ∨ copy d.1 = true) → dS d = 61 ∧ dix d = 1 ∧ wpos d = 0 ∧ d.2 = true := by decide +kernel
      intro d hd
      obtain ⟨-, h1, -, h2⟩ := Finset.mem_filter.mp hd
      refine h d h1 ?_
      unfold dAct at h2
      by_cases hb : d.2 = true
      · exact Or.inl hb
      · rw [if_neg hb, Bool.and_eq_true] at h2; exact Or.inr h2.1
    have hrest : ∀ d : D, wpos d = 0 → d.2 = true ∨ copy d.1 = true → dS d = 61 ∧ rd d.1 = 0 := by decide +kernel
    refine BIBase.Entails.trans (BI.bigSep_mono (Ψ := fun d => iprop((if d ∈ dut c 61 0 then cred (tallyAt (kcell c 61) 1 (amt d.1)) else iprop(emp)) ∗ CrdF (F := F) c 4 1 d)) fun d _ => ?_) ?_
    · by_cases hd : d ∈ dut c 61 0
      · obtain ⟨h1, h2, h3, h4⟩ := hbar d hd
        have hd' := (Finset.mem_filter.mp hd).2.2.2
        rw [if_pos hd]
        unfold CrdF
        rw [if_pos ⟨hd', Nat.zero_le _, fun h => absurd (h4.symm.trans h) (by decide)⟩, if_neg (by omega), h1, h2]
        exact (sep_emp (PROP := sProp 𝕄)).2
      · rw [if_neg hd]
        have : CrdF (F := F) c 4 1 d = CrdF c 4 0 d := by
          unfold CrdF
          refine if_congr ⟨fun h => ⟨h.1, Nat.zero_le _, h.2.2⟩, fun h => ⟨h.1, ?_, h.2.2⟩⟩ rfl rfl
          by_contra hc
          have h0 : wpos d = 0 := by omega
          have ht : d.2 = true ∨ copy d.1 = true := by
            by_cases hb : d.2 = true
            · exact Or.inl hb
            · have h2 := h.1
              unfold dAct at h2
              rw [if_neg hb, Bool.and_eq_true] at h2; exact Or.inr h2.1
          exact hd (Finset.mem_filter.mpr ⟨Finset.mem_univ _, (hrest d h0 ht).1, (hrest d h0 ht).2, h.1⟩)
        rw [this]
        exact (emp_sep (PROP := sProp 𝕄)).2
    · refine BIBase.Entails.trans (Entails.of_eq (BI.bigSep_sep' _ _ _)) (sep_mono_left ?_)
      refine BIBase.Entails.trans (Entails.of_eq (BI.bigSep_filter Finset.univ (· ∈ dut c 61 0) fun d => cred (tallyAt (kcell c 61) 1 (amt d.1))).symm) ?_
      rw [Finset.filter_mem_eq_inter, Finset.univ_inter]
      generalize dut c 61 0 = S
      induction S using Finset.induction_on with
      | empty => rw [BI.bigSep_empty, Finset.sum_empty, tallyAt_zero]; rw [cred_zero]; exact BIBase.Entails.rfl
      | insert d S hd ih =>
        rw [sep_insert hd, Finset.sum_insert hd, ← tallyAt_add]
        exact BIBase.Entails.trans (sep_mono_right ih) (cred_add _ _).2
  iintro ⟨#HI, HS⟩ Hk
  unfold St
  icases HS with ⟨⟨%W, HO⟩, HT, HC, HP⟩
  ihave HC := hcr $$ HC
  icases HC with ⟨Hc, HC⟩
  ihave HP := (BI.bigSep_univ_update (Φ := PosF e c 0) (Ψ := PosF e c 1) 61 (fun k hk' => PosF_wait e c (0, true) waits_first k (Or.inl hk'))) $$ HP
  icases HP with ⟨Hp, HP⟩
  ihave Hp := (Entails.of_eq (PosF_bar e c hcnt)) $$ Hp
  icases Hp with ⟨Hat, -⟩
  ihave #Hi := (Inv_cell e c 61) $$ HI
  iapply (Rounds.wp_wait_rest_token 𝒱₀ EB (Rd e.X e.A) (c : Thread nD τ) none (κ := e.κ (c, 61)) hw (Set.mem_univ _) 1
      (O := Oat c 4) (W := W) (R := 0) (m := 0) (T := ∅) (by
        show _ = ∑ d' ∈ (Rd (F := F) e.X e.A).duties (kcell c 61) 0, amt d'.1
        rw [duties_kcell, Nat.zero_add])) $$ [Hc HO Hat]
  · isplitr; · iexact Hi
    isplitl [Hc]; · iexact Hc
    isplitl [HO]; · iexact HO
    isplitr; · iapply (inv_mayWait e (by decide) (by decide) (by decide)); iexact HI
    iexact Hat
  iintro ⟨HO, Hat, Hr, Hpay⟩
  iapply Hk
  isplitr [Hpay]
  · isplitl [HO]; · iexists _; iexact HO
    isplitl [HT]; · iexact HT
    isplitl [HC]; · iexact HC
    iapply HP
    iapply (Entails.of_eq (PosF_bar e c hcnt').symm)
    isplitl [Hat] <;> iassumption
  · iapply (Entails.of_eq (show bigSep ((Rd (F := F) e.X e.A).duties (kcell c 61) 0 \ ∅) (fun d' => (Rd e.X e.A).payload (kcell c 61) 0 d') = bigSep (dut c 61 0) (dpay e c) by
      rw [duties_kcell, Finset.sdiff_empty]; rfl))
    iexact Hpay

/-- The first of a credit semaphore's two waits gives what both its credits say. -/
theorem credit_first {Q : α → sProp 𝕄} {n j : ℕ} (d : D) (h0 : 0 < j) (hj : waits[j]? = some d) (hn : nat j = n)
    (hk : 57 ≤ (dS d).val ∧ (dS d).val ≤ 60) (hw0 : crdW d = 0) {sem : Sem sig} (hs : SemLoc.reg sem = csem (dS d))
    {Fr : sProp 𝕄} [BI.Persistent Fr] (hFr : ∀ d' ∈ dut c (dS d) 0, recvPay e.X e.A d'.1 c ⊢ Fr)
    {k : PUnit → Prog (TpuEff nD τ sig (Elt F) Λ₀ .tc) α} :
    iprop(Inv e ∗ St e c n j) ⊢ iprop((St e c n (j + 1) ∗ Fr -∗ WP c (k ⟨⟩) Q) -∗ WP c (.op (.semWait sem 1) k) Q) := by
  obtain ⟨hi, h4, hf, h60⟩ := wait_facts ⟨j, lt_of_wait hj⟩ d hj
  obtain ⟨hd2, ha, hr0, hcp, -⟩ := crd_facts c d hk
  have hcnt : cnt c (dS d) j = 0 := (cnt_crd c ⟨j, lt_of_wait hj⟩ d hj hk).trans hw0
  have hcnt' : cnt c (dS d) (j + 1) = 1 := by rw [cnt_succ c _ hj, if_pos ⟨rfl, ha⟩, hcnt]
  have h1 : amt d.1 = 1 := amt_signal hcp
  subst hn
  iintro ⟨#HI, HS⟩ Hk
  unfold St
  icases HS with ⟨⟨%W, HO⟩, HT, HC, HP⟩
  ihave HC := (CrdF_take c d h0 hj rfl ha) $$ HC
  icases HC with ⟨Hc, HC⟩
  ihave HP := (BI.bigSep_univ_update (Φ := PosF e c j) (Ψ := PosF e c (j + 1)) (dS d) (fun k hk' => PosF_wait e c d hj k (Or.inl hk'))) $$ HP
  icases HP with ⟨Hat, HP⟩
  ihave Hat := (Entails.of_eq (PosF_crd0 e c hk hcnt)) $$ Hat
  ihave #Hi := (Inv_cell e c (dS d)) $$ HI
  iapply (Rounds.wp_wait 𝒱₀ EB (Rd e.X e.A) (c : Thread nD τ) none (κ := e.κ (c, dS d)) (sm := csem (dS d)) (k' := 1)
      (fun K => (wpE_semWait_eq 𝒱₀ (c : Thread nD τ) none Set.univ K).trans (by rw [hs])) (Set.mem_univ _)
      (cr := Finsupp.single (dix d) 1) (O := Oat c (nat j)) (W := W) {(csem (dS d), dix d)} (R := 0) (m := 0) (T := ∅)
      (Util.total_single _ _) (image_single_subset (csem (dS d)) (dix d) 1)) $$ [Hc HO Hat]
  · isplitr; · iexact Hi
    isplitl [Hc]; · (iapply (Entails.of_eq (show cred (tallyAt (kcell c (dS d)) (dix d) (amt d.1)) = (cred (tallyAt (kcell c (dS d)) (dix d) 1) : sProp 𝕄) by rw [h1])); iexact Hc)
    isplitl [HO]; · iexact HO
    isplitr; · iapply (inv_mayWait e h4 hi h60); iexact HI
    iexact Hat
  iintro %S ⟨%hS, HO, Hat, Hpay⟩
  obtain ⟨-, hS1, hS2⟩ := hS
  rw [duties_kcell] at hS1 hS2
  have hex : (Rd (F := F) e.X e.A).expect (kcell c (dS d)) 0 = 2 := by
    show ∑ d' ∈ (Rd (F := F) e.X e.A).duties (kcell c (dS d)) 0, amt d'.1 = 2
    rw [duties_kcell, ← crd_card c (dS d) hk, Finset.card_eq_sum_ones]
    refine Finset.sum_congr rfl fun d' hd' => amt_signal (crd_facts c d' ?_).2.2.2.1
    rw [(Finset.mem_filter.mp hd').2.1]; exact hk
  have hne : S.Nonempty := by
    rw [hex] at hS2
    rw [Finset.nonempty_iff_ne_empty]
    rintro rfl
    rw [Finset.sdiff_empty, crd_card c (dS d) hk] at hS2
    omega
  obtain ⟨d', hd'⟩ := hne
  have hpe : bigSep (S \ ∅) (fun d' => (Rd (F := F) e.X e.A).payload (kcell c (dS d)) 0 d') = bigSep S fun d' => recvPay e.X e.A d'.1 c := by
    rw [Finset.sdiff_empty]
    refine BI.bigSep_congr fun d'' hd'' => payload_recv e c _ _ d'' (crd_facts c d'' ?_).1
    rw [(Finset.mem_filter.mp (hS1 hd'')).2.1]; exact hk
  ihave Hpay := (Entails.of_eq hpe) $$ Hpay
  ihave Hpay := (sep_persist (R := Fr) hd' (hFr d' (hS1 hd'))) $$ Hpay
  icases Hpay with ⟨Hpay, #Hfr⟩
  iapply Hk
  isplitl
  · isplitl [HO]; · iexists _; iexact HO
    isplitl [HT]; · iexact HT
    isplitl [HC]; · iexact HC
    iapply HP
    iapply (Entails.of_eq (PosF_crd1 e c hk hcnt').symm)
    iexists S
    isplitr; · (ipureintro; exact hS1)
    isplitl [Hat]; · iexact Hat
    iexact Hpay
  · iexact Hfr

/-- The second gives all that the credits say. -/
theorem credit_second {Q : α → sProp 𝕄} {n j : ℕ} (d : D) (h0 : 0 < j) (hj : waits[j]? = some d) (hn : nat j = n)
    (hk : 57 ≤ (dS d).val ∧ (dS d).val ≤ 60) (hw1 : crdW d = 1) {sem : Sem sig} (hs : SemLoc.reg sem = csem (dS d))
    {k : PUnit → Prog (TpuEff nD τ sig (Elt F) Λ₀ .tc) α} :
    iprop(Inv e ∗ St e c n j) ⊢ iprop((St e c n (j + 1) ∗ recvPay e.X e.A d.1 c -∗ WP c (k ⟨⟩) Q) -∗ WP c (.op (.semWait sem 1) k) Q) := by
  obtain ⟨hi, h4, hf, h60⟩ := wait_facts ⟨j, lt_of_wait hj⟩ d hj
  obtain ⟨hd2, ha, hr0, hcp, -⟩ := crd_facts c d hk
  have hcnt : cnt c (dS d) j = 1 := (cnt_crd c ⟨j, lt_of_wait hj⟩ d hj hk).trans hw1
  have hcnt' : cnt c (dS d) (j + 1) = 2 := by rw [cnt_succ c _ hj, if_pos ⟨rfl, ha⟩, hcnt]
  have h1 : amt d.1 = 1 := amt_signal hcp
  have hex : (Rd (F := F) e.X e.A).expect (kcell c (dS d)) 0 = 2 := by
    show ∑ d' ∈ (Rd (F := F) e.X e.A).duties (kcell c (dS d)) 0, amt d'.1 = 2
    rw [duties_kcell, ← crd_card c (dS d) hk, Finset.card_eq_sum_ones]
    refine Finset.sum_congr rfl fun d' hd' => amt_signal (crd_facts c d' ?_).2.2.2.1
    rw [(Finset.mem_filter.mp hd').2.1]; exact hk
  subst hn
  iintro ⟨#HI, HS⟩ Hk
  unfold St
  icases HS with ⟨⟨%W, HO⟩, HT, HC, HP⟩
  ihave HC := (CrdF_take c d h0 hj rfl ha) $$ HC
  icases HC with ⟨Hc, HC⟩
  ihave HP := (BI.bigSep_univ_update (Φ := PosF e c j) (Ψ := PosF e c (j + 1)) (dS d) (fun k hk' => PosF_wait e c d hj k (Or.inl hk'))) $$ HP
  icases HP with ⟨Hat, HP⟩
  ihave Hat := (Entails.of_eq (PosF_crd1 e c hk hcnt)) $$ Hat
  icases Hat with ⟨%S, %hS, Hat, HpS⟩
  ihave #Hi := (Inv_cell e c (dS d)) $$ HI
  iapply (Rounds.wp_wait_rest_token 𝒱₀ EB (Rd e.X e.A) (c : Thread nD τ) none (κ := e.κ (c, dS d)) (sm := csem (dS d)) (k' := 1)
      (fun K => (wpE_semWait_eq 𝒱₀ (c : Thread nD τ) none Set.univ K).trans (by rw [hs])) (Set.mem_univ _) (dix d)
      (O := Oat c (nat j)) (W := W) (R := 0) (m := 1) (T := S) (by rw [hex])) $$ [Hc HO Hat]
  · isplitr; · iexact Hi
    isplitl [Hc]; · (iapply (Entails.of_eq (show cred (tallyAt (kcell c (dS d)) (dix d) (amt d.1)) = (cred (tallyAt (kcell c (dS d)) (dix d) 1) : sProp 𝕄) by rw [h1])); iexact Hc)
    isplitl [HO]; · iexact HO
    isplitr; · iapply (inv_mayWait e h4 hi h60); iexact HI
    iexact Hat
  iintro ⟨HO, Hat, -, Hpay⟩
  have hpe : bigSep ((Rd (F := F) e.X e.A).duties (kcell c (dS d)) 0 \ S) (fun d' => (Rd (F := F) e.X e.A).payload (kcell c (dS d)) 0 d') = bigSep (dut c (dS d) 0 \ S) fun d' => recvPay e.X e.A d'.1 c := by
    rw [duties_kcell]
    refine BI.bigSep_congr fun d'' hd'' => payload_recv e c _ _ d'' (crd_facts c d'' ?_).1
    rw [(Finset.mem_filter.mp (Finset.mem_sdiff.mp hd'').1).2.1]; exact hk
  ihave Hpay := (Entails.of_eq hpe) $$ Hpay
  iapply Hk
  isplitr [Hpay HpS]
  · isplitl [HO]; · iexists _; iexact HO
    isplitl [HT]; · iexact HT
    isplitl [HC]; · iexact HC
    iapply HP
    iapply (Entails.of_eq (PosF_crd2 e c hk hcnt').symm)
    iexact Hat
  · by_cases hm : d ∈ S
    · iapply (sep_elim (Φ := fun d' : D => recvPay e.X e.A d'.1 c) hm); iexact HpS
    · iapply (sep_elim (Φ := fun d' : D => recvPay e.X e.A d'.1 c) (Finset.mem_sdiff.mpr ⟨hr0 ▸ mem_dut ha, hm⟩)); iexact Hpay

/-- What a device's waits so far have reached. -/
theorem St_reached {n j r : ℕ} (k : Fin 62) (hk : k.val < 57) (hr : cnt c k j = r) :
    St e c n j ⊢ iprop(St e c n j ∗ reached EB (kcell c k) r) := by
  unfold St
  iintro ⟨HO, HT, HC, HP⟩
  ihave HP := (BI.bigSep_univ_update (Φ := PosF e c j) (Ψ := PosF e c j) k (fun _ _ => rfl)) $$ HP
  icases HP with ⟨Hp, HP⟩
  ihave Hp := (Entails.of_eq (PosF_plain e c hk hr)) $$ Hp
  icases Hp with ⟨Hat, #Hrs⟩
  isplitr []
  · isplitl [HO]; · iexact HO
    isplitl [HT]; · iexact HT
    isplitl [HC]; · iexact HC
    iapply HP
    iapply (Entails.of_eq (PosF_plain e c hk hr).symm)
    isplitl [Hat]; · iexact Hat
    iexact Hrs
  · iexact Hrs

/-- A region whose contents are used up is offered again. -/
theorem release {s : Shape} {dst : Memref sig .tc .vmem s .f32} (k : Fin 29) (hreg : reg (F := F) c k = Slot c dst)
    (hne : dst.view.set.Nonempty) (m : ℕ) :
    iprop(Inv e ∗ readerAt EK (c, k) m ∗ Slot c dst) ⊢ (|={Set.univ}=> (readerAt EK (c, k) (m + 1) ∗ released EK (c, k) (m + 1)) : sProp 𝕄) := by
  iintro ⟨#HI, Hr, HS⟩
  ihave #Hsl := (Inv_slot e c k) $$ HI
  iapply (slot_release EK (Set.mem_univ (e.ι (c, k))) (S := reg c k) (by rw [hreg]; exact slot_slot_false hne) m)
  isplitr; · iexact Hsl
  isplitl [Hr]; · iexact Hr
  iapply (Entails.of_eq hreg.symm); iexact HS

end Steps

end Cert.Gather

end
-- ==== Proof.Ops.lean ====
/-
Conditional steps, and the steps of the kernel as its parts use them.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Conditional resources -/

/-- `P`, where the condition holds. -/
def Whn (b : Bool) (P : sProp 𝕄) : sProp 𝕄 := if b = true then P else iprop(emp)

instance Whn_persistent (b : Bool) (P : sProp 𝕄) [BI.Persistent P] : BI.Persistent (Whn b P) := by unfold Whn; split <;> infer_instance

/-- Where the condition holds, `P` itself, -/
theorem Whn_true {b : Bool} (h : b = true) (P : sProp 𝕄) : Whn b P = P := if_pos h
/-- and where it does not, nothing. -/
theorem Whn_false {b : Bool} (h : b = false) (P : sProp 𝕄) : Whn b P = iprop(emp) := if_neg (by rw [h]; decide)
/-- `P` may always be kept under a condition. -/
theorem Whn_of {b : Bool} (P : sProp 𝕄) : P ⊢ Whn b P := by
  cases b
  · rw [Whn_false rfl]; iintro -; iempintro
  · rw [Whn_true rfl]

/-- Either the condition holds or it does not. -/
theorem Whn_split (b : Bool) (P : sProp 𝕄) : P ⊣⊢ iprop(Whn b P ∗ Whn (!b) P) := by
  cases b
  · rw [Whn_false rfl, Whn_true (b := !false) rfl]; exact ⟨(emp_sep (PROP := sProp 𝕄)).2, (emp_sep (PROP := sProp 𝕄)).1⟩
  · rw [Whn_true rfl, Whn_false (b := !true) rfl]; exact ⟨(sep_emp (PROP := sProp 𝕄)).2, (sep_emp (PROP := sProp 𝕄)).1⟩
/-- What follows from `P` follows under the condition, -/
theorem Whn_mono {b : Bool} {P R : sProp 𝕄} (h : P ⊢ R) : Whn b P ⊢ Whn b R := by
  cases b
  · rw [Whn_false rfl, Whn_false rfl]
  · rw [Whn_true rfl, Whn_true rfl]; exact h
/-- and two things under it are each under it. -/
theorem Whn_sep (b : Bool) (P R : sProp 𝕄) : Whn b iprop(P ∗ R) ⊣⊢ iprop(Whn b P ∗ Whn b R) := by
  cases b
  · simp only [Whn_false]; exact ⟨(emp_sep (PROP := sProp 𝕄)).2, (emp_sep (PROP := sProp 𝕄)).1⟩
  · simp only [Whn_true]; exact ⟨BIBase.Entails.rfl, BIBase.Entails.rfl⟩
/-- A condition and the part of it where a second one holds. -/
theorem Whn_part {a b : Bool} (h : b = true → a = true) (P : sProp 𝕄) : Whn a P ⊣⊢ iprop(Whn b P ∗ Whn (a && !b) P) := by
  cases b
  · rw [show (a && !false) = a by simp, Whn_false rfl]; exact ⟨(emp_sep (PROP := sProp 𝕄)).2, (emp_sep (PROP := sProp 𝕄)).1⟩
  · rw [h rfl, Whn_true rfl, Whn_false (b := true && !true) rfl]; exact ⟨(sep_emp (PROP := sProp 𝕄)).2, (sep_emp (PROP := sProp 𝕄)).1⟩

section Ops
variable (e : Env F) (c : Dev nD) {α : Type}

/-- The payload of a duty, where there is that duty. -/
def Got (d : D) : sProp 𝕄 := Whn (dAct d c) (dpay e c d)

/-! ## Programs in sequence and under conditions -/

/-- One program after another. -/
theorem wp_then {β : Type} {P R : sProp 𝕄} {p : Prog (TpuEff nD τ sig (Elt F) Λ₀ .tc) β} {K : β → Prog (TpuEff nD τ sig (Elt F) Λ₀ .tc) α} {Q : α → sProp 𝕄}
    (h : P ⊢ WP c p (fun x => WP c (K x) Q)) : P ⊢ WP c (p.bind K) Q := by
  show P ⊢ WP c (p >>= K) Q
  unfold WP; rw [wp_bind]; exact h

/-- A conditional step. -/
theorem wp_cond {P R : sProp 𝕄} {Q : α → sProp 𝕄} {p : Prop} [Decidable p] {A : p → Prog (TpuEff nD τ sig (Elt F) Λ₀ .tc) α} {K : Prog (TpuEff nD τ sig (Elt F) Λ₀ .tc) α}
    (hA : ∀ h : p, P ⊢ iprop((R -∗ WP c K Q) -∗ WP c (A h) Q)) (hB : ¬p → P ⊢ R) :
    P ⊢ iprop((R -∗ WP c K Q) -∗ WP c (dite p A fun _ => K) Q) := by
  by_cases h : p
  · rw [dif_pos h]; exact hA h
  · rw [dif_neg h]
    iintro HP Hk
    iapply Hk
    iapply (hB h); iexact HP

/-! ## What the neighbours have offered -/

/-- The device and those it met at entry have offered their regions. -/
def Nbr : sProp 𝕄 := iprop(RA c ∗ RA (prv c) ∗ RA (nxt c) ∗ Whn (decide (0 < c.val / 4)) (RA (dn c)) ∗ Whn (decide (c.val / 4 < 3)) (RA (up c)))

instance Nbr_persistent : BI.Persistent (Nbr (F := F) c) := by unfold Nbr; infer_instance

/-- A region's first write may be made as soon as its device has been met at entry. -/
theorem Nbr_free (μ : Fin 49) (hc : copy μ = true) (h34 : μ.val < 34) (hr : rd μ = 0) (ha : act μ c = true) :
    iprop(Inv e ∗ Nbr c) ⊢ free (mv μ c) (ky μ c) (rs μ) (rd μ) := by
  have h : ∀ (μ : Fin 49) (c : Dev nD), copy μ = true → μ.val < 34 → rd μ = 0 → act μ c = true → written (mv μ c) (ky μ c) = true
      ∧ (mv μ c = prv c ∨ mv μ c = nxt c ∨ (mv μ c = dn c ∧ 0 < c.val / 4) ∨ (mv μ c = up c ∧ c.val / 4 < 3)) := by decide +kernel
  obtain ⟨hw, hm⟩ := h μ c hc h34 hr ha
  rw [hr]
  refine BIBase.Entails.trans (sep_mono_right ?_) (RA_free e (mv μ c) (ky μ c) (rs μ) hw)
  unfold Nbr
  rcases hm with h | h | ⟨h, hz⟩ | ⟨h, hz⟩
  · rw [h]; iintro ⟨-, H, -⟩; iexact H
  · rw [h]; iintro ⟨-, -, H, -⟩; iexact H
  · rw [h, Whn_true (decide_eq_true hz)]; iintro ⟨-, -, -, H, -⟩; iexact H
  · rw [h, Whn_true (decide_eq_true hz)]; iintro ⟨-, -, -, -, H⟩; iexact H

/-- The device in the middle of its run: `n` messages paid, `j` waits done. -/
def Run (n j : ℕ) : sProp 𝕄 := iprop(Inv e ∗ Nbr c ∗ St e c n j)

/-! ## Waits for copies -/

def okWait (n j : ℕ) (d : D) : Bool := decide (0 < j) && decide (waits[j]? = some d) && decide (nat j = n) && decide ((dS d).val < 57)

/-- A wait for a copy hands over what the copy brings or gives back. -/
theorem dma_wait {Q : α → sProp 𝕄} (n j : ℕ) (d : D) (hok : okWait n j d = true) (ha : dAct d c = true)
    {sem : DmaSem sig} {s s' : Shape} {sp sp' : Space} {src : Memref sig .tc sp s .f32} {dst : Memref sig .tc sp' s' .f32} {h1 h2}
    (hs : SemLoc.dma sem = csem (dS d) ∧ dst.view.dmaCredit = amt d.1)
    {k : PUnit → Prog (TpuEff nD τ sig (Elt F) Λ₀ .tc) α} :
    Run e c n j ⊢ iprop((Run e c n (j + 1) ∗ dpay e c d -∗ WP c (k ⟨⟩) Q) -∗ WP c (.op (.waitDma2 sem src dst h1 h2) k) Q) := by
  obtain ⟨hsem, hamt⟩ := hs
  unfold okWait at hok
  simp only [Bool.and_eq_true, decide_eq_true_eq] at hok
  obtain ⟨⟨⟨h0, hj⟩, hn⟩, hk⟩ := hok
  unfold Run
  iintro ⟨#HI, #HN, HS⟩ Hk
  iapply (wait_step e c d h0 hj hn ha hk fun K => (by
    rw [← hsem, ← hamt]
    exact wpE_waitDma2_eq 𝒱₀ (c : Thread nD τ) none Set.univ K)) $$ [HS]
  · isplitr; · iexact HI
    iexact HS
  iintro ⟨HS, Hp⟩
  iapply Hk
  isplitr [Hp]
  · isplitr; · iexact HI
    isplitr; · iexact HN
    iexact HS
  iexact Hp

/-- A wait that a device does not make changes nothing in its place. -/
theorem Run_skip_wait {n j : ℕ} (d : D) (hok : okWait n j d = true) (h : dAct d c = false) : Run e c n j = Run e c n (j + 1) := by
  unfold okWait at hok
  simp only [Bool.and_eq_true, decide_eq_true_eq] at hok
  obtain ⟨⟨⟨h0, hj⟩, hn⟩, hk⟩ := hok
  unfold Run; rw [St_skip_wait e c d h0 hj h]

/-- A wait made by some devices only hands over its payload to those. -/
theorem dma_wait_if {Q : α → sProp 𝕄} (n j : ℕ) (d : D) (hok : okWait n j d = true) {p : Prop} [Decidable p] (hp : p ↔ dAct d c = true)
    {sem : DmaSem sig} {s s' : Shape} {sp sp' : Space} {src : Memref sig .tc sp s .f32} {dst : Memref sig .tc sp' s' .f32} {h1 h2}
    (hs : SemLoc.dma sem = csem (dS d) ∧ dst.view.dmaCredit = amt d.1)
    {K : Prog (TpuEff nD τ sig (Elt F) Λ₀ .tc) α} :
    Run e c n j ⊢ iprop((Run e c n (j + 1) ∗ Got e c d -∗ WP c K Q)
      -∗ WP c (dite p (fun _ => (Prog.op (TpuEff.waitDma2 sem src dst h1 h2) fun _ => K : Prog (TpuEff nD τ sig (Elt F) Λ₀ .tc) α)) fun _ => K) Q) := by
  refine wp_cond c (fun h => ?_) (fun h => ?_)
  · unfold Got; rw [Whn_true (hp.1 h)]
    exact dma_wait (k := fun _ => K) e c n j d hok (hp.1 h) hs
  · have hf : dAct d c = false := by rw [← Bool.not_eq_true, ← hp]; exact h
    unfold Got; rw [Whn_false hf, Run_skip_wait e c d hok hf]
    exact (sep_emp (PROP := sProp 𝕄)).2

/-! ## Copies -/

def okSend (μ : Fin 49) (n j : ℕ) : Bool := decide (μ.val = n) && copy μ && decide (jat μ = j)

/-- A copy pays its message, into a region that is free. -/
theorem dma_send {Q : α → sProp 𝕄} (n j : ℕ) (μ : Fin 49) (hok : okSend μ n j = true) (ha : act μ c = true)
    {c' : Dev nD} {s : Shape} {src dst : Memref sig .tc .vmem s .f32} {hsc : dst.view.ref.isScScratch = false}
    {sS sem : SemLoc sig} {q : PosShare TreeShare} {Y : s.Idx → Elt F .f32} {R : sProp 𝕄} (hc' : c' = mv μ c)
    (hs : (sS = csem (ss μ) ∧ sem = csem (rs μ)) ∧ reg (F := F) c' (ky μ c) = Slot c' dst ∧ dst.view.amount sem = amt μ)
    (hp : (owns (c : Thread nD τ) src q Y ⊢ sendBy e.X e.A μ c (org μ c)) ∧ (iprop(owns (c' : Thread nD τ) dst fullShare Y ∗ R) ⊢ recvBy e.X e.A μ c' c (org μ c)))
    {hsrc : src.view.WordExact} {hdst : dst.view.WordExact} {ht : DmaTarget.Typed .vmem sem (.remote (c' : Thread nD τ) dst sS hsc)}
    {k : PUnit → Prog (TpuEff nD τ sig (Elt F) Λ₀ .tc) α} :
    iprop(Run e c n j ∗ owns (c : Thread nD τ) src q Y ∗ R ∗ free (mv μ c) (ky μ c) (rs μ) (rd μ))
      ⊢ iprop((Run e c (n + 1) j -∗ WP c (k ⟨⟩) Q)
        -∗ WP c (.op (.enqueueDma src (.remote (c' : Thread nD τ) dst sS hsc) sem hsrc hdst ht) k) Q) := by
  unfold okSend at hok
  simp only [Bool.and_eq_true, decide_eq_true_eq] at hok
  obtain ⟨⟨hn, hc⟩, hj⟩ := hok
  obtain ⟨⟨hsS, hsem⟩, hreg, hN⟩ := hs
  obtain ⟨hsend, hrecv⟩ := hp
  unfold Run
  iintro ⟨⟨#HI, #HN, HS⟩, Ho, HR, Hf⟩ Hk
  iapply (send_step e c μ hn ha hc hj hc' hsS hsem hreg hN hsend hrecv) $$ [HS Ho HR Hf]
  · isplitr; · iexact HI
    isplitl [HS]; · iexact HS
    isplitl [Ho]; · iexact Ho
    isplitl [HR]; · iexact HR
    rw [hc']; iexact Hf
  iintro HS
  iapply Hk
  isplitr; · iexact HI
  isplitr; · iexact HN
  iexact HS

/-- A copy into a region which a neighbour has offered. -/
theorem send_first {Q : α → sProp 𝕄} (n j : ℕ) (μ : Fin 49) (hok : okSend μ n j = true) (hr : (decide (μ.val < 34) && decide (rd μ = 0)) = true) (ha : act μ c = true)
    {c' : Dev nD} {s : Shape} {src dst : Memref sig .tc .vmem s .f32} {hsc : dst.view.ref.isScScratch = false}
    {sS sem : SemLoc sig} {q : PosShare TreeShare} {Y : s.Idx → Elt F .f32} (hc' : c' = mv μ c)
    (hs : (sS = csem (ss μ) ∧ sem = csem (rs μ)) ∧ reg (F := F) c' (ky μ c) = Slot c' dst ∧ dst.view.amount sem = amt μ)
    (hp : (owns (c : Thread nD τ) src q Y ⊢ sendBy e.X e.A μ c (org μ c)) ∧ (iprop(owns (c' : Thread nD τ) dst fullShare Y ∗ RA (org μ c)) ⊢ recvBy e.X e.A μ c' c (org μ c)))
    {hsrc : src.view.WordExact} {hdst : dst.view.WordExact} {ht : DmaTarget.Typed .vmem sem (.remote (c' : Thread nD τ) dst sS hsc)}
    {k : PUnit → Prog (TpuEff nD τ sig (Elt F) Λ₀ .tc) α} :
    iprop(Run e c n j ∗ owns (c : Thread nD τ) src q Y ∗ RA (org μ c))
      ⊢ iprop((Run e c (n + 1) j -∗ WP c (k ⟨⟩) Q)
        -∗ WP c (.op (.enqueueDma src (.remote (c' : Thread nD τ) dst sS hsc) sem hsrc hdst ht) k) Q) := by
  have hok' := hok
  unfold okSend at hok'
  simp only [Bool.and_eq_true, decide_eq_true_eq] at hok' hr
  have hf : Run e c n j ⊢ free (mv μ c) (ky μ c) (rs μ) (rd μ) := by
    refine BIBase.Entails.trans ?_ (Nbr_free e c μ hok'.1.2 hr.1 hr.2 ha)
    unfold Run; iintro ⟨#HI, #HN, -⟩
    isplitr; · iexact HI
    iexact HN
  iintro ⟨HS, Ho, HR⟩ Hk
  ihave #Hf := hf $$ HS
  iapply (dma_send e c n j μ hok ha hc' hs hp) $$ [HS Ho HR]
  · isplitl [HS]; · iexact HS
    isplitl [Ho]; · iexact Ho
    isplitl [HR]; · iexact HR
    iexact Hf
  iexact Hk

/-- A message that a device does not send changes nothing in its place. -/
theorem Run_skip_pay {n j : ℕ} (μ : Fin 49) (hμ : μ.val = n) (h : act μ c = false) : Run e c n j = Run e c (n + 1) j := by
  unfold Run; rw [St_skip_pay e c μ hμ h]

/-- A conditional message. -/
theorem msg_if {Q : α → sProp 𝕄} {n j : ℕ} (μ : Fin 49) (hμ : μ.val = n) {p : Prop} [Decidable p] (hp : p ↔ act μ c = true) {R : sProp 𝕄}
    {A : p → Prog (TpuEff nD τ sig (Elt F) Λ₀ .tc) α} {K : Prog (TpuEff nD τ sig (Elt F) Λ₀ .tc) α}
    (hA : ∀ h : p, iprop(Run e c n j ∗ R) ⊢ iprop((Run e c (n + 1) j -∗ WP c K Q) -∗ WP c (A h) Q)) :
    iprop(Run e c n j ∗ Whn (act μ c) R) ⊢ iprop((Run e c (n + 1) j -∗ WP c K Q) -∗ WP c (dite p A fun _ => K) Q) := by
  refine wp_cond c (fun h => ?_) (fun h => ?_)
  · rw [Whn_true (hp.1 h)]; exact hA h
  · have hf : act μ c = false := by rw [← Bool.not_eq_true, ← hp]; exact h
    rw [Run_skip_pay e c μ hμ hf]
    iintro ⟨HS, -⟩; iexact HS

/-! ## Credits -/

/-- A credit paid to the writer of a region. -/
theorem credit_pay {Q : α → sProp 𝕄} (n j : ℕ) (μ : Fin 49) (hok : (decide (μ.val = n) && !copy μ && decide (rd μ = 0)) = true) (ha : act μ c = true)
    {c' : Dev nD} {sem : Sem sig} {R : sProp 𝕄} (hc' : c' = mv μ c) (hs : SemLoc.reg sem = csem (rs μ)) (hR : R ⊢ recvBy e.X e.A μ c' c (org μ c))
    {k : PUnit → Prog (TpuEff nD τ sig (Elt F) Λ₀ .tc) α} :
    iprop(Run e c n j ∗ R) ⊢ iprop((Run e c (n + 1) j -∗ WP c (k ⟨⟩) Q) -∗ WP c (.op (.semSignal (c' : Thread nD τ) sem 1) k) Q) := by
  simp only [Bool.and_eq_true, decide_eq_true_eq, Bool.not_eq_true'] at hok
  obtain ⟨⟨hn, hc⟩, hr⟩ := hok
  unfold Run
  iintro ⟨⟨#HI, #HN, HS⟩, HR⟩ Hk
  iapply (signal_step e c μ hn ha hc hc' hs hr) $$ [HS HR]
  · isplitr; · iexact HI
    isplitl [HS]; · iexact HS
    iapply hR; iexact HR
  iintro HS
  iapply Hk
  isplitr; · iexact HI
  isplitr; · iexact HN
  iexact HS

def okCred (n j : ℕ) (d : D) (w : ℕ) : Bool :=
  decide (0 < j) && decide (waits[j]? = some d) && decide (nat j = n) && decide (57 ≤ (dS d).val ∧ (dS d).val ≤ 60) && decide (crdW d = w)

/-- The first wait at a credit semaphore takes one of the two credits, -/
theorem credit_wait_first {Q : α → sProp 𝕄} (n j : ℕ) (d : D) (hok : okCred n j d 0 = true) {Fr : sProp 𝕄} [BI.Persistent Fr]
    (hFr : ∀ d' ∈ dut c (dS d) 0, recvPay e.X e.A d'.1 c ⊢ Fr) {sem : Sem sig} (hs : SemLoc.reg sem = csem (dS d))
    {k : PUnit → Prog (TpuEff nD τ sig (Elt F) Λ₀ .tc) α} :
    Run e c n j ⊢ iprop((Run e c n (j + 1) ∗ Fr -∗ WP c (k ⟨⟩) Q) -∗ WP c (.op (.semWait sem 1) k) Q) := by
  unfold okCred at hok
  simp only [Bool.and_eq_true, decide_eq_true_eq] at hok
  obtain ⟨⟨⟨⟨h0, hj⟩, hn⟩, hk⟩, hw⟩ := hok
  unfold Run
  iintro ⟨#HI, #HN, HS⟩ Hk
  iapply (credit_first e c d h0 hj hn hk hw hs hFr) $$ [HS]
  · isplitr; · iexact HI
    iexact HS
  iintro ⟨HS, #Hp⟩
  iapply Hk
  isplitl
  · isplitr; · iexact HI
    isplitr; · iexact HN
    iexact HS
  iexact Hp

/-- and the second the other. -/
theorem credit_wait_second {Q : α → sProp 𝕄} (n j : ℕ) (d : D) (hok : okCred n j d 1 = true) {sem : Sem sig} (hs : SemLoc.reg sem = csem (dS d))
    {k : PUnit → Prog (TpuEff nD τ sig (Elt F) Λ₀ .tc) α} :
    Run e c n j ⊢ iprop((Run e c n (j + 1) ∗ recvPay e.X e.A d.1 c -∗ WP c (k ⟨⟩) Q) -∗ WP c (.op (.semWait sem 1) k) Q) := by
  unfold okCred at hok
  simp only [Bool.and_eq_true, decide_eq_true_eq] at hok
  obtain ⟨⟨⟨⟨h0, hj⟩, hn⟩, hk⟩, hw⟩ := hok
  unfold Run
  iintro ⟨#HI, #HN, HS⟩ Hk
  iapply (credit_second e c d h0 hj hn hk hw hs) $$ [HS]
  · isplitr; · iexact HI
    iexact HS
  iintro ⟨HS, Hp⟩
  iapply Hk
  isplitr [Hp]
  · isplitr; · iexact HI
    isplitr; · iexact HN
    iexact HS
  iexact Hp

/-- A region offered again, with the round its semaphore has reached. -/
theorem offer {s : Shape} {dst : Memref sig .tc .vmem s .f32} (n j : ℕ) (k : Fin 29) (q : Fin 62) (hreg : reg (F := F) c k = Slot c dst)
    (hne : dst.view.set.Nonempty) (m : ℕ) (hq : q.val < 57) (hm : cnt c q j = m) :
    iprop(Run e c n j ∗ readerAt EK (c, k) m ∗ Slot c dst) ⊢ (|={Set.univ}=> (Run e c n j ∗ readerAt EK (c, k) (m + 1) ∗ free c k q m) : sProp 𝕄) := by
  unfold Run free
  iintro ⟨⟨#HI, #HN, HS⟩, Hr, Hd⟩
  ihave HS := (St_reached e c q hq hm) $$ HS
  icases HS with ⟨HS, #Hq⟩
  imod (release e c k hreg hne m) $$ [Hr Hd] with ⟨Hr, #Hl⟩
  · isplitr; · iexact HI
    isplitl [Hr] <;> iassumption
  imodintro
  isplitl [HS]
  · isplitr; · iexact HI
    isplitr; · iexact HN
    iexact HS
  isplitl [Hr]; · iexact Hr
  isplitr; · iexact Hl
  iexact Hq

/-! ## The stage -/

/-- The stage: filled with `T`, or not yet. -/
def Sg (a : Bool) (T : S256x4096.Idx → Elt F .f32) : sProp 𝕄 := if a = true then owns (c : Thread nD τ) st fullShare T else Slot c st

/-- Filled or not, the stage is a whole buffer. -/
theorem Sg_Slot (a : Bool) (T : S256x4096.Idx → Elt F .f32) : Sg c a T ⊢ Slot c st := by
  unfold Sg; split
  · exact owns_Slot c st T
  · exact BIBase.Entails.rfl

/-- A slot may be loaded whatever it holds. -/
theorem load_Slot {Q : α → sProp 𝕄} {n : ℕ} (M : Memref sig .tc .vmem ⟨3, ![n, 256, 4096]⟩ .f32) (k : ℕ) (h)
    {hl : M.view.LoadsAt (Rect.unit (s := ⟨3, ![n, 256, 4096]⟩) ![k, 0, 0] S1x256x4096.size h).toLoadRect}
    {K : (S1x256x4096.Idx → Elt F .f32) → Prog (TpuEff nD τ sig (Elt F) Λ₀ .tc) α} :
    (Slot c (slab M k h) : sProp 𝕄)
      ⊢ iprop((∀ v, Slot c (slab M k h) -∗ WP c (K v) Q)
        -∗ WP c (.op (.load M (Rect.unit (s := ⟨3, ![n, 256, 4096]⟩) ![k, 0, 0] S1x256x4096.size h).toLoadRect hl) K) Q) := by
  iintro HS Hk
  ihave HS := (Slot_owns c _) $$ HS
  icases HS with ⟨%Y, HS⟩
  iapply (wp_load_slab c M k h) $$ HS
  iintro HS
  iapply Hk
  iapply (owns_Slot c _ _); iexact HS

/-- A step that fills the stage from a plane buffer, on the devices of certain planes. -/
theorem stage_if {Q : α → sProp 𝕄} {p : Prop} [Decidable p] {a b : Bool} (a₀ : Bool) (d t : Dev nD) (hp : p ↔ b = true) (hb : b = true → a = true ∧ d = t)
    {n : ℕ} {M : Memref sig .tc .vmem ⟨3, ![n, 256, 4096]⟩ .f32} {k : ℕ} {h} {q : PosShare TreeShare}
    {hl : M.view.LoadsAt (Rect.unit (s := ⟨3, ![n, 256, 4096]⟩) ![k, 0, 0] S1x256x4096.size h).toLoadRect}
    {hl' : stM.view.LoadsAt (Rect.unit (s := ⟨3, ![1, 256, 4096]⟩) ![0, 0, 0] S1x256x4096.size inb_S1x256x4096_S1x256x4096_0_0_0).toLoadRect}
    {w : (S1x256x4096.Idx → Elt F .f32) → S1x256x4096.Idx → Elt F .f32} (hw : ∀ Y : S256x4096.Idx → Elt F .f32, shapeCast S256x4096 (w (shapeCast S1x256x4096 Y shapeCasts_S256x4096_S1x256x4096)) shapeCasts_S1x256x4096_S256x4096 = Y)
    {hx : (stM.access (Rect.unit (s := ⟨3, ![1, 256, 4096]⟩) ![0, 0, 0] S1x256x4096.size inb_S1x256x4096_S1x256x4096_0_0_0)).Stores Finset.univ} {hm}
    {K : Prog (TpuEff nD τ sig (Elt F) Λ₀ .tc) α} :
    iprop(Whn a (owns (c : Thread nD τ) (slab M k h) q (e.X d)) ∗ Sg c a₀ (e.X t))
      ⊢ iprop((Whn a (owns (c : Thread nD τ) (slab M k h) q (e.X d)) ∗ Sg c (a₀ || b) (e.X t) -∗ WP c K Q)
        -∗ WP c (dite p (fun _ => (Prog.op (TpuEff.load M (Rect.unit (s := ⟨3, ![n, 256, 4096]⟩) ![k, 0, 0] S1x256x4096.size h).toLoadRect hl) fun v =>
          Prog.op (TpuEff.load stM (Rect.unit (s := ⟨3, ![1, 256, 4096]⟩) ![0, 0, 0] S1x256x4096.size inb_S1x256x4096_S1x256x4096_0_0_0).toLoadRect hl') fun _ =>
          Prog.op (TpuEff.store stM (Rect.unit (s := ⟨3, ![1, 256, 4096]⟩) ![0, 0, 0] S1x256x4096.size inb_S1x256x4096_S1x256x4096_0_0_0) (w v) Finset.univ hx hm) fun _ => K : Prog (TpuEff nD τ sig (Elt F) Λ₀ .tc) α)) fun _ => K) Q) := by
  refine wp_cond c (fun hh => ?_) (fun hh => ?_)
  · obtain ⟨ha, rfl⟩ := hb (hp.1 hh)
    rw [Whn_true ha, show (a₀ || b) = true by rw [hp.1 hh]; simp]
    iintro ⟨HM, HS⟩ Hk
    ihave HS := (Sg_Slot c _ _) $$ HS
    iapply (wp_load_slab c M k h) $$ HM
    iintro HM
    iapply (load_Slot c stM 0 _) $$ HS
    iintro %v HS
    iapply (wp_store_slab c stM 0 _) $$ HS
    rw [hw]
    iintro HS
    iapply Hk
    isplitl [HM]; · iexact HM
    unfold Sg; rw [if_pos rfl]; iexact HS
  · have hf : b = false := by rw [← Bool.not_eq_true, ← hp]; exact hh
    rw [hf, Bool.or_false]

/-! ## The results -/

/-- Every row block lies inside the result. -/
theorem ord_lt (m : Dev nD) : 256 * m.val + 256 ≤ 4096 := by have : m.val < 16 := m.isLt; omega

/-- The output buffer holds the first `n` products, whose row blocks' devices have offered their regions. -/
def Out (n : ℕ) : sProp 𝕄 :=
  iprop((∃ Y : S4096x128.Idx → Elt F .f32, ⌜∀ m, m < n → ∀ (r : Fin 256) (j : Fin 128),
      Y (ix2 (n0 := 4096) (n1 := 128) ⟨256 * (ord c m).val + r.val, by have := ord_lt (ord c m); omega⟩ j) = e.tile c (ord c m) (ix2 (n0 := 256) (n1 := 128) r j)⌝
    ∗ owns (c : Thread nD τ) oM fullShare Y) ∗ bigSep (Finset.range n) fun m => RA (ord c m))

/-- No row block is multiplied twice. -/
theorem ord_ne : ∀ (c : Dev nD) (n m : Fin 16), m.val < n.val → ord c m.val ≠ ord c n.val := by decide +kernel

/-- A product stored, after the load that the store replaces. -/
theorem out_put {Q : α → sProp 𝕄} (n : ℕ) (hn : n < 16) {off : Fin 2 → ℕ} (ho : off = ![256 * (ord c n).val, 0]) {h}
    {hl : oM.view.LoadsAt (Rect.unit (s := S4096x128) off S256x128.size h).toLoadRect}
    {w : S256x128.Idx → Elt F .f32} (hw : w = e.tile c (ord c n)) {hx hm} {k : PUnit → Prog (TpuEff nD τ sig (Elt F) Λ₀ .tc) α} :
    iprop(Out e c n ∗ RA (ord c n)) ⊢ iprop((Out e c (n + 1) -∗ WP c (k ⟨⟩) Q)
      -∗ WP c (.op (.load oM (Rect.unit (s := S4096x128) off S256x128.size h).toLoadRect hl) fun _ =>
        (Prog.op (TpuEff.store oM (Rect.unit (s := S4096x128) off S256x128.size h) w Finset.univ hx hm) k : Prog (TpuEff nD τ sig (Elt F) Λ₀ .tc) α)) Q) := by
  subst hw
  unfold Out
  iintro ⟨⟨⟨%Y, %hY, HO⟩, HR⟩, Hn⟩ Hk
  iapply (wp_load_full c oM _) $$ HO
  iintro HO
  iapply (wp_store_tile c off (256 * (ord c n).val) ho h) $$ HO
  iintro HO
  iapply Hk
  isplitl [HO]
  · iexists _
    isplitr
    swap; · iexact HO
    ipureintro
    intro m hm r j
    by_cases hmn : m = n
    · subst hmn
      have hr : r.val < 256 := r.isLt
      rw [dif_pos (by show 256 * (ord c m).val ≤ 256 * (ord c m).val + r.val ∧ _; constructor; omega; show 256 * (ord c m).val + r.val < _; omega)]
      refine congrArg _ (congrArg₂ ix2 (Fin.ext ?_) rfl)
      show 256 * (ord c m).val + r.val - 256 * (ord c m).val = r.val
      omega
    · have hlt : m < n := by omega
      have hne := ord_ne c ⟨n, hn⟩ ⟨m, by omega⟩ hlt
      have hv : (ord c m).val ≠ (ord c n).val := fun h => hne (Fin.ext h)
      have hr : r.val < 256 := r.isLt
      rw [dif_neg (by
        show ¬ (256 * (ord c n).val ≤ 256 * (ord c m).val + r.val ∧ 256 * (ord c m).val + r.val < 256 * (ord c n).val + 256)
        omega)]
      exact hY m hlt r j
  · rw [Finset.range_add_one, sep_insert Finset.notMem_range_self]
    isplitl [Hn]; · iexact Hn
    iexact HR

/-- The weights loaded. -/
theorem load_w {Q : α → sProp 𝕄} {hl : wM.view.LoadsAt (Rect.unit (s := S4096x128) ![0, 0] S4096x128.size inb_S4096x128_S4096x128_0_0).toLoadRect} {q : PosShare TreeShare}
    {W : S4096x128.Idx → Elt F .f32} {K : (S4096x128.Idx → Elt F .f32) → Prog (TpuEff nD τ sig (Elt F) Λ₀ .tc) α} :
    (owns (c : Thread nD τ) wM q W : sProp 𝕄) ⊢ iprop((owns (c : Thread nD τ) wM q W -∗ WP c (K W) Q)
      -∗ WP c (.op (.load wM (Rect.unit (s := S4096x128) ![0, 0] S4096x128.size inb_S4096x128_S4096x128_0_0).toLoadRect hl) K) Q) := by
  have h : (fun x => W ((Rect.unit (s := S4096x128) ![0, 0] S4096x128.size inb_S4096x128_S4096x128_0_0).emb x)) = W := by
    funext x
    refine congrArg W (funext fun a => Fin.ext ?_)
    fin_cases a
    · show 0 + 1 * (x 0).val = (x 0).val; omega
    · show 0 + 1 * (x 1).val = (x 1).val; omega
  have h2 := wp_load_full c wM (Rect.unit (s := S4096x128) ![0, 0] S4096x128.size inb_S4096x128_S4096x128_0_0) (q := q) (X := W) (hl := hl) (K := K) (Q := Q)
  rw [h] at h2
  exact h2

/-! ## Shares of a buffer -/

/-- A buffer in three shares, and back. -/
theorem owns_three {s : Shape} (m : Memref sig .tc .vmem s .f32) (Y : s.Idx → Elt F .f32) :
    (owns (c : Thread nD τ) m fullShare Y : sProp 𝕄) ⊣⊢ iprop(owns (c : Thread nD τ) m fullShare.left Y
      ∗ owns (c : Thread nD τ) m fullShare.right.left Y ∗ owns (c : Thread nD τ) m fullShare.right.right Y) :=
  ⟨BIBase.Entails.trans (owns_halves (c : Thread nD τ) m fullShare Y).1 (sep_mono_right (owns_halves (c : Thread nD τ) m fullShare.right Y).1),
   BIBase.Entails.trans (sep_mono_right (owns_halves (c : Thread nD τ) m fullShare.right Y).2) (owns_halves (c : Thread nD τ) m fullShare Y).2⟩

/-- A slot with half a share of its first rows lent out, and of its last rows. -/
theorem lend_top {n : ℕ} (M : Memref sig .tc .vmem ⟨3, ![n, 256, 4096]⟩ .f32) (k : ℕ) (h h1 h2) (Y : S256x4096.Idx → Elt F .f32) :
    (owns (c : Thread nD τ) (slab M k h) fullShare Y : sProp 𝕄) ⊣⊢ iprop(owns (c : Thread nD τ) (half M k 0 h1) fullShare.left (topOf Y)
      ∗ owns (c : Thread nD τ) (half M k 128 h2) fullShare.left (botOf Y) ∗ owns (c : Thread nD τ) (slab M k h) fullShare.right Y) :=
  ⟨BIBase.Entails.trans (owns_halves (c : Thread nD τ) _ fullShare Y).1 (BIBase.Entails.trans (sep_mono_left (owns_halved M c k h h1 h2 fullShare.left Y).1) (sep_assoc (PROP := sProp 𝕄)).1),
   BIBase.Entails.trans (BIBase.Entails.trans (sep_assoc (PROP := sProp 𝕄)).2 (sep_mono_left (owns_halved M c k h h1 h2 fullShare.left Y).2)) (owns_halves (c : Thread nD τ) _ fullShare Y).2⟩

end Ops

end Cert.Gather

end
-- ==== Proof.Contents.lean ====
/-
What each wait of a device gives it.
-/
module

public import proofs.«01_k».proof.Proof.Ops

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## What each duty of a device hands it -/

section Contents
variable (e : Env F) (c : Dev nD)

/-- The plane exchanged first is the device's own. -/
theorem so0 : so 0 c = c := by revert c; decide +kernel

section
open Idealize.ShloMosaic
/-- Message 4 brings the block of the device a plane below into the first slot from below. -/
theorem pay4 : dpay e c (4, true) = got c up0 (e.X (dn c)) (dn c) :=
  congrArg (fun d => got c up0 (e.X d) d) (by revert c; decide +kernel : org 4 ((mv 4).symm c) = dn c)
/-- Message 5 brings the block of the device a plane above into the first slot from above. -/
theorem pay5 : dpay e c (5, true) = got c dn0 (e.X (up c)) (up c) :=
  congrArg (fun d => got c dn0 (e.X d) d) (by revert c; decide +kernel : org 5 ((mv 5).symm c) = up c)
/-- Message 6 brings the block of device number 1 in the order of the products into the first slot from the predecessor. -/
theorem pay6 : dpay e c (6, true) = got c fp0 (e.X (ord c 1)) (ord c 1) :=
  congrArg (fun d => got c fp0 (e.X d) d) (by revert c; decide +kernel : org 6 ((mv 6).symm c) = ord c 1)
/-- Message 7 brings the block of device number 2 in the order of the products into the first slot from the successor. -/
theorem pay7 : dpay e c (7, true) = got c fn0 (e.X (ord c 2)) (ord c 2) :=
  congrArg (fun d => got c fn0 (e.X d) d) (by revert c; decide +kernel : org 7 ((mv 7).symm c) = ord c 2)
/-- Message 8 brings the upper half of the block of device number 4 in the order of the products into the upper half of the opposite buffer. -/
theorem pay8 : dpay e c (8, true) = got c anT (topOf (e.X (ord c 4))) (ord c 4) :=
  congrArg (fun d => got c anT (topOf (e.X d)) d) (by revert c; decide +kernel : org 8 ((mv 8).symm c) = ord c 4)
/-- Message 9 brings the lower half of the block of device number 4 in the order of the products into the lower half of the opposite buffer. -/
theorem pay9 : dpay e c (9, true) = got c anB (botOf (e.X (ord c 4))) (ord c 4) :=
  congrArg (fun d => got c anB (botOf (e.X d)) d) (by revert c; decide +kernel : org 9 ((mv 9).symm c) = ord c 4)
/-- Message 10 brings the block of the device two planes below into the second slot from below. -/
theorem pay10 : dpay e c (10, true) = got c up1 (e.X (dn (dn c))) (dn (dn c)) :=
  congrArg (fun d => got c up1 (e.X d) d) (by revert c; decide +kernel : org 10 ((mv 10).symm c) = dn (dn c))
/-- Message 11 brings the block of the device two planes above into the second slot from above. -/
theorem pay11 : dpay e c (11, true) = got c dn1 (e.X (up (up c))) (up (up c)) :=
  congrArg (fun d => got c dn1 (e.X d) d) (by revert c; decide +kernel : org 11 ((mv 11).symm c) = up (up c))
/-- Message 12 brings the block of device number 5 in the order of the products into the second slot from the predecessor. -/
theorem pay12 : dpay e c (12, true) = got c fp1 (e.X (ord c 5)) (ord c 5) :=
  congrArg (fun d => got c fp1 (e.X d) d) (by revert c; decide +kernel : org 12 ((mv 12).symm c) = ord c 5)
/-- Message 13 brings the block of device number 6 in the order of the products into the second slot from the successor. -/
theorem pay13 : dpay e c (13, true) = got c fn1 (e.X (ord c 6)) (ord c 6) :=
  congrArg (fun d => got c fn1 (e.X d) d) (by revert c; decide +kernel : org 13 ((mv 13).symm c) = ord c 6)
/-- Message 16 brings the block of device number 8 in the order of the products into the relay buffer. -/
theorem pay16 (h : dAct (16, true) c = true) : dpay e c (16, true) = got c rz (e.X (ord c 8)) (ord c 8) :=
  congrArg (fun d => got c rz (e.X d) d) (by revert c; decide +kernel : org 16 ((mv 16).symm c) = ord c 8)
/-- Message 17 brings the block of device number 8 in the order of the products into the relay buffer. -/
theorem pay17 (h : dAct (17, true) c = true) : dpay e c (17, true) = got c rz (e.X (ord c 8)) (ord c 8) :=
  congrArg (fun d => got c rz (e.X d) d) (by revert c; decide +kernel : org 17 ((mv 17).symm c) = ord c 8)
/-- Message 18 brings the block of the device three planes below into the third slot from below. -/
theorem pay18 : dpay e c (18, true) = got c up2 (e.X (dn (dn (dn c)))) (dn (dn (dn c))) :=
  congrArg (fun d => got c up2 (e.X d) d) (by revert c; decide +kernel : org 18 ((mv 18).symm c) = dn (dn (dn c)))
/-- Message 19 brings the block of the device three planes above into the third slot from above. -/
theorem pay19 : dpay e c (19, true) = got c dn2 (e.X (up (up (up c)))) (up (up (up c))) :=
  congrArg (fun d => got c dn2 (e.X d) d) (by revert c; decide +kernel : org 19 ((mv 19).symm c) = up (up (up c)))
/-- Message 20 brings the block of device number 9 in the order of the products into the first slot from the predecessor. -/
theorem pay20 : dpay e c (20, true) = got c fp0 (e.X (ord c 9)) (ord c 9) :=
  congrArg (fun d => got c fp0 (e.X d) d) (by revert c; decide +kernel : org 20 ((mv 20).symm c) = ord c 9)
/-- Message 21 brings the block of device number 10 in the order of the products into the first slot from the successor. -/
theorem pay21 : dpay e c (21, true) = got c fn0 (e.X (ord c 10)) (ord c 10) :=
  congrArg (fun d => got c fn0 (e.X d) d) (by revert c; decide +kernel : org 21 ((mv 21).symm c) = ord c 10)
/-- Message 26 brings the upper half of the block of device number 12 in the order of the products into the upper half of the opposite buffer. -/
theorem pay26 : dpay e c (26, true) = got c anT (topOf (e.X (ord c 12))) (ord c 12) :=
  congrArg (fun d => got c anT (topOf (e.X d)) d) (by revert c; decide +kernel : org 26 ((mv 26).symm c) = ord c 12)
/-- Message 27 brings the lower half of the block of device number 12 in the order of the products into the lower half of the opposite buffer. -/
theorem pay27 : dpay e c (27, true) = got c anB (botOf (e.X (ord c 12))) (ord c 12) :=
  congrArg (fun d => got c anB (botOf (e.X d)) d) (by revert c; decide +kernel : org 27 ((mv 27).symm c) = ord c 12)
/-- Message 28 brings the block of device number 13 in the order of the products into the second slot from the predecessor. -/
theorem pay28 : dpay e c (28, true) = got c fp1 (e.X (ord c 13)) (ord c 13) :=
  congrArg (fun d => got c fp1 (e.X d) d) (by revert c; decide +kernel : org 28 ((mv 28).symm c) = ord c 13)
/-- Message 29 brings the block of device number 14 in the order of the products into the second slot from the successor. -/
theorem pay29 : dpay e c (29, true) = got c fn1 (e.X (ord c 14)) (ord c 14) :=
  congrArg (fun d => got c fn1 (e.X d) d) (by revert c; decide +kernel : org 29 ((mv 29).symm c) = ord c 14)
/-- Message 32 brings the upper half of the block of device number 15 in the order of the products into the upper half of the opposite buffer. -/
theorem pay32 : dpay e c (32, true) = got c anT (topOf (e.X (ord c 15))) (ord c 15) :=
  congrArg (fun d => got c anT (topOf (e.X d)) d) (by revert c; decide +kernel : org 32 ((mv 32).symm c) = ord c 15)
/-- Message 33 brings the lower half of the block of device number 15 in the order of the products into the lower half of the opposite buffer. -/
theorem pay33 : dpay e c (33, true) = got c anB (botOf (e.X (ord c 15))) (ord c 15) :=
  congrArg (fun d => got c anB (botOf (e.X d)) d) (by revert c; decide +kernel : org 33 ((mv 33).symm c) = ord c 15)
end

/-- What a credit says of the region its receiver writes next. -/
theorem crd57 : ∀ d ∈ dut c (dS (14, true)) 0, recvPay e.X e.A d.1 c ⊢ free (mv 20 c) (ky 20 c) (rs 20) (rd 20) := by
  have h : ∀ c : Dev nD, ∀ d ∈ dut c (dS (14, true)) 0, d.1 = 14 ∨ d.1 = 22 := by decide +kernel
  have hs : ∀ c : Dev nD, (mv 14).symm c = mv 20 c ∧ (mv 22).symm c = mv 20 c := by decide +kernel
  intro d hd
  rcases h c d hd with h | h <;> rw [h] <;> unfold recvPay
  · rw [(hs c).1]; exact BIBase.Entails.rfl
  · rw [(hs c).2]; exact sep_elim_left (PROP := sProp 𝕄)
/-- Either credit at this semaphore frees the region of message 21, -/
theorem crd58 : ∀ d ∈ dut c (dS (15, true)) 0, recvPay e.X e.A d.1 c ⊢ free (mv 21 c) (ky 21 c) (rs 21) (rd 21) := by
  have h : ∀ c : Dev nD, ∀ d ∈ dut c (dS (15, true)) 0, d.1 = 15 ∨ d.1 = 23 := by decide +kernel
  have hs : ∀ c : Dev nD, (mv 15).symm c = mv 21 c ∧ (mv 23).symm c = mv 21 c := by decide +kernel
  intro d hd
  rcases h c d hd with h | h <;> rw [h] <;> unfold recvPay
  · rw [(hs c).1]; exact BIBase.Entails.rfl
  · rw [(hs c).2]; exact sep_elim_left (PROP := sProp 𝕄)
/-- of message 26 -/
theorem crd59 : ∀ d ∈ dut c (dS (24, true)) 0, recvPay e.X e.A d.1 c ⊢ free (mv 26 c) (ky 26 c) (rs 26) (rd 26) := by
  have h : ∀ c : Dev nD, ∀ d ∈ dut c (dS (24, true)) 0, d.1 = 24 ∨ d.1 = 30 := by decide +kernel
  have hs : ∀ c : Dev nD, (mv 24).symm c = mv 26 c ∧ (mv 30).symm c = mv 26 c := by decide +kernel
  intro d hd
  rcases h c d hd with h | h <;> rw [h] <;> unfold recvPay
  · rw [(hs c).1]; exact BIBase.Entails.rfl
  · rw [(hs c).2]; exact sep_elim_left (PROP := sProp 𝕄)
/-- and of message 27. -/
theorem crd60 : ∀ d ∈ dut c (dS (25, true)) 0, recvPay e.X e.A d.1 c ⊢ free (mv 27 c) (ky 27 c) (rs 27) (rd 27) := by
  have h : ∀ c : Dev nD, ∀ d ∈ dut c (dS (25, true)) 0, d.1 = 25 ∨ d.1 = 31 := by decide +kernel
  have hs : ∀ c : Dev nD, (mv 25).symm c = mv 27 c ∧ (mv 31).symm c = mv 27 c := by decide +kernel
  intro d hd
  rcases h c d hd with h | h <;> rw [h] <;> unfold recvPay
  · rw [(hs c).1]; exact BIBase.Entails.rfl
  · rw [(hs c).2]; exact sep_elim_left (PROP := sProp 𝕄)
/-- The credit that frees the region of message 28 for its next write, -/
theorem crd22 : recvPay e.X e.A 22 c ⊢ free (mv 28 c) (ky 28 c) (rs 28) (rd 28) := by
  have hs : ∀ c : Dev nD, (mv 22).symm c = mv 28 c := by decide +kernel
  unfold recvPay; rw [hs c]; exact sep_elim_right (PROP := sProp 𝕄)
/-- of message 29, -/
theorem crd23 : recvPay e.X e.A 23 c ⊢ free (mv 29 c) (ky 29 c) (rs 29) (rd 29) := by
  have hs : ∀ c : Dev nD, (mv 23).symm c = mv 29 c := by decide +kernel
  unfold recvPay; rw [hs c]; exact sep_elim_right (PROP := sProp 𝕄)
/-- of message 32 -/
theorem crd30 : recvPay e.X e.A 30 c ⊢ free (mv 32 c) (ky 32 c) (rs 32) (rd 32) := by
  have hs : ∀ c : Dev nD, (mv 30).symm c = mv 32 c := by decide +kernel
  unfold recvPay; rw [hs c]; exact sep_elim_right (PROP := sProp 𝕄)
/-- and of message 33. -/
theorem crd31 : recvPay e.X e.A 31 c ⊢ free (mv 33 c) (ky 33 c) (rs 33) (rd 33) := by
  have hs : ∀ c : Dev nD, (mv 31).symm c = mv 33 c := by decide +kernel
  unfold recvPay; rw [hs c]; exact sep_elim_right (PROP := sProp 𝕄)

/-- Messages of these numbers are received by every device. -/
theorem all_act : ∀ d : D, d.1.val ∈ [6,7,8,9,12,13,20,21,26,27,28,29,32,33] ∨ 34 ≤ d.1.val → ∀ c, dAct d c = true := by decide +kernel

end Contents

end Cert.Gather

end
-- ==== Proof.PartsA.lean ====
/-
The first parts of the kernel: entry, the first planes and the first ring hop.
-/
module

public import proofs.«01_k».proof.Proof.Contents

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The first parts: entry, the first planes and the first ring hop -/

/-- A conditional fact together with one that holds always. -/
theorem Whn_with (b : Bool) (P R : sProp 𝕄) : iprop(Whn b P ∗ R) ⊢ Whn b iprop(P ∗ R) :=
  BIBase.Entails.trans (sep_mono_right (Whn_of R)) (Whn_sep b P R).2

/-- Reading a block through the stage changes nothing. -/
theorem stage_cast {Y : S256x4096.Idx → Elt F .f32} :
    shapeCast S256x4096 (shapeCast S1x256x4096 (shapeCast S256x4096 (shapeCast S1x256x4096 Y shapeCasts_S256x4096_S1x256x4096) shapeCasts_S1x256x4096_S256x4096) shapeCasts_S256x4096_S1x256x4096)
      shapeCasts_S1x256x4096_S256x4096 = Y := (cast_forth _).trans (cast_forth Y)

section PartsA
variable (e : Env F) (c : Dev nD)

/-- The plane a device stands in, as the kernel computes it. -/
abbrev zw (c : Dev nD) : BitVec 32 := BitVec.ofNat 32 (c.val / 4)

/-- The device's own block is loaded from any share of it. -/
theorem load_x {α : Type} {Q : α → sProp 𝕄} {hl : xM.view.LoadsAt (Rect.unit (s := S256x4096) ![0, 0] S256x4096.size inb_S256x4096_S256x4096_0_0).toLoadRect} {q : PosShare TreeShare}
    {X : S256x4096.Idx → Elt F .f32} {K : (S256x4096.Idx → Elt F .f32) → Prog (TpuEff nD τ sig (Elt F) Λ₀ .tc) α} :
    (owns (c : Thread nD τ) xM q X : sProp 𝕄) ⊢ iprop((owns (c : Thread nD τ) xM q X -∗ WP c (K X) Q)
      -∗ WP c (.op (.load xM (Rect.unit (s := S256x4096) ![0, 0] S256x4096.size inb_S256x4096_S256x4096_0_0).toLoadRect hl) K) Q) := by
  have h : (fun x => X ((Rect.unit (s := S256x4096) ![0, 0] S256x4096.size inb_S256x4096_S256x4096_0_0).emb x)) = X := by
    funext x
    refine congrArg X (funext fun a => Fin.ext ?_)
    fin_cases a
    · show 0 + 1 * (x 0).val = (x 0).val; omega
    · show 0 + 1 * (x 1).val = (x 1).val; omega
  iintro HX Hk
  iapply (wp_load_full c xM _) $$ HX
  iintro HX
  rw [h]
  iapply Hk; iexact HX

/-- What the entry barrier tells a device. -/
theorem entry_nbr : iprop(RA c ∗ bigSep (dut c 61 0) (dpay e c)) ⊢ Nbr (F := F) c := by
  have h : ∀ c : Dev nD, ((0, true) ∈ dut c 61 0 ∧ (mv 0).symm c = prv c) ∧ ((1, true) ∈ dut c 61 0 ∧ (mv 1).symm c = nxt c)
      ∧ (0 < c.val / 4 → (2, true) ∈ dut c 61 0 ∧ (mv 2).symm c = dn c) ∧ (c.val / 4 < 3 → (3, true) ∈ dut c 61 0 ∧ (mv 3).symm c = up c) := by decide +kernel
  obtain ⟨⟨h0, e0⟩, ⟨h1, e1⟩, h2, h3⟩ := h c
  have key : ∀ {d : D} {s : Dev nD}, d ∈ dut c 61 0 → (dpay e c d ⊢ RA (F := F) s) → bigSep (dut c 61 0) (dpay e c) ⊢ RA (F := F) s :=
    fun hd hp => BIBase.Entails.trans (sep_elim hd) hp
  have k0 : bigSep (dut c 61 0) (dpay e c) ⊢ RA (F := F) (prv c) := key h0 (Entails.of_eq (congrArg RA e0))
  have k1 : bigSep (dut c 61 0) (dpay e c) ⊢ RA (F := F) (nxt c) := key h1 (Entails.of_eq (congrArg RA e1))
  have k2 : bigSep (dut c 61 0) (dpay e c) ⊢ Whn (decide (0 < c.val / 4)) (RA (F := F) (dn c)) := by
    by_cases hz : 0 < c.val / 4
    · rw [Whn_true (decide_eq_true hz)]; exact key (h2 hz).1 (Entails.of_eq (congrArg RA (h2 hz).2))
    · rw [Whn_false (decide_eq_false hz)]; iintro -; iempintro
  have k3 : bigSep (dut c 61 0) (dpay e c) ⊢ Whn (decide (c.val / 4 < 3)) (RA (F := F) (up c)) := by
    by_cases hz : c.val / 4 < 3
    · rw [Whn_true (decide_eq_true hz)]; exact key (h3 hz).1 (Entails.of_eq (congrArg RA (h3 hz).2))
    · rw [Whn_false (decide_eq_false hz)]; iintro -; iempintro
  unfold Nbr
  iintro ⟨#Hc, H⟩
  ihave #H0 := k0 $$ H
  ihave #H1 := k1 $$ H
  ihave #H2 := k2 $$ H
  ihave #H3 := k3 $$ H
  isplitr; · iexact Hc
  isplitr; · iexact H0
  isplitr; · iexact H1
  isplitr; · iexact H2
  iexact H3

/-- An entry signal tells its receiver that the sender has offered its regions. -/
theorem bar_pay {c' d : Dev nD} (μ : Fin 49) (h : decide (μ.val < 4) = true) : RA (F := F) c ⊢ recvBy e.X e.A μ c' c d := by
  have : ∀ μ : Fin 49, decide (μ.val < 4) = true → μ = 0 ∨ μ = 1 ∨ μ = 2 ∨ μ = 3 := by decide
  rcases this μ h with rfl | rfl | rfl | rfl <;> exact BIBase.Entails.rfl

/-- A signal of the entry barrier, sent where its receiver stands. -/
theorem entry_if {α : Type} {Q : α → sProp 𝕄} (n : ℕ) (μ : Fin 49) (hμ : (decide (μ.val = n) && !copy μ && decide (rd μ = 0)) = true) (hR : RA (F := F) c ⊢ recvBy e.X e.A μ (mv μ c) c (org μ c))
    {p : Prop} [Decidable p] (hp : p ↔ act μ c = true) {c' : p → Dev nD} {sem : Sem sig} (hc' : ∀ h, c' h = mv μ c) (hs : SemLoc.reg sem = csem (rs μ))
    {K : Prog (TpuEff nD τ sig (Elt F) Λ₀ .tc) α} :
    iprop(Inv e ∗ RA c ∗ St e c n 0)
      ⊢ iprop((St e c (n + 1) 0 -∗ WP c K Q) -∗ WP c (dite p (fun h => (Prog.op (TpuEff.semSignal (c' h : Thread nD τ) sem 1) fun _ => K : Prog (TpuEff nD τ sig (Elt F) Λ₀ .tc) α)) fun _ => K) Q) := by
  simp only [Bool.and_eq_true, decide_eq_true_eq, Bool.not_eq_true'] at hμ
  obtain ⟨⟨hn, hc⟩, hr⟩ := hμ
  refine wp_cond c (fun h => ?_) (fun h => ?_)
  · iintro ⟨#HI, #HR, HS⟩ Hk
    iapply (signal_step (k := fun _ => K) e c μ hn (hp.1 h) hc (hc' h) hs hr) $$ [HS]
    · isplitr; · iexact HI
      isplitl [HS]; · iexact HS
      iapply ((Entails.of_eq (congrArg RA rfl)).trans (hc' h ▸ hR)); iexact HR
    iexact Hk
  · have hf : act μ c = false := by rw [← Bool.not_eq_true, ← hp]; exact h
    rw [St_skip_pay e c μ hn hf]
    iintro ⟨-, -, HS⟩; iexact HS

/-- Part 2 of the body signals the devices that it copies to, waits for theirs, and sends its block upwards. -/
theorem part2 (v2 v29 v33 v34 v36 c4 : BitVec 32) {Q : (Σ' (_ : BitVec 32) (_ : BitVec 32) (_ : BitVec 32) (_ : BitVec 32), BitVec 1) → sProp 𝕄} :
    iprop(Inv e ∗ RA c ∗ St e c 0 0 ∗ Whn (act 4 c) (part c xM fullShare.left (e.X c)))
      ⊢ iprop((Run e c 5 1 -∗ ∀ w, Q w)
      -∗ WP c (k0_part2 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2 (zw c) v29 v33 v34 v36 c4) Q) := by
  simp only [k0_part2_eq_skeleton]; unfold k0_part2_skel
  simp only [Prog.lift, semSignalWord, semWaitWord, Prog.bind_op, Prog.bind_ret, Prog.pure_eq_ret]
  iintro ⟨#HI, #HR, HS, HX⟩ Hk
  iapply (signal_step e c 0 (n := 0) (j := 0) rfl rfl (by revert c; decide +kernel) ?_ ?_ rfl) $$ [HS]
  · revert c; decide +kernel
  · rfl
  · isplitr; · iexact HI
    isplitl [HS]; · iexact HS
    iapply (bar_pay e c _ rfl); iexact HR
  iintro HS
  iapply (signal_step e c 1 (n := 1) (j := 0) rfl rfl (by revert c; decide +kernel) ?_ ?_ rfl) $$ [HS]
  · revert c; decide +kernel
  · rfl
  · isplitr; · iexact HI
    isplitl [HS]; · iexact HS
    iapply (bar_pay e c _ rfl); iexact HR
  iintro HS
  iapply (entry_if e c 2 2 rfl BIBase.Entails.rfl ?_ ?_ ?_) $$ [HS]
  · revert c; decide +kernel
  · revert c; decide +kernel
  · rfl
  · isplitr; · iexact HI
    isplitr; · iexact HR
    iexact HS
  iintro HS
  iapply (entry_if e c 3 3 rfl BIBase.Entails.rfl ?_ ?_ ?_) $$ [HS]
  · revert c; decide +kernel
  · revert c; decide +kernel
  · rfl
  · isplitr; · iexact HI
    isplitr; · iexact HR
    iexact HS
  iintro HS
  iapply (entry_step e c ?_) $$ [HS]
  · intro K
    have hk : ∀ c : Dev nD, (k0_amt1 c).toInt = ((∑ d ∈ dut c 61 0, amt d.1 : ℕ) : ℤ) := by decide +kernel
    rw [hk c]; rfl
  · isplitr; · iexact HI
    iexact HS
  iintro ⟨HS, Hp⟩
  ihave #HN := (entry_nbr e c) $$ [Hp]
  · isplitr; · iexact HR
    iexact Hp
  iapply (msg_if e c (n := 4) (j := 1) 4 rfl (R := iprop(part c xM fullShare.left (e.X c) ∗ RA c)) ?_ (fun h => ?_)) $$ [HS HX]
  · revert c; decide +kernel
  · refine send_first (k := fun _ => _) e c 4 1 4 (by decide +kernel) rfl ?_ ?_ ?_ ?_
    · revert c; decide +kernel
    · revert c; decide +kernel
    · exact ⟨⟨rfl, rfl⟩, rfl, rfl⟩
    · exact ⟨BIBase.Entails.rfl, BIBase.Entails.rfl⟩
  · unfold Run
    isplitl [HS]
    · isplitr; · iexact HI
      isplitr; · iexact HN
      iexact HS
    iapply (Whn_with _ _ _); isplitl [HX]; · iexact HX
    iexact HR
  iintro HS
  unfold WP; rw [wp_ret]; imodintro
  iapply Hk $$ HS

end PartsA

end Cert.Gather

end
-- ==== Proof.PartsB.lean ====
/-
Parts three to six of the kernel.
-/
module

public import proofs.«01_k».proof.Proof.PartsA

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Parts three to nine -/

/-- A block as the kernel loads it. -/
abbrev cst (Y : S256x4096.Idx → Elt F .f32) : S1x256x4096.Idx → Elt F .f32 := shapeCast S1x256x4096 Y shapeCasts_S256x4096_S1x256x4096

section PartsB
variable (e : Env F) (c : Dev nD)

/-- A received block is its contents and the sender's offer. -/
theorem take {P : sProp 𝕄} {s : Shape} {m : Memref sig .tc .vmem s .f32} {Y : s.Idx → Elt F .f32} {d : Dev nD} (h : P = got c m Y d) :
    P ⊢ iprop(owns (c : Thread nD τ) m fullShare Y ∗ RA d) := Entails.of_eq h

/-! What each copy hands back. -/

/-- Copy 4 gives back a half share of the operand's buffer. -/
theorem bk4 : dpay e c (4, false) ⊢ part c xM fullShare.left (e.X c) := BIBase.Entails.rfl
/-- Copy 5 gives back half of the second half share of the operand's buffer. -/
theorem bk5 : dpay e c (5, false) ⊢ part c xM fullShare.right.left (e.X c) := BIBase.Entails.rfl
/-- Copy 6 gives back a half share of the stage. -/
theorem bk6 : dpay e c (6, false) ⊢ part c st fullShare.left (e.X (so 0 c)) := BIBase.Entails.rfl
/-- Copy 7 gives back half of the second half share of the stage. -/
theorem bk7 : dpay e c (7, false) ⊢ part c st fullShare.right.left (e.X (so 0 c)) := BIBase.Entails.rfl
/-- Copy 12 gives back a half share of the stage. -/
theorem bk12 : dpay e c (12, false) ⊢ part c st fullShare.left (e.X (so 1 c)) := BIBase.Entails.rfl
/-- Copy 13 gives back half of the second half share of the stage. -/
theorem bk13 : dpay e c (13, false) ⊢ part c st fullShare.right.left (e.X (so 1 c)) := BIBase.Entails.rfl
/-- Copy 20 gives back a half share of the stage. -/
theorem bk20 : dpay e c (20, false) ⊢ part c st fullShare.left (e.X (so 2 c)) := BIBase.Entails.rfl
/-- Copy 21 gives back half of the second half share of the stage. -/
theorem bk21 : dpay e c (21, false) ⊢ part c st fullShare.right.left (e.X (so 2 c)) := BIBase.Entails.rfl
/-- Copy 28 gives back a half share of the stage. -/
theorem bk28 : dpay e c (28, false) ⊢ part c st fullShare.left (e.X (so 3 c)) := BIBase.Entails.rfl
/-- Copy 29 gives back half of the second half share of the stage. -/
theorem bk29 : dpay e c (29, false) ⊢ part c st fullShare.right.left (e.X (so 3 c)) := BIBase.Entails.rfl
/-- Copy 10 gives back a half share of the first slot from below. -/
theorem bk10 : dpay e c (10, false) ⊢ part c up0 fullShare.left (e.X (dn c)) := BIBase.Entails.rfl
/-- Copy 11 gives back a half share of the first slot from above. -/
theorem bk11 : dpay e c (11, false) ⊢ part c dn0 fullShare.left (e.X (up c)) := BIBase.Entails.rfl
/-- Copy 18 gives back a half share of the second slot from below. -/
theorem bk18 : dpay e c (18, false) ⊢ part c up1 fullShare.left (e.X (dn (dn c))) := BIBase.Entails.rfl
/-- Copy 19 gives back a half share of the second slot from above. -/
theorem bk19 : dpay e c (19, false) ⊢ part c dn1 fullShare.left (e.X (up (up c))) := BIBase.Entails.rfl
/-- Copy 8 gives back a half share of the upper half of the first slot from the predecessor. -/
theorem bk8 : dpay e c (8, false) ⊢ part c fp0T fullShare.left (topOf (e.X (ord c 1))) := by
  rw [show ord c 1 = org 8 c by revert c; decide +kernel]; exact BIBase.Entails.rfl
/-- Copy 9 gives back a half share of the lower half of the first slot from the successor. -/
theorem bk9 : dpay e c (9, false) ⊢ part c fn0B fullShare.left (botOf (e.X (ord c 2))) := by
  rw [show ord c 2 = org 9 c by revert c; decide +kernel]; exact BIBase.Entails.rfl
/-- Copy 26 gives back a half share of the upper half of the first slot from the predecessor. -/
theorem bk26 : dpay e c (26, false) ⊢ part c fp0T fullShare.left (topOf (e.X (ord c 9))) := by
  rw [show ord c 9 = org 26 c by revert c; decide +kernel]; exact BIBase.Entails.rfl
/-- Copy 27 gives back a half share of the lower half of the first slot from the successor. -/
theorem bk27 : dpay e c (27, false) ⊢ part c fn0B fullShare.left (botOf (e.X (ord c 10))) := by
  rw [show ord c 10 = org 27 c by revert c; decide +kernel]; exact BIBase.Entails.rfl
/-- Copy 32 gives back a half share of the upper half of the second slot from the predecessor. -/
theorem bk32 : dpay e c (32, false) ⊢ part c fp1T fullShare.left (topOf (e.X (ord c 13))) := by
  rw [show ord c 13 = org 32 c by revert c; decide +kernel]; exact BIBase.Entails.rfl
/-- Copy 33 gives back a half share of the lower half of the second slot from the successor. -/
theorem bk33 : dpay e c (33, false) ⊢ part c fn1B fullShare.left (botOf (e.X (ord c 14))) := by
  rw [show ord c 14 = org 33 c by revert c; decide +kernel]; exact BIBase.Entails.rfl
/-- Copy 16 gives back a half share of the opposite buffer. -/
theorem bk16 : dpay e c (16, false) ⊢ part c an fullShare.left (e.X (ord c 4)) := by
  rw [show ord c 4 = org 16 c by revert c; decide +kernel]; exact BIBase.Entails.rfl
/-- Copy 17 gives back half of the second half share of the opposite buffer. -/
theorem bk17 : dpay e c (17, false) ⊢ part c an fullShare.right.left (e.X (ord c 4)) := by
  rw [show ord c 4 = org 17 c by revert c; decide +kernel]; exact BIBase.Entails.rfl

/-- A running device has offered its own regions, -/
theorem Run_self (n j : ℕ) : Run e c n j ⊢ iprop(Run e c n j ∗ RA c) := by
  unfold Run
  iintro ⟨#HI, #HN, HS⟩
  isplitl [HS]
  · isplitr; · iexact HI
    isplitr; · iexact HN
    iexact HS
  · unfold Nbr; icases HN with ⟨#H, -⟩; iexact H

/-- and those it met at entry have offered theirs. -/
theorem Run_nbr (n j : ℕ) : Run e c n j ⊢ iprop(Run e c n j ∗ Nbr c) := by
  unfold Run
  iintro ⟨#HI, #HN, HS⟩
  isplitl [HS]
  · isplitr; · iexact HI
    isplitr; · iexact HN
    iexact HS
  · iexact HN

/-- The four devices whose planes are exchanged come first, fourth, eighth and twelfth in the order: the first, -/
theorem ord0 : so 0 c = ord c 0 := by revert c; decide +kernel
/-- the second, -/
theorem ord3 : so 1 c = ord c 3 := by revert c; decide +kernel
/-- the third -/
theorem ord7 : so 2 c = ord c 7 := by revert c; decide +kernel
/-- and the fourth. -/
theorem ord11 : so 3 c = ord c 11 := by revert c; decide +kernel

/-- The first of them has offered its regions from the start, -/
theorem Nbr_so0 : Nbr c ⊢ RA (F := F) (so 0 c) := by
  unfold Nbr; rw [so0]; iintro ⟨#H, -⟩; iexact H
/-- and so has the second, -/
theorem Nbr_so1 : Nbr c ⊢ RA (F := F) (so 1 c) := by
  have h : ∀ c : Dev nD, (so 1 c = dn c ∧ 0 < c.val / 4) ∨ (so 1 c = up c ∧ c.val / 4 < 3) := by decide +kernel
  unfold Nbr
  rcases h c with ⟨h, hz⟩ | ⟨h, hz⟩ <;> rw [h]
  · rw [Whn_true (decide_eq_true hz)]; iintro ⟨-, -, -, #H, -⟩; iexact H
  · rw [Whn_true (b := decide (c.val / 4 < 3)) (decide_eq_true hz)]; iintro ⟨-, -, -, -, #H⟩; iexact H

/-- Part 1 of the body works out the device's place and plane. -/
theorem part1 {Q : (Σ' (_ : Dev nD) (_ : BitVec 32) (_ : BitVec 32) (_ : BitVec 32) (_ : BitVec 32) (_ : BitVec 32) (_ : BitVec 32), BitVec 32) → sProp 𝕄} :
    (iprop(emp) : sProp 𝕄) ⊢ iprop((∀ a z b d f g, ⌜z = zw c⌝ -∗ Q ⟨c, a, z, b, d, f, g, 4#32⟩)
      -∗ WP c (k0_part1 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27) Q) := by
  simp only [k0_part1_eq_skeleton]; unfold k0_part1_skel
  simp only [Prog.lift, semSignalWord, semWaitWord, Prog.bind_op, Prog.bind_ret, Prog.pure_eq_ret]
  iintro - Hk
  unfold WP
  rw [wp_deviceId, wp_ret]
  imodintro
  iapply Hk
  ipureintro
  revert c; decide +kernel

/-- Part 3 of the body takes the device from 5 messages and 1 wait to 8 and 1. -/
theorem part3 (v33 v38 v44 : BitVec 32) (v67 : BitVec 1) {Q : PUnit → sProp 𝕄} :
    iprop(Run e c 5 1 ∗ Whn (act 5 c) (part c xM fullShare.right.left (e.X c)) ∗ part c xM fullShare.right.right (e.X c) ∗ Slot c st)
      ⊢ iprop((Run e c 8 1 ∗ part c xM fullShare.right.right (e.X c) ∗ part c st fullShare.right.right (e.X (so 0 c)) -∗ Q ⟨⟩)
      -∗ WP c (k0_part3 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c (zw c) v33 v38 v44 v67) Q) := by
  simp only [k0_part3_eq_skeleton]; unfold k0_part3_skel
  simp only [Prog.lift, semSignalWord, semWaitWord, Prog.bind_op, Prog.bind_ret, Prog.pure_eq_ret]
  iintro ⟨HS, HX, Hx, Hst⟩ Hk
  ihave HS := (Run_self e c 5 1) $$ HS
  icases HS with ⟨HS, #HR⟩
  iapply (msg_if e c (n := 5) (j := 1) 5 rfl (R := iprop(part c xM fullShare.right.left (e.X c) ∗ RA c)) ?_ (fun h => ?_)) $$ [HS HX]
  · revert c; decide +kernel
  · refine send_first (k := fun _ => _) e c 5 1 5 (by decide +kernel) rfl ?_ ?_ ?_ ?_
    · revert c; decide +kernel
    · revert c; decide +kernel
    · exact ⟨⟨rfl, rfl⟩, rfl, rfl⟩
    · exact ⟨BIBase.Entails.rfl, BIBase.Entails.rfl⟩
  · isplitl [HS]; · iexact HS
    iapply (Whn_with _ _ _); isplitl [HX]; · iexact HX
    iexact HR
  iintro HS
  iapply (load_x c) $$ Hx
  iintro Hx
  iapply (load_Slot c stM 0 _) $$ Hst
  iintro %v Hst
  iapply (wp_store_slab c stM 0 _) $$ Hst
  have h2 : shapeCast S256x4096 (k0_pay2 (e.X c)) shapeCasts_S1x256x4096_S256x4096 = e.X (so 0 c) := by
    rw [so0]; exact (cast_forth _).trans (shapeCast_id _ shapeCasts_S256x4096_S256x4096)
  rw [h2]
  clear h2
  iintro Hst
  ihave Hst := (owns_three c st _).1 $$ Hst
  icases Hst with ⟨H1, H2, H3⟩
  ihave #HR' := (Entails.of_eq (congrArg (RA (F := F)) (so0 c).symm)) $$ HR
  iapply (send_first e c 6 1 6 (by decide +kernel) rfl rfl ?_ ?_ ?_) $$ [HS H1]
  · revert c; decide +kernel
  · exact ⟨⟨rfl, rfl⟩, rfl, rfl⟩
  · exact ⟨BIBase.Entails.rfl, BIBase.Entails.rfl⟩
  · isplitl [HS]; · iexact HS
    isplitl [H1]; · iexact H1
    iexact HR'
  iintro HS
  iapply (send_first e c 7 1 7 (by decide +kernel) rfl rfl ?_ ?_ ?_) $$ [HS H2]
  · revert c; decide +kernel
  · exact ⟨⟨rfl, rfl⟩, rfl, rfl⟩
  · exact ⟨BIBase.Entails.rfl, BIBase.Entails.rfl⟩
  · isplitl [HS]; · iexact HS
    isplitl [H2]; · iexact H2
    iexact HR'
  iintro HS
  unfold WP; rw [wp_ret]; imodintro
  iapply Hk
  isplitl [HS]; · iexact HS
  isplitl [Hx]; · iexact Hx
  iexact H3

/-- Part 4 of the body takes the device from 8 messages and 1 wait to 8 and 2. -/
theorem part4 (v2 v33 v38 : BitVec 32) {Q : F .f32 → sProp 𝕄} :
    iprop(Run e c 8 1 ∗ part c st fullShare.right.right (e.X (so 0 c)) ∗ part c wM fullShare (e.W c) ∗ Out e c 0)
      ⊢ iprop((Run e c 8 2 ∗ part c st fullShare.right.right (e.X (so 0 c)) ∗ part c wM fullShare (e.W c) ∗ Out e c 1 ∗ got c fp0 (e.X (ord c 1)) (ord c 1) -∗ Q (e.run c 1))
      -∗ WP c (k0_part4 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2 v33 v38) Q) := by
  simp only [k0_part4_eq_skeleton]; unfold k0_part4_skel
  simp only [Prog.lift, semSignalWord, semWaitWord, Prog.bind_op, Prog.bind_ret, Prog.pure_eq_ret]
  iintro ⟨HS, Hst, HW, HO⟩ Hk
  ihave HS := (Run_self e c 8 1) $$ HS
  icases HS with ⟨HS, #HR⟩
  ihave #HR' := (Entails.of_eq (congrArg (RA (F := F)) ((so0 c).symm.trans (ord0 c)))) $$ HR
  iapply (wp_load_slab c stM 0 _) $$ Hst
  iintro Hst
  iapply (load_w c) $$ HW
  iintro HW
  iapply (out_put e c 0 (by decide) ?_ ?_) $$ [HO]
  · revert c; decide +kernel
  · exact congrArg (e.tile c) (ord0 c)
  · isplitl [HO]; · iexact HO
    iexact HR'
  iintro HO
  iapply (dma_wait e c 8 1 (6, true) (by decide +kernel) rfl ?_) $$ HS
  · exact ⟨rfl, rfl⟩
  iintro ⟨HS, H6⟩
  unfold WP; rw [wp_ret]; imodintro
  have hv : k0_pay4 (cst (e.X (so 0 c))) (e.W c) = e.run c 1 := by rw [ord0 c]; rfl
  rw [hv]
  iapply Hk
  isplitl [HS]; · iexact HS
  isplitl [Hst]; · iexact Hst
  isplitl [HW]; · iexact HW
  isplitl [HO]; · iexact HO
  iapply (Entails.of_eq (pay6 e c)); iexact H6

/-- Part 5 of the body takes the device from 8 messages and 2 waits to 10 and 3. -/
theorem part5 (v33 v38 v110' : BitVec 32) {Q : (Σ' (_ : FVec F S256x128 .f32), BitVec 32) → sProp 𝕄} :
    iprop(Run e c 8 2 ∗ got c fp0 (e.X (ord c 1)) (ord c 1) ∗ part c wM fullShare (e.W c))
      ⊢ iprop((Run e c 10 3 ∗ (part c (half fpM 0 128 inb_S2x256x4096_S1x128x4096_0_128_0) fullShare.left (botOf (e.X (ord c 1))) ∗ part c fp0 fullShare.right (e.X (ord c 1)))
        ∗ (part c (half fnM 0 0 inb_S2x256x4096_S1x128x4096_0_0_0) fullShare.left (topOf (e.X (ord c 2))) ∗ part c fn0 fullShare.right (e.X (ord c 2)))
        ∗ RA (ord c 1) ∗ RA (ord c 2) ∗ part c wM fullShare (e.W c) -∗ ∀ w, Q ⟨e.tile c (ord c 1), w⟩)
      -∗ WP c (k0_part5 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v33 v38) Q) := by
  simp only [k0_part5_eq_skeleton]; unfold k0_part5_skel
  simp only [Prog.lift, semSignalWord, semWaitWord, Prog.bind_op, Prog.bind_ret, Prog.pure_eq_ret]
  iintro ⟨HS, H6, HW⟩ Hk
  ihave H6 := (take c rfl) $$ H6
  icases H6 with ⟨H6, #R6⟩
  iapply (dma_wait e c 8 2 (7, true) (by decide +kernel) rfl ?_) $$ HS
  · exact ⟨rfl, rfl⟩
  iintro ⟨HS, H7⟩
  ihave H7 := (take c (pay7 e c)) $$ H7
  icases H7 with ⟨H7, #R7⟩
  ihave H6 := (lend_top c fpM 0 _ inb_S2x256x4096_S1x128x4096_0_0_0 inb_S2x256x4096_S1x128x4096_0_128_0 _).1 $$ H6
  icases H6 with ⟨H6t, H6b, H6r⟩
  ihave H7 := (lend_top c fnM 0 _ inb_S2x256x4096_S1x128x4096_0_0_0 inb_S2x256x4096_S1x128x4096_0_128_0 _).1 $$ H7
  icases H7 with ⟨H7t, H7b, H7r⟩
  iapply (send_first (Y := topOf (e.X (ord c 1))) (q := fullShare.left) e c 8 3 8 (by decide +kernel) rfl rfl ?_ ?_ ?_) $$ [HS H6t]
  · revert c; decide +kernel
  · exact ⟨⟨rfl, rfl⟩, rfl, rfl⟩
  · rw [show ord c 1 = org 8 c by revert c; decide +kernel]; exact ⟨BIBase.Entails.rfl, BIBase.Entails.rfl⟩
  · rw [show org 8 c = ord c 1 by revert c; decide +kernel]
    isplitl [HS]; · iexact HS
    isplitl [H6t]; · iexact H6t
    iexact R6
  iintro HS
  iapply (send_first (Y := botOf (e.X (ord c 2))) (q := fullShare.left) e c 9 3 9 (by decide +kernel) rfl rfl ?_ ?_ ?_) $$ [HS H7b]
  · revert c; decide +kernel
  · exact ⟨⟨rfl, rfl⟩, rfl, rfl⟩
  · rw [show ord c 2 = org 9 c by revert c; decide +kernel]; exact ⟨BIBase.Entails.rfl, BIBase.Entails.rfl⟩
  · rw [show org 9 c = ord c 2 by revert c; decide +kernel]
    isplitl [HS]; · iexact HS
    isplitl [H7b]; · iexact H7b
    iexact R7
  iintro HS
  iapply (wp_load_slab c fpM 0 _) $$ H6r
  iintro H6r
  iapply (load_w c) $$ HW
  iintro HW
  unfold WP; rw [wp_ret]; imodintro
  rw [show k0_pay5 (cst (e.X (ord c 1))) (e.W c) = e.tile c (ord c 1) from rfl]
  iapply Hk $$ [HS H6b H6r H7t H7r HW]
  isplitl [HS]; · iexact HS
  isplitl [H6b H6r]; · (isplitl [H6b] <;> iassumption)
  isplitl [H7t H7r]; · (isplitl [H7t] <;> iassumption)
  isplitr; · iexact R6
  isplitr; · iexact R7
  iexact HW

/-- Part 6 of the body takes the device from 10 messages and 3 waits to 10 and 4. -/
theorem part6 (v33 v153 : BitVec 32) {Q : F .f32 → sProp 𝕄} :
    iprop(Run e c 10 3 ∗ part c fn0 fullShare.right (e.X (ord c 2)) ∗ RA (ord c 1) ∗ RA (ord c 2) ∗ part c wM fullShare (e.W c) ∗ Out e c 1)
      ⊢ iprop((Run e c 10 4 ∗ part c fn0 fullShare.right (e.X (ord c 2)) ∗ part c wM fullShare (e.W c) ∗ Out e c 3
        ∗ part c st fullShare.left (e.X (so 0 c)) -∗ Q (e.run c 3))
      -∗ WP c (k0_part6 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v33 (e.run c 1) (e.tile c (ord c 1)) v153) Q) := by
  simp only [k0_part6_eq_skeleton]; unfold k0_part6_skel
  simp only [Prog.lift, semSignalWord, semWaitWord, Prog.bind_op, Prog.bind_ret, Prog.pure_eq_ret]
  iintro ⟨HS, H7, #R6, #R7, HW, HO⟩ Hk
  iapply (out_put e c 1 (by decide) ?_ ?_) $$ [HO]
  · revert c; decide +kernel
  · rfl
  · isplitl [HO]; · iexact HO
    iexact R6
  iintro HO
  iapply (wp_load_slab c fnM 0 _) $$ H7
  iintro H7
  iapply (load_w c) $$ HW
  iintro HW
  iapply (out_put e c 2 (by decide) ?_ ?_) $$ [HO]
  · revert c; decide +kernel
  · rfl
  · isplitl [HO]; · iexact HO
    iexact R7
  iintro HO
  iapply (dma_wait e c 10 3 (6, false) (by decide +kernel) rfl ?_) $$ HS
  · exact ⟨rfl, rfl⟩
  iintro ⟨HS, H6⟩
  unfold WP; rw [wp_ret]; imodintro
  rw [show k0_pay7 (e.run c 1) (e.tile c (ord c 1)) (cst (e.X (ord c 2))) (e.W c) = e.run c 3 from rfl]
  iapply Hk
  isplitl [HS]; · iexact HS
  isplitl [H7]; · iexact H7
  isplitl [HW]; · iexact HW
  isplitl [HO]; · iexact HO
  iapply (bk6 e c); iexact H6

/-- A plane's block as it is held: one half lent where it is passed on. -/
def Half (d : D) (μ : Fin 49) {s : Shape} (m : Memref sig .tc .vmem s .f32) (Y : s.Idx → Elt F .f32) : sProp 𝕄 :=
  Whn (dAct d c && !act μ c) (part c m fullShare.left Y)

/-- A block received, split for a copy of it. -/
theorem Got_split (d : D) (μ : Fin 49) {s : Shape} {m : Memref sig .tc .vmem s .f32} {Y : s.Idx → Elt F .f32} {o : Dev nD}
    (h : dpay e c d = got c m Y o) (ha : act μ c = true → dAct d c = true) :
    Got e c d ⊢ iprop(Whn (act μ c) (iprop(part c m fullShare.left Y ∗ RA o)) ∗ Half c d μ m Y ∗ Whn (dAct d c) (part c m fullShare.right Y) ∗ Whn (dAct d c) (RA o)) := by
  unfold Got Half; rw [h]
  have hm : Whn (dAct d c) (got (F := F) c m Y o) ⊢ Whn (dAct d c) iprop(part c m fullShare.left Y ∗ (part c m fullShare.right Y ∗ RA o)) :=
    Whn_mono (BIBase.Entails.trans (sep_mono_left (owns_halves (c : Thread nD τ) m fullShare Y).1) (sep_assoc (PROP := sProp 𝕄)).1)
  iintro H
  ihave H := hm $$ H
  ihave H := (Whn_sep _ _ _).1 $$ H
  icases H with ⟨H1, H2⟩
  ihave H2 := (Whn_sep _ _ _).1 $$ H2
  icases H2 with ⟨H2, #H3⟩
  ihave H1 := (Whn_part ha _).1 $$ H1
  icases H1 with ⟨H1, H1'⟩
  ihave #H4 := (Whn_part ha _).1 $$ H3
  icases H4 with ⟨#H4, -⟩
  isplitl [H1]
  · iapply (Whn_sep _ _ _).2; isplitl [H1]; · iexact H1
    iexact H4
  isplitl [H1']; · iexact H1'
  isplitl [H2]; · iexact H2
  iexact H3

end PartsB

end Cert.Gather

end
-- ==== Proof.PartsC.lean ====
/-
Parts seven to nine of the kernel.
-/
module

public import proofs.«01_k».proof.Proof.PartsB

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Parts seven to fourteen -/

/-- A memref with an index has elements. -/
theorem set_nonempty {s : Shape} (m : Memref sig .tc .vmem s .f32) (x : s.Idx) : m.view.set.Nonempty :=
  ⟨_, Finset.mem_map_of_mem _ (Finset.mem_univ x)⟩

def pt256 : S256x4096.Idx := ix2 (n0 := 256) (n1 := 4096) 0 0
def pt128 : S128x4096.Idx := ix2 (n0 := 128) (n1 := 4096) 0 0

section PartsC
variable (e : Env F) (c : Dev nD)

/-- A region given back between two steps. -/
theorem offer_then {α : Type} {Q : α → sProp 𝕄} {s : Shape} {dst : Memref sig .tc .vmem s .f32} (n j : ℕ) (k : Fin 29) (q : Fin 62) (hreg : reg (F := F) c k = Slot c dst)
    (hne : dst.view.set.Nonempty) (m : ℕ) (hq : q.val < 57) (hm : cnt c q j = m) {K : Prog (TpuEff nD τ sig (Elt F) Λ₀ .tc) α} :
    iprop(Run e c n j ∗ readerAt EK (c, k) m ∗ Slot c dst)
      ⊢ iprop((Run e c n j ∗ readerAt EK (c, k) (m + 1) ∗ free c k q m -∗ WP c K Q) -∗ WP c K Q) := by
  unfold WP
  iintro H Hk
  imod (offer e c n j k q hreg hne m hq hm) $$ H with H
  iapply Hk; iexact H

/-- A product: the block and the weights loaded, the product stored in its rows. -/
theorem product {α : Type} {Q : α → sProp 𝕄} (n : ℕ) (hn : n < 16) {off : Fin 2 → ℕ} (ho : off = ![256 * (ord c n).val, 0]) {h}
    {g : ℕ} {M : Memref sig .tc .vmem ⟨3, ![g, 256, 4096]⟩ .f32} {k : ℕ} {hk} {q : PosShare TreeShare}
    {hl1 : M.view.LoadsAt (Rect.unit (s := ⟨3, ![g, 256, 4096]⟩) ![k, 0, 0] S1x256x4096.size hk).toLoadRect}
    {hl2 : wM.view.LoadsAt (Rect.unit (s := S4096x128) ![0, 0] S4096x128.size inb_S4096x128_S4096x128_0_0).toLoadRect}
    {hl : oM.view.LoadsAt (Rect.unit (s := S4096x128) off S256x128.size h).toLoadRect}
    {f : (S1x256x4096.Idx → Elt F .f32) → (S4096x128.Idx → Elt F .f32) → S256x128.Idx → Elt F .f32} (hw : f (cst (e.X (ord c n))) (e.W c) = e.tile c (ord c n)) {hx hm}
    {K : (S1x256x4096.Idx → Elt F .f32) → (S4096x128.Idx → Elt F .f32) → Prog (TpuEff nD τ sig (Elt F) Λ₀ .tc) α} :
    iprop(part c (slab M k hk) q (e.X (ord c n)) ∗ part c wM fullShare (e.W c) ∗ Out e c n ∗ RA (ord c n))
      ⊢ iprop((part c (slab M k hk) q (e.X (ord c n)) ∗ part c wM fullShare (e.W c) ∗ Out e c (n + 1) -∗ WP c (K (cst (e.X (ord c n))) (e.W c)) Q)
      -∗ WP c (.op (.load M (Rect.unit (s := ⟨3, ![g, 256, 4096]⟩) ![k, 0, 0] S1x256x4096.size hk).toLoadRect hl1) fun v =>
        (Prog.op (TpuEff.load wM (Rect.unit (s := S4096x128) ![0, 0] S4096x128.size inb_S4096x128_S4096x128_0_0).toLoadRect hl2) fun w =>
        (Prog.op (TpuEff.load oM (Rect.unit (s := S4096x128) off S256x128.size h).toLoadRect hl) fun _ =>
        (Prog.op (TpuEff.store oM (Rect.unit (s := S4096x128) off S256x128.size h) (f v w) Finset.univ hx hm) fun _ => K v w : Prog (TpuEff nD τ sig (Elt F) Λ₀ .tc) α)
          : Prog (TpuEff nD τ sig (Elt F) Λ₀ .tc) α) : Prog (TpuEff nD τ sig (Elt F) Λ₀ .tc) α)) Q) := by
  iintro ⟨Hb, HW, HO, HR⟩ Hk
  iapply (wp_load_slab c M k hk) $$ Hb
  iintro Hb
  iapply (load_w c) $$ HW
  iintro HW
  iapply (out_put (k := fun _ => K (cst (e.X (ord c n))) (e.W c)) e c n hn ho hw) $$ [HO HR]
  · isplitl [HO] <;> iassumption
  iintro HO
  iapply Hk
  isplitl [Hb]; · iexact Hb
  isplitl [HW]; · iexact HW
  iexact HO

/-- A stage that holds anything is a stage not filled yet. -/
theorem Sg_none {Y : S256x4096.Idx → Elt F .f32} (T : S256x4096.Idx → Elt F .f32) : part c st fullShare Y ⊢ Sg c false T := by
  unfold Sg; rw [if_neg (by decide)]; exact owns_Slot c st Y
/-- A filled stage holds its block. -/
theorem Sg_full {a : Bool} (h : a = true) (T : S256x4096.Idx → Elt F .f32) : Sg c a T ⊢ part c st fullShare T := by
  unfold Sg; rw [if_pos h]
/-- The stage's three shares are the whole. -/
theorem st_join (Y : S256x4096.Idx → Elt F .f32) : iprop(part c st fullShare.left Y ∗ part c st fullShare.right.left Y ∗ part c st fullShare.right.right Y) ⊢ part c st fullShare Y :=
  (owns_three c st Y).2

/-- Part 7 of the body takes the device from 10 messages and 4 waits to 12 and 7. -/
theorem part7 (v43 v44 : BitVec 32) {Q : BitVec 32 → sProp 𝕄} :
    iprop(Run e c 10 4 ∗ part c st fullShare.left (e.X (so 0 c)) ∗ part c st fullShare.right.right (e.X (so 0 c)))
      ⊢ iprop((Run e c 12 7 ∗ (Half c (4, true) 10 up0 (e.X (dn c)) ∗ Whn (dAct (4, true) c) (part c up0 fullShare.right (e.X (dn c))))
        ∗ (Half c (5, true) 11 dn0 (e.X (up c)) ∗ Whn (dAct (5, true) c) (part c dn0 fullShare.right (e.X (up c))))
        ∗ part c st fullShare (e.X (so 1 c)) -∗ ∀ w, Q w)
      -∗ WP c (k0_part7 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c (zw c) v43 v44) Q) := by
  simp only [k0_part7_eq_skeleton]; unfold k0_part7_skel
  simp only [Prog.lift, semSignalWord, semWaitWord, Prog.bind_op, Prog.bind_ret, Prog.pure_eq_ret]
  iintro ⟨HS, H1, H3⟩ Hk
  iapply (dma_wait e c 10 4 (7, false) (by decide +kernel) rfl ?_) $$ HS
  · exact ⟨rfl, rfl⟩
  iintro ⟨HS, H2⟩
  ihave H2 := (bk7 e c) $$ H2
  ihave Hst := (st_join c _) $$ [H1 H2 H3]
  · isplitl [H1]; · iexact H1
    isplitl [H2] <;> iassumption
  ihave Hst := (Sg_none c (e.X (so 1 c))) $$ Hst
  iapply (dma_wait_if e c 10 5 (4, true) (by decide +kernel) ?_ ?_) $$ HS
  · revert c; decide +kernel
  · exact ⟨rfl, rfl⟩
  iintro ⟨HS, H4⟩
  iapply (dma_wait_if e c 10 6 (5, true) (by decide +kernel) ?_ ?_) $$ HS
  · revert c; decide +kernel
  · exact ⟨rfl, rfl⟩
  iintro ⟨HS, H5⟩
  ihave H4 := (Got_split e c (4, true) 10 (pay4 e c) (by revert c; decide +kernel)) $$ H4
  icases H4 with ⟨L4, U0L, U0R, #R4⟩
  ihave H5 := (Got_split e c (5, true) 11 (pay5 e c) (by revert c; decide +kernel)) $$ H5
  icases H5 with ⟨L5, D0L, D0R, #R5⟩
  iapply (msg_if e c (n := 10) (j := 7) 10 rfl (R := iprop(part c up0 fullShare.left (e.X (dn c)) ∗ RA (dn c))) ?_ (fun h => ?_)) $$ [HS L4]
  · revert c; decide +kernel
  · refine send_first (k := fun _ => _) e c 10 7 10 (by decide +kernel) rfl ?_ ?_ ?_ ?_
    · revert c; decide +kernel
    · revert c; decide +kernel
    · exact ⟨⟨rfl, rfl⟩, rfl, rfl⟩
    · exact ⟨BIBase.Entails.rfl, BIBase.Entails.rfl⟩
  · isplitl [HS]; · iexact HS
    iexact L4
  iintro HS
  iapply (msg_if e c (n := 11) (j := 7) 11 rfl (R := iprop(part c dn0 fullShare.left (e.X (up c)) ∗ RA (up c))) ?_ (fun h => ?_)) $$ [HS L5]
  · revert c; decide +kernel
  · refine send_first (k := fun _ => _) e c 11 7 11 (by decide +kernel) rfl ?_ ?_ ?_ ?_
    · revert c; decide +kernel
    · revert c; decide +kernel
    · exact ⟨⟨rfl, rfl⟩, rfl, rfl⟩
    · exact ⟨BIBase.Entails.rfl, BIBase.Entails.rfl⟩
  · isplitl [HS]; · iexact HS
    iexact L5
  iintro HS
  iapply (stage_if e c (a := dAct (5, true) c) (b := decide (c.val / 4 = 0)) (false) (up c) (so 1 c) ?_ ?_ ?_) $$ [D0R Hst]
  · revert c; decide +kernel
  · revert c; decide +kernel
  · intro Y; unfold k0_pay8; exact stage_cast
  · isplitl [D0R] <;> iassumption
  iintro ⟨D0R, Hst⟩
  iapply (stage_if e c (a := dAct (4, true) c) (b := decide (0 < c.val / 4)) (false || decide (c.val / 4 = 0)) (dn c) (so 1 c) ?_ ?_ ?_) $$ [U0R Hst]
  · revert c; decide +kernel
  · revert c; decide +kernel
  · intro Y; unfold k0_pay9; exact stage_cast
  · isplitl [U0R] <;> iassumption
  iintro ⟨U0R, Hst⟩
  ihave Hst := (Sg_full c (by revert c; decide +kernel) _) $$ Hst
  unfold WP; rw [wp_ret]; imodintro
  iapply Hk $$ [HS U0L U0R D0L D0R Hst]
  isplitl [HS]; · iexact HS
  isplitl [U0L U0R]; · (isplitl [U0L] <;> iassumption)
  isplitl [D0L D0R]; · (isplitl [D0L] <;> iassumption)
  iexact Hst

/-- Part 8 of the body takes the device from 12 messages and 7 waits to 14 and 7. -/
theorem part8 (v2 v33 v38 v214 : BitVec 32) {Q : FVec F S256x128 .f32 → sProp 𝕄} :
    iprop(Run e c 12 7 ∗ part c st fullShare (e.X (so 1 c)) ∗ part c wM fullShare (e.W c))
      ⊢ iprop((Run e c 14 7 ∗ part c st fullShare.right.right (e.X (so 1 c)) ∗ part c wM fullShare (e.W c) -∗ Q (e.tile c (ord c 3)))
      -∗ WP c (k0_part8 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2 v33 v38 v214) Q) := by
  simp only [k0_part8_eq_skeleton]; unfold k0_part8_skel
  simp only [Prog.lift, semSignalWord, semWaitWord, Prog.bind_op, Prog.bind_ret, Prog.pure_eq_ret]
  iintro ⟨HS, Hst, HW⟩ Hk
  ihave HS := (Run_nbr e c 12 7) $$ HS
  icases HS with ⟨HS, #HN⟩
  ihave #HR := (Nbr_so1 c) $$ HN
  ihave Hst := (owns_three c st _).1 $$ Hst
  icases Hst with ⟨H1, H2, H3⟩
  iapply (send_first e c 12 7 12 (by decide +kernel) rfl rfl ?_ ?_ ?_) $$ [HS H1]
  · revert c; decide +kernel
  · exact ⟨⟨rfl, rfl⟩, rfl, rfl⟩
  · exact ⟨BIBase.Entails.rfl, BIBase.Entails.rfl⟩
  · isplitl [HS]; · iexact HS
    isplitl [H1]; · iexact H1
    iexact HR
  iintro HS
  iapply (send_first e c 13 7 13 (by decide +kernel) rfl rfl ?_ ?_ ?_) $$ [HS H2]
  · revert c; decide +kernel
  · exact ⟨⟨rfl, rfl⟩, rfl, rfl⟩
  · exact ⟨BIBase.Entails.rfl, BIBase.Entails.rfl⟩
  · isplitl [HS]; · iexact HS
    isplitl [H2]; · iexact H2
    iexact HR
  iintro HS
  iapply (wp_load_slab c stM 0 _) $$ H3
  iintro H3
  iapply (load_w c) $$ HW
  iintro HW
  unfold WP; rw [wp_ret]; imodintro
  have hv : k0_pay10 (cst (e.X (so 1 c))) (e.W c) = e.tile c (ord c 3) := by rw [ord3 c]; rfl
  rw [hv]
  iapply Hk
  isplitl [HS]; · iexact HS
  isplitl [H3]; · iexact H3
  iexact HW

/-- Part 9 of the body takes the device from 14 messages and 7 waits to 16 and 9. -/
theorem part9 (v33 v38 : BitVec 32) {Q : (Σ' (_ : F .f32) (_ : BitVec 32), BitVec 32) → sProp 𝕄} :
    iprop(Run e c 14 7 ∗ (part c (half fpM 0 128 inb_S2x256x4096_S1x128x4096_0_128_0) fullShare.left (botOf (e.X (ord c 1))) ∗ part c fp0 fullShare.right (e.X (ord c 1)))
        ∗ (part c (half fnM 0 0 inb_S2x256x4096_S1x128x4096_0_0_0) fullShare.left (topOf (e.X (ord c 2))) ∗ part c fn0 fullShare.right (e.X (ord c 2)))
        ∗ readerAt EK (c, 0) 1 ∗ readerAt EK (c, 2) 1 ∗ Out e c 3)
      ⊢ iprop((Run e c 16 9 ∗ readerAt EK (c, 0) 2 ∗ readerAt EK (c, 2) 2 ∗ free c 0 16 1 ∗ free c 2 18 1 ∗ Out e c 4
          -∗ Q ⟨e.run c 4, Scalar.extui (Scalar.andi (Scalar.cmpi .sge (zw c) 0#32) (Scalar.cmpi .slt (zw c) 3#32)), 0#32⟩)
      -∗ WP c (k0_part9 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c (zw c) v33 v38 (e.run c 3) (e.tile c (ord c 3))) Q) := by
  simp only [k0_part9_eq_skeleton]; unfold k0_part9_skel
  simp only [Prog.lift, semSignalWord, semWaitWord, Prog.bind_op, Prog.bind_ret, Prog.pure_eq_ret]
  iintro ⟨HS, ⟨H6b, H6r⟩, ⟨H7t, H7r⟩, K0, K2, HO⟩ Hk
  ihave HS := (Run_nbr e c 14 7) $$ HS
  icases HS with ⟨HS, #HN⟩
  ihave #HR := (Nbr_so1 c) $$ HN
  ihave #HR' := (Entails.of_eq (congrArg (RA (F := F)) (ord3 c))) $$ HR
  iapply (out_put e c 3 (by decide) ?_ ?_) $$ [HO]
  · revert c; decide +kernel
  · rfl
  · isplitl [HO]; · iexact HO
    iexact HR'
  iintro HO
  iapply (dma_wait e c 14 7 (8, false) (by decide +kernel) rfl ?_) $$ HS
  · exact ⟨rfl, rfl⟩
  iintro ⟨HS, H8⟩
  ihave H8 := (bk8 e c) $$ H8
  iapply (dma_wait e c 14 8 (9, false) (by decide +kernel) rfl ?_) $$ HS
  · exact ⟨rfl, rfl⟩
  iintro ⟨HS, H9⟩
  ihave H9 := (bk9 e c) $$ H9
  ihave H6 := (lend_top c fpM 0 _ inb_S2x256x4096_S1x128x4096_0_0_0 inb_S2x256x4096_S1x128x4096_0_128_0 (e.X (ord c 1))).2 $$ [H8 H6b H6r]
  · isplitl [H8]; · iexact H8
    isplitl [H6b] <;> iassumption
  ihave H6 := (owns_Slot c fp0 _) $$ H6
  ihave H7 := (lend_top c fnM 0 _ inb_S2x256x4096_S1x128x4096_0_0_0 inb_S2x256x4096_S1x128x4096_0_128_0 (e.X (ord c 2))).2 $$ [H9 H7t H7r]
  · isplitl [H7t]; · iexact H7t
    isplitl [H9] <;> iassumption
  ihave H7 := (owns_Slot c fn0 _) $$ H7
  iapply (offer_then e c 14 9 0 16 rfl (set_nonempty fp0 pt256) 1 (by decide) ?_) $$ [HS K0 H6]
  · revert c; decide +kernel
  · isplitl [HS]; · iexact HS
    isplitl [K0]; · iexact K0
    iexact H6
  iintro ⟨HS, K0, #F0⟩
  iapply (offer_then e c 14 9 2 18 rfl (set_nonempty fn0 pt256) 1 (by decide) ?_) $$ [HS K2 H7]
  · revert c; decide +kernel
  · isplitl [HS]; · iexact HS
    isplitl [K2]; · iexact K2
    iexact H7
  iintro ⟨HS, K2, #F2⟩
  iapply (credit_pay (R := iprop(free c 0 16 1)) e c 14 9 14 (by decide +kernel) rfl ?_ ?_ ?_) $$ [HS]
  · revert c; decide +kernel
  · rfl
  · exact BIBase.Entails.rfl
  · isplitl [HS]; · iexact HS
    iexact F0
  iintro HS
  iapply (credit_pay (R := iprop(free c 2 18 1)) e c 15 9 15 (by decide +kernel) rfl ?_ ?_ ?_) $$ [HS]
  · revert c; decide +kernel
  · rfl
  · exact BIBase.Entails.rfl
  · isplitl [HS]; · iexact HS
    iexact F2
  iintro HS
  unfold WP; rw [wp_ret]; imodintro
  rw [show k0_pay11 (e.run c 3) (e.tile c (ord c 3)) = e.run c 4 from rfl]
  iapply Hk
  isplitl [HS]; · iexact HS
  isplitl [K0]; · iexact K0
  isplitl [K2]; · iexact K2
  isplitr; · iexact F0
  isplitr; · iexact F2
  iexact HO

end PartsC

end Cert.Gather

end
-- ==== Proof.PartsD.lean ====
/-
Parts ten to sixteen of the kernel.
-/
module

public import proofs.«01_k».proof.Proof.PartsC

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Parts ten to sixteen -/

section PartsD
variable (e : Env F) (c : Dev nD)

/-- A buffer filled in two halves is filled. -/
theorem an_join (Y : S256x4096.Idx → Elt F .f32) : iprop(part c anT fullShare (topOf Y) ∗ part c anB fullShare (botOf Y)) ⊢ part c an fullShare Y :=
  (owns_halved anM c 0 _ inb_S1x256x4096_S1x128x4096_0_0_0 inb_S1x256x4096_S1x128x4096_0_128_0 fullShare Y).2

/-- Part 10 of the body takes the device from 16 messages and 9 waits to 16 and 13. -/
theorem part10 (v33 v38 : BitVec 32) {Q : FVec F S256x128 .f32 → sProp 𝕄} :
    iprop(Run e c 16 9 ∗ part c wM fullShare (e.W c))
      ⊢ iprop((Run e c 16 13 ∗ Got e c (4, false) ∗ Got e c (5, false) ∗ part c an fullShare (e.X (ord c 4)) ∗ RA (ord c 4) ∗ part c wM fullShare (e.W c) -∗ Q (e.tile c (ord c 4)))
      -∗ WP c (k0_part10 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 (zw c) v33 v38 (Scalar.extui (Scalar.andi (Scalar.cmpi .sge (zw c) 0#32) (Scalar.cmpi .slt (zw c) 3#32))) 0#32) Q) := by
  simp only [k0_part10_eq_skeleton]; unfold k0_part10_skel
  simp only [Prog.lift, semSignalWord, semWaitWord, Prog.bind_op, Prog.bind_ret, Prog.pure_eq_ret]
  iintro ⟨HS, HW⟩ Hk
  iapply (dma_wait_if e c 16 9 (4, false) (by decide +kernel) ?_ ?_) $$ HS
  · revert c; decide +kernel
  · exact ⟨rfl, rfl⟩
  iintro ⟨HS, H4⟩
  iapply (dma_wait_if e c 16 10 (5, false) (by decide +kernel) ?_ ?_) $$ HS
  · revert c; decide +kernel
  · exact ⟨rfl, rfl⟩
  iintro ⟨HS, H5⟩
  iapply (dma_wait e c 16 11 (8, true) (by decide +kernel) rfl ?_) $$ HS
  · exact ⟨rfl, rfl⟩
  iintro ⟨HS, H8⟩
  ihave H8 := (take c (pay8 e c)) $$ H8
  icases H8 with ⟨H8, #R8⟩
  iapply (dma_wait e c 16 12 (9, true) (by decide +kernel) rfl ?_) $$ HS
  · exact ⟨rfl, rfl⟩
  iintro ⟨HS, H9⟩
  ihave H9 := (take c (pay9 e c)) $$ H9
  icases H9 with ⟨H9, #R9⟩
  ihave H8 := (an_join c (e.X (ord c 4))) $$ [H8 H9]
  · isplitl [H8] <;> iassumption
  iapply (wp_load_slab c anM 0 _) $$ H8
  iintro H8
  iapply (load_w c) $$ HW
  iintro HW
  unfold WP; rw [wp_ret]; imodintro
  rw [show k0_pay12 (cst (e.X (ord c 4))) (e.W c) = e.tile c (ord c 4) from rfl]
  iapply Hk
  isplitl [HS]; · iexact HS
  isplitl [H4]; · iexact H4
  isplitl [H5]; · iexact H5
  isplitl [H8]; · iexact H8
  isplitr; · iexact R8
  iexact HW

/-- Part 11 of the body takes the device from 16 messages and 13 waits to 18 and 14. -/
theorem part11 (v33 v38 v42 v43 v44 : BitVec 32) {Q : F .f32 → sProp 𝕄} :
    iprop(Run e c 16 13 ∗ part c an fullShare (e.X (ord c 4)) ∗ RA (ord c 4) ∗ Out e c 4)
      ⊢ iprop((Run e c 18 14 ∗ Whn (!act 16 c) (part c an fullShare.left (e.X (ord c 4))) ∗ Whn (!act 17 c) (part c an fullShare.right.left (e.X (ord c 4)))
        ∗ part c an fullShare.right.right (e.X (ord c 4)) ∗ Out e c 5 ∗ got c fp1 (e.X (ord c 5)) (ord c 5) -∗ Q (e.run c 5))
      -∗ WP c (k0_part11 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c (zw c) v33 v38 v42 v43 v44 (e.run c 4) (e.tile c (ord c 4))) Q) := by
  simp only [k0_part11_eq_skeleton]; unfold k0_part11_skel
  simp only [Prog.lift, semSignalWord, semWaitWord, Prog.bind_op, Prog.bind_ret, Prog.pure_eq_ret]
  iintro ⟨HS, Ha, #R4, HO⟩ Hk
  iapply (out_put e c 4 (by decide) ?_ ?_) $$ [HO]
  · revert c; decide +kernel
  · rfl
  · isplitl [HO]; · iexact HO
    iexact R4
  iintro HO
  ihave Ha := (owns_three c an _).1 $$ Ha
  icases Ha with ⟨H1, H2, H3⟩
  ihave H1 := (Whn_split (act 16 c) _).1 $$ H1
  icases H1 with ⟨H1, N1⟩
  ihave H2 := (Whn_split (act 17 c) _).1 $$ H2
  icases H2 with ⟨H2, N2⟩
  ihave H1 := (Whn_with _ _ _) $$ [H1]
  · isplitl [H1]; · iexact H1
    iexact R4
  ihave H2 := (Whn_with _ _ _) $$ [H2]
  · isplitl [H2]; · iexact H2
    iexact R4
  iapply (msg_if e c (n := 16) (j := 13) 16 rfl (R := iprop(part c an fullShare.left (e.X (ord c 4)) ∗ RA (ord c 4))) ?_ (fun h => ?_)) $$ [HS H1]
  · revert c; decide +kernel
  · rw [show ord c 4 = org 16 c by revert c; decide +kernel]
    refine send_first (k := fun _ => _) e c 16 13 16 (by decide +kernel) rfl ?_ ?_ ?_ ?_
    · revert c; decide +kernel
    · revert c; decide +kernel
    · exact ⟨⟨rfl, rfl⟩, rfl, rfl⟩
    · exact ⟨BIBase.Entails.rfl, BIBase.Entails.rfl⟩
  · isplitl [HS] <;> iassumption
  iintro HS
  iapply (msg_if e c (n := 17) (j := 13) 17 rfl (R := iprop(part c an fullShare.right.left (e.X (ord c 4)) ∗ RA (ord c 4))) ?_ (fun h => ?_)) $$ [HS H2]
  · revert c; decide +kernel
  · rw [show ord c 4 = org 17 c by revert c; decide +kernel]
    refine send_first (k := fun _ => _) e c 17 13 17 (by decide +kernel) rfl ?_ ?_ ?_ ?_
    · revert c; decide +kernel
    · revert c; decide +kernel
    · exact ⟨⟨rfl, rfl⟩, rfl, rfl⟩
    · exact ⟨BIBase.Entails.rfl, BIBase.Entails.rfl⟩
  · isplitl [HS] <;> iassumption
  iintro HS
  iapply (dma_wait e c 18 13 (12, true) (by decide +kernel) rfl ?_) $$ HS
  · exact ⟨rfl, rfl⟩
  iintro ⟨HS, H12⟩
  unfold WP; rw [wp_ret]; imodintro
  rw [show k0_pay13 (e.run c 4) (e.tile c (ord c 4)) = e.run c 5 from rfl]
  iapply Hk
  isplitl [HS]; · iexact HS
  isplitl [N1]; · iexact N1
  isplitl [N2]; · iexact N2
  isplitl [H3]; · iexact H3
  isplitl [HO]; · iexact HO
  iapply (Entails.of_eq (pay12 e c)); iexact H12

/-- Part 12 of the body takes the device from 18 messages and 14 waits to 18 and 15. -/
theorem part12 (v33 v38 v214 : BitVec 32) {Q : (Σ' (_ : F .f32), F .f32) → sProp 𝕄} :
    iprop(Run e c 18 14 ∗ got c fp1 (e.X (ord c 5)) (ord c 5) ∗ part c wM fullShare (e.W c) ∗ Out e c 5)
      ⊢ iprop((Run e c 18 15 ∗ part c fp1 fullShare (e.X (ord c 5)) ∗ part c fn1 fullShare (e.X (ord c 6)) ∗ part c wM fullShare (e.W c) ∗ Out e c 7
        -∗ Q ⟨e.run c 6, k0_pay17 (cst (e.X (ord c 6))) (e.W c)⟩)
      -∗ WP c (k0_part12 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v33 v38 v214 (e.run c 5)) Q) := by
  simp only [k0_part12_eq_skeleton]; unfold k0_part12_skel
  simp only [Prog.lift, semSignalWord, semWaitWord, Prog.bind_op, Prog.bind_ret, Prog.pure_eq_ret]
  iintro ⟨HS, H5, HW, HO⟩ Hk
  ihave H5 := (take c rfl) $$ H5
  icases H5 with ⟨H5, #R5⟩
  iapply (dma_wait e c 18 14 (13, true) (by decide +kernel) rfl ?_) $$ HS
  · exact ⟨rfl, rfl⟩
  iintro ⟨HS, H6⟩
  ihave H6 := (take c (pay13 e c)) $$ H6
  icases H6 with ⟨H6, #R6⟩
  iapply (product e c 5 (by decide) ?_ ?_) $$ [H5 HW HO]
  · revert c; decide +kernel
  · rfl
  · isplitl [H5]; · iexact H5
    isplitl [HW]; · iexact HW
    isplitl [HO]; · iexact HO
    iexact R5
  iintro ⟨H5, HW, HO⟩
  iapply (product e c 6 (by decide) ?_ ?_) $$ [H6 HW HO]
  · revert c; decide +kernel
  · rfl
  · isplitl [H6]; · iexact H6
    isplitl [HW]; · iexact HW
    isplitl [HO]; · iexact HO
    iexact R6
  iintro ⟨H6, HW, HO⟩
  unfold WP; rw [wp_ret]; imodintro
  rw [show k0_pay15 (e.run c 5) (cst (e.X (ord c 5))) (e.W c) = e.run c 6 from rfl]
  iapply Hk
  isplitl [HS]; · iexact HS
  isplitl [H5]; · iexact H5
  isplitl [H6]; · iexact H6
  isplitl [HW]; · iexact HW
  iexact HO

/-- Part 13 of the body takes the device from 18 messages and 15 waits to 19 and 19. -/
theorem part13 (v43 v44 : BitVec 32) {Q : (Σ' (_ : F .f32), BitVec 32) → sProp 𝕄} :
    iprop(Run e c 18 15 ∗ part c st fullShare.right.right (e.X (so 1 c)))
      ⊢ iprop((Run e c 19 19 ∗ part c st fullShare (e.X (so 1 c)) ∗ (Half c (10, true) 18 up1 (e.X (dn (dn c))) ∗ Whn (dAct (10, true) c) (part c up1 fullShare.right (e.X (dn (dn c)))))
        ∗ Whn (dAct (10, true) c) (RA (dn (dn c))) ∗ Got e c (11, true) -∗ ∀ w, Q ⟨e.run c 7, w⟩)
      -∗ WP c (k0_part13 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c (zw c) v43 v44 (e.run c 6) (k0_pay17 (cst (e.X (ord c 6))) (e.W c))) Q) := by
  simp only [k0_part13_eq_skeleton]; unfold k0_part13_skel
  simp only [Prog.lift, semSignalWord, semWaitWord, Prog.bind_op, Prog.bind_ret, Prog.pure_eq_ret]
  iintro ⟨HS, H3⟩ Hk
  iapply (dma_wait e c 18 15 (12, false) (by decide +kernel) rfl ?_) $$ HS
  · exact ⟨rfl, rfl⟩
  iintro ⟨HS, H1⟩
  ihave H1 := (bk12 e c) $$ H1
  iapply (dma_wait e c 18 16 (13, false) (by decide +kernel) rfl ?_) $$ HS
  · exact ⟨rfl, rfl⟩
  iintro ⟨HS, H2⟩
  ihave H2 := (bk13 e c) $$ H2
  ihave Hst := (st_join c _) $$ [H1 H2 H3]
  · isplitl [H1]; · iexact H1
    isplitl [H2] <;> iassumption
  iapply (dma_wait_if e c 18 17 (10, true) (by decide +kernel) ?_ ?_) $$ HS
  · revert c; decide +kernel
  · exact ⟨rfl, rfl⟩
  iintro ⟨HS, H10⟩
  iapply (dma_wait_if e c 18 18 (11, true) (by decide +kernel) ?_ ?_) $$ HS
  · revert c; decide +kernel
  · exact ⟨rfl, rfl⟩
  iintro ⟨HS, H11⟩
  ihave H10 := (Got_split e c (10, true) 18 (pay10 e c) (by revert c; decide +kernel)) $$ H10
  icases H10 with ⟨L10, U1L, U1R, #R10⟩
  iapply (msg_if e c (n := 18) (j := 19) 18 rfl (R := iprop(part c up1 fullShare.left (e.X (dn (dn c))) ∗ RA (dn (dn c)))) ?_ (fun h => ?_)) $$ [HS L10]
  · revert c; decide +kernel
  · refine send_first (k := fun _ => _) e c 18 19 18 (by decide +kernel) rfl ?_ ?_ ?_ ?_
    · revert c; decide +kernel
    · revert c; decide +kernel
    · exact ⟨⟨rfl, rfl⟩, rfl, rfl⟩
    · exact ⟨BIBase.Entails.rfl, BIBase.Entails.rfl⟩
  · isplitl [HS]; · iexact HS
    iexact L10
  iintro HS
  unfold WP; rw [wp_ret]; imodintro
  rw [show k0_pay18 (e.run c 6) (k0_pay17 (cst (e.X (ord c 6))) (e.W c)) = e.run c 7 from rfl]
  iapply Hk $$ [HS Hst U1L U1R H11]
  isplitl [HS]; · iexact HS
  isplitl [Hst]; · iexact Hst
  isplitl [U1L U1R]; · (isplitl [U1L] <;> iassumption)
  isplitr; · iexact R10
  iexact H11

/-- the third is known to have once its block has come, -/
theorem RA_so2 : iprop(Nbr c ∗ Whn (dAct (10, true) c) (RA (dn (dn c))) ∗ Whn (dAct (11, true) c) (RA (up (up c)))) ⊢ RA (F := F) (so 2 c) := by
  have h : ∀ c : Dev nD, (so 2 c = dn (dn c) ∧ dAct (10, true) c = true) ∨ (so 2 c = up (up c) ∧ dAct (11, true) c = true) ∨ (so 2 c = up c ∧ c.val / 4 < 3) := by decide +kernel
  unfold Nbr
  rcases h c with ⟨h, hz⟩ | ⟨h, hz⟩ | ⟨h, hz⟩ <;> rw [h]
  · rw [Whn_true hz]; iintro ⟨-, #H, -⟩; iexact H
  · rw [Whn_true (b := dAct (11, true) c) hz]; iintro ⟨-, -, #H⟩; iexact H
  · rw [Whn_true (b := decide (c.val / 4 < 3)) (decide_eq_true hz)]; iintro ⟨⟨-, -, -, -, #H⟩, -⟩; iexact H

/-- Part 14 of the body takes the device from 19 messages and 19 waits to 21 and 21. -/
theorem part14 (v33 v44 v389 : BitVec 32) {Q : BitVec 32 → sProp 𝕄} :
    iprop(Run e c 19 19 ∗ part c st fullShare (e.X (so 1 c)) ∗ Whn (dAct (10, true) c) (part c up1 fullShare.right (e.X (dn (dn c))))
        ∗ Whn (dAct (10, true) c) (RA (dn (dn c))) ∗ Got e c (11, true) ∗ Whn (dAct (5, true) c) (part c dn0 fullShare.right (e.X (up c))))
      ⊢ iprop((Run e c 21 21 ∗ (part c st fullShare.right.left (e.X (so 2 c)) ∗ part c st fullShare.right.right (e.X (so 2 c)))
        ∗ (Half c (11, true) 19 dn1 (e.X (up (up c))) ∗ Whn (dAct (11, true) c) (part c dn1 fullShare.right (e.X (up (up c)))))
        ∗ Whn (dAct (10, true) c) (part c up1 fullShare.right (e.X (dn (dn c)))) ∗ Whn (dAct (5, true) c) (part c dn0 fullShare.right (e.X (up c)))
        ∗ RA (so 2 c) ∗ Whn (dAct (11, true) c) (RA (up (up c))) ∗ free (mv 21 c) (ky 21 c) (rs 21) (rd 21) -∗ ∀ w, Q w)
      -∗ WP c (k0_part14 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c (zw c) v33 v44 v389) Q) := by
  simp only [k0_part14_eq_skeleton]; unfold k0_part14_skel
  simp only [Prog.lift, semSignalWord, semWaitWord, Prog.bind_op, Prog.bind_ret, Prog.pure_eq_ret]
  iintro ⟨HS, Hst, U1R, #R10, H11, D0R⟩ Hk
  ihave H11 := (Got_split e c (11, true) 19 (pay11 e c) (by revert c; decide +kernel)) $$ H11
  icases H11 with ⟨L11, D1L, D1R, #R11⟩
  ihave HS := (Run_nbr e c 19 19) $$ HS
  icases HS with ⟨HS, #HN⟩
  ihave #HR := (RA_so2 c) $$ []
  · isplitr; · iexact HN
    isplitr; · iexact R10
    iexact R11
  ihave Hst := (Sg_none c (e.X (so 2 c))) $$ Hst
  iapply (msg_if e c (n := 19) (j := 19) 19 rfl (R := iprop(part c dn1 fullShare.left (e.X (up (up c))) ∗ RA (up (up c)))) ?_ (fun h => ?_)) $$ [HS L11]
  · revert c; decide +kernel
  · refine send_first (k := fun _ => _) e c 19 19 19 (by decide +kernel) rfl ?_ ?_ ?_ ?_
    · revert c; decide +kernel
    · revert c; decide +kernel
    · exact ⟨⟨rfl, rfl⟩, rfl, rfl⟩
    · exact ⟨BIBase.Entails.rfl, BIBase.Entails.rfl⟩
  · isplitl [HS]; · iexact HS
    iexact L11
  iintro HS
  iapply (stage_if e c (a := dAct (11, true) c) (b := decide (c.val / 4 = 0)) (false) (up (up c)) (so 2 c) ?_ ?_ ?_) $$ [D1R Hst]
  · revert c; decide +kernel
  · revert c; decide +kernel
  · intro Y; unfold k0_pay19; exact stage_cast
  · isplitl [D1R] <;> iassumption
  iintro ⟨D1R, Hst⟩
  iapply (stage_if e c (a := dAct (5, true) c) (b := decide (c.val / 4 = 1) || decide (c.val / 4 = 2)) (false || decide (c.val / 4 = 0)) (up c) (so 2 c) ?_ ?_ ?_) $$ [D0R Hst]
  · revert c; decide +kernel
  · revert c; decide +kernel
  · intro Y; unfold k0_pay20; exact stage_cast
  · isplitl [D0R] <;> iassumption
  iintro ⟨D0R, Hst⟩
  iapply (stage_if e c (a := dAct (10, true) c) (b := decide (c.val / 4 = 3)) ((false || decide (c.val / 4 = 0)) || (decide (c.val / 4 = 1) || decide (c.val / 4 = 2))) (dn (dn c)) (so 2 c) ?_ ?_ ?_) $$ [U1R Hst]
  · revert c; decide +kernel
  · revert c; decide +kernel
  · intro Y; unfold k0_pay21; exact stage_cast
  · isplitl [U1R] <;> iassumption
  iintro ⟨U1R, Hst⟩
  ihave Hst := (Sg_full c (by revert c; decide +kernel) _) $$ Hst
  iapply (credit_wait_first e c 20 19 (14, true) (by decide +kernel) (crd57 e c) ?_) $$ HS
  · rfl
  iintro ⟨HS, #F20⟩
  iapply (credit_wait_first e c 20 20 (15, true) (by decide +kernel) (crd58 e c) ?_) $$ HS
  · rfl
  iintro ⟨HS, #F21⟩
  ihave Hst := (owns_three c st _).1 $$ Hst
  icases Hst with ⟨H1, H2, H3⟩
  iapply (dma_send (R := RA (so 2 c)) e c 20 21 20 (by decide +kernel) rfl ?_ ?_ ?_) $$ [HS H1]
  · revert c; decide +kernel
  · exact ⟨⟨rfl, rfl⟩, rfl, rfl⟩
  · exact ⟨BIBase.Entails.rfl, BIBase.Entails.rfl⟩
  · isplitl [HS]; · iexact HS
    isplitl [H1]; · iexact H1
    isplitr; · iexact HR
    iexact F20
  iintro HS
  unfold WP; rw [wp_ret]; imodintro
  iapply Hk $$ [HS H2 H3 D1L D1R U1R D0R]
  isplitl [HS]; · iexact HS
  isplitl [H2 H3]; · (isplitl [H2] <;> iassumption)
  isplitl [D1L D1R]; · (isplitl [D1L] <;> iassumption)
  isplitl [U1R]; · iexact U1R
  isplitl [D0R]; · iexact D0R
  isplitr; · iexact HR
  isplitr; · iexact R11
  iexact F21

/-- Part 15 of the body takes the device from 21 messages and 21 waits to 24 and 21. -/
theorem part15 (v2 v33 v38 v405 : BitVec 32) {Q : F .f32 → sProp 𝕄} :
    iprop(Run e c 21 21 ∗ (part c st fullShare.right.left (e.X (so 2 c)) ∗ part c st fullShare.right.right (e.X (so 2 c)))
        ∗ RA (so 2 c) ∗ free (mv 21 c) (ky 21 c) (rs 21) (rd 21) ∗ part c fp1 fullShare (e.X (ord c 5)) ∗ part c fn1 fullShare (e.X (ord c 6))
        ∗ readerAt EK (c, 1) 1 ∗ readerAt EK (c, 3) 1 ∗ free c 0 16 1 ∗ free c 2 18 1 ∗ part c wM fullShare (e.W c) ∗ Out e c 7)
      ⊢ iprop((Run e c 24 21 ∗ part c st fullShare.right.right (e.X (so 2 c)) ∗ part c wM fullShare (e.W c) ∗ Out e c 8 -∗ Q (e.run c 8))
      -∗ WP c (k0_part15 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2 v33 v38 (e.run c 7) v405) Q) := by
  simp only [k0_part15_eq_skeleton]; unfold k0_part15_skel
  simp only [Prog.lift, semSignalWord, semWaitWord, Prog.bind_op, Prog.bind_ret, Prog.pure_eq_ret]
  iintro ⟨HS, ⟨H2, H3⟩, #HR, #F21, H5, H6, K1, K3, #F0, #F2, HW, HO⟩ Hk
  iapply (dma_send (R := RA (so 2 c)) e c 21 21 21 (by decide +kernel) rfl ?_ ?_ ?_) $$ [HS H2]
  · revert c; decide +kernel
  · exact ⟨⟨rfl, rfl⟩, rfl, rfl⟩
  · exact ⟨BIBase.Entails.rfl, BIBase.Entails.rfl⟩
  · isplitl [HS]; · iexact HS
    isplitl [H2]; · iexact H2
    isplitr; · iexact HR
    iexact F21
  iintro HS
  ihave H3 := (Entails.of_eq (congrArg (fun d => part c st fullShare.right.right (e.X d)) (ord7 c))) $$ H3
  ihave #HR' := (Entails.of_eq (congrArg (RA (F := F)) (ord7 c))) $$ HR
  iapply (product e c 7 (by decide) ?_ ?_) $$ [H3 HW HO]
  · revert c; decide +kernel
  · rfl
  · isplitl [H3]; · iexact H3
    isplitl [HW]; · iexact HW
    isplitl [HO]; · iexact HO
    iexact HR'
  iintro ⟨H3, HW, HO⟩
  ihave H3 := (Entails.of_eq (congrArg (fun d => part c st fullShare.right.right (e.X d)) (ord7 c).symm)) $$ H3
  ihave H5 := (owns_Slot c fp1 _) $$ H5
  ihave H6 := (owns_Slot c fn1 _) $$ H6
  iapply (offer_then e c 22 21 1 17 rfl (set_nonempty fp1 pt256) 1 (by decide) ?_) $$ [HS K1 H5]
  · revert c; decide +kernel
  · isplitl [HS]; · iexact HS
    isplitl [K1]; · iexact K1
    iexact H5
  iintro ⟨HS, K1, #F1⟩
  iapply (offer_then e c 22 21 3 19 rfl (set_nonempty fn1 pt256) 1 (by decide) ?_) $$ [HS K3 H6]
  · revert c; decide +kernel
  · isplitl [HS]; · iexact HS
    isplitl [K3]; · iexact K3
    iexact H6
  iintro ⟨HS, K3, #F3⟩
  iapply (credit_pay (R := iprop(free c 0 16 1 ∗ free c 1 17 1)) e c 22 21 22 (by decide +kernel) rfl ?_ ?_ ?_) $$ [HS]
  · revert c; decide +kernel
  · rfl
  · exact BIBase.Entails.rfl
  · isplitl [HS]; · iexact HS
    isplitr; · iexact F0
    iexact F1
  iintro HS
  iapply (credit_pay (R := iprop(free c 2 18 1 ∗ free c 3 19 1)) e c 23 21 23 (by decide +kernel) rfl ?_ ?_ ?_) $$ [HS]
  · revert c; decide +kernel
  · rfl
  · exact BIBase.Entails.rfl
  · isplitl [HS]; · iexact HS
    isplitr; · iexact F2
    iexact F3
  iintro HS
  unfold WP; rw [wp_ret]; imodintro
  rw [show k0_pay23 (e.run c 7) (cst (e.X (ord c 7))) (e.W c) = e.run c 8 from rfl]
  iapply Hk
  isplitl [HS]; · iexact HS
  isplitl [H3]; · iexact H3
  isplitl [HW]; · iexact HW
  iexact HO

/-- The one copy into the relay's buffer, from below or from above. -/
theorem relay_wait {α : Type} {Q : α → sProp 𝕄}
    {sem : DmaSem sig} {s s' : Shape} {sp sp' : Space} {src : Memref sig .tc sp s .f32} {dst : Memref sig .tc sp' s' .f32} {h1 h2}
    (hs : SemLoc.dma sem = csem (dS (16, true)) ∧ dst.view.dmaCredit = amt 16)
    {k : PUnit → Prog (TpuEff nD τ sig (Elt F) Λ₀ .tc) α} :
    Run e c 24 21 ⊢ iprop((Run e c 24 23 ∗ got c rz (e.X (ord c 8)) (ord c 8) -∗ WP c (k ⟨⟩) Q) -∗ WP c (.op (.waitDma2 sem src dst h1 h2) k) Q) := by
  have hx : ∀ c : Dev nD, dAct (17, true) c = !dAct (16, true) c := by decide +kernel
  by_cases h : dAct (16, true) c = true
  · have h' : dAct (17, true) c = false := by rw [hx, h]; rfl
    rw [← Run_skip_wait e c (n := 24) (j := 22) (17, true) (by decide +kernel) h', ← pay16 e c h]
    exact dma_wait e c 24 21 (16, true) (by decide +kernel) h hs
  · have h : dAct (16, true) c = false := by simpa using h
    have h' : dAct (17, true) c = true := by rw [hx, h]; rfl
    rw [Run_skip_wait e c (n := 24) (j := 21) (16, true) (by decide +kernel) h, ← pay17 e c h']
    exact dma_wait e c 24 22 (17, true) (by decide +kernel) h' hs

/-- Part 16 of the body takes the device from 24 messages and 21 waits to 24 and 25. -/
theorem part16 (v42 v43 v214 : BitVec 32) {Q : (Σ' (_ : F .f32), BitVec 32) → sProp 𝕄} :
    iprop(Run e c 24 21 ∗ part c wM fullShare (e.W c) ∗ Out e c 8)
      ⊢ iprop((Run e c 24 25 ∗ Got e c (16, false) ∗ Got e c (17, false) ∗ part c rz fullShare (e.X (ord c 8)) ∗ part c wM fullShare (e.W c) ∗ Out e c 9 -∗ ∀ w, Q ⟨e.run c 9, w⟩)
      -∗ WP c (k0_part16 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c (zw c) v42 v43 v214 (e.run c 8)) Q) := by
  simp only [k0_part16_eq_skeleton]; unfold k0_part16_skel
  simp only [Prog.lift, semSignalWord, semWaitWord, Prog.bind_op, Prog.bind_ret, Prog.pure_eq_ret]
  iintro ⟨HS, HW, HO⟩ Hk
  iapply (relay_wait e c ?_) $$ HS
  · exact ⟨rfl, rfl⟩
  iintro ⟨HS, H8⟩
  ihave H8 := (take c rfl) $$ H8
  icases H8 with ⟨H8, #R8⟩
  iapply (product e c 8 (by decide) ?_ ?_) $$ [H8 HW HO]
  · revert c; decide +kernel
  · rfl
  · isplitl [H8]; · iexact H8
    isplitl [HW]; · iexact HW
    isplitl [HO]; · iexact HO
    iexact R8
  iintro ⟨H8, HW, HO⟩
  iapply (dma_wait_if e c 24 23 (16, false) (by decide +kernel) ?_ ?_) $$ HS
  · revert c; decide +kernel
  · exact ⟨rfl, rfl⟩
  iintro ⟨HS, H16⟩
  iapply (dma_wait_if e c 24 24 (17, false) (by decide +kernel) ?_ ?_) $$ HS
  · revert c; decide +kernel
  · exact ⟨rfl, rfl⟩
  iintro ⟨HS, H17⟩
  unfold WP; rw [wp_ret]; imodintro
  rw [show k0_pay25 (e.run c 8) (cst (e.X (ord c 8))) (e.W c) = e.run c 9 from rfl]
  iapply Hk $$ [HS H16 H17 H8 HW HO]
  isplitl [HS]; · iexact HS
  isplitl [H16]; · iexact H16
  isplitl [H17]; · iexact H17
  isplitl [H8]; · iexact H8
  isplitl [HW]; · iexact HW
  iexact HO

end PartsD

end Cert.Gather

end
-- ==== Proof.PartsE.lean ====
/-
Parts seventeen to twenty-eight of the kernel.
-/
module

public import proofs.«01_k».proof.Proof.PartsD

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Parts seventeen to twenty-eight -/

section PartsE
variable (e : Env F) (c : Dev nD)

/-- What a conditional copy hands back, with what it left behind. -/
theorem Got_back (μ : Fin 49) (hd : dAct (μ, false) c = act μ c) {P : sProp 𝕄} (h : dpay e c (μ, false) ⊢ P) : iprop(Got e c (μ, false) ∗ Whn (!act μ c) P) ⊢ P := by
  refine BIBase.Entails.trans (sep_mono_left ?_) (Whn_split (act μ c) P).2
  unfold Got; rw [hd]
  exact Whn_mono h

/-- Part 17 of the body takes the device from 24 messages and 25 waits to 26 and 29. -/
theorem part17 (v33 v38 w : BitVec 32) {Q : BitVec 32 → sProp 𝕄} :
    iprop(Run e c 24 25 ∗ (Got e c (16, false) ∗ Whn (!act 16 c) (part c an fullShare.left (e.X (ord c 4)))) ∗ (Got e c (17, false) ∗ Whn (!act 17 c) (part c an fullShare.right.left (e.X (ord c 4))))
        ∗ part c an fullShare.right.right (e.X (ord c 4)) ∗ readerAt EK (c, 10) 1 ∗ readerAt EK (c, 11) 1)
      ⊢ iprop((Run e c 26 29 ∗ got c fp0 (e.X (ord c 9)) (ord c 9) ∗ got c fn0 (e.X (ord c 10)) (ord c 10) ∗ readerAt EK (c, 10) 2 ∗ readerAt EK (c, 11) 2
        ∗ free c 10 22 1 ∗ free c 11 23 1 ∗ free (mv 26 c) (ky 26 c) (rs 26) (rd 26) ∗ free (mv 27 c) (ky 27 c) (rs 27) (rd 27) -∗ ∀ w, Q w)
      -∗ WP c (k0_part17 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v33 v38 w) Q) := by
  simp only [k0_part17_eq_skeleton]; unfold k0_part17_skel
  simp only [Prog.lift, semSignalWord, semWaitWord, Prog.bind_op, Prog.bind_ret, Prog.pure_eq_ret]
  iintro ⟨HS, H16, H17, H3, K10, K11⟩ Hk
  ihave H1 := (Got_back e c 16 (by revert c; decide +kernel) (bk16 e c)) $$ H16
  ihave H2 := (Got_back e c 17 (by revert c; decide +kernel) (bk17 e c)) $$ H17
  ihave Ha := (owns_three c an (e.X (ord c 4))).2 $$ [H1 H2 H3]
  · isplitl [H1]; · iexact H1
    isplitl [H2] <;> iassumption
  ihave Ha := (owns_Slot c an _) $$ Ha
  ihave Ha := (Slot_halved anM c 0 _ inb_S1x256x4096_S1x128x4096_0_0_0 inb_S1x256x4096_S1x128x4096_0_128_0).1 $$ Ha
  icases Ha with ⟨HT, HB⟩
  iapply (offer_then e c 24 25 10 22 rfl (set_nonempty anT pt128) 1 (by decide) ?_) $$ [HS K10 HT]
  · revert c; decide +kernel
  · isplitl [HS]; · iexact HS
    isplitl [K10]; · iexact K10
    iexact HT
  iintro ⟨HS, K10, #F10⟩
  iapply (offer_then e c 24 25 11 23 rfl (set_nonempty anB pt128) 1 (by decide) ?_) $$ [HS K11 HB]
  · revert c; decide +kernel
  · isplitl [HS]; · iexact HS
    isplitl [K11]; · iexact K11
    iexact HB
  iintro ⟨HS, K11, #F11⟩
  iapply (credit_pay (R := iprop(free c 10 22 1)) e c 24 25 24 (by decide +kernel) rfl ?_ ?_ ?_) $$ [HS]
  · revert c; decide +kernel
  · rfl
  · exact BIBase.Entails.rfl
  · isplitl [HS]; · iexact HS
    iexact F10
  iintro HS
  iapply (credit_pay (R := iprop(free c 11 23 1)) e c 25 25 25 (by decide +kernel) rfl ?_ ?_ ?_) $$ [HS]
  · revert c; decide +kernel
  · rfl
  · exact BIBase.Entails.rfl
  · isplitl [HS]; · iexact HS
    iexact F11
  iintro HS
  iapply (dma_wait e c 26 25 (20, true) (by decide +kernel) rfl ?_) $$ HS
  · exact ⟨rfl, rfl⟩
  iintro ⟨HS, H9⟩
  iapply (dma_wait e c 26 26 (21, true) (by decide +kernel) rfl ?_) $$ HS
  · exact ⟨rfl, rfl⟩
  iintro ⟨HS, H10⟩
  iapply (credit_wait_first e c 26 27 (24, true) (by decide +kernel) (crd59 e c) ?_) $$ HS
  · rfl
  iintro ⟨HS, #F26⟩
  iapply (credit_wait_first e c 26 28 (25, true) (by decide +kernel) (crd60 e c) ?_) $$ HS
  · rfl
  iintro ⟨HS, #F27⟩
  unfold WP; rw [wp_ret]; imodintro
  iapply Hk $$ [HS H9 H10 K10 K11]
  isplitl [HS]; · iexact HS
  isplitl [H9]; · (iapply (Entails.of_eq (pay20 e c)); iexact H9)
  isplitl [H10]; · (iapply (Entails.of_eq (pay21 e c)); iexact H10)
  isplitl [K10]; · iexact K10
  isplitl [K11]; · iexact K11
  isplitr; · iexact F10
  isplitr; · iexact F11
  isplitr; · iexact F26
  iexact F27

/-- Part 18 of the body takes the device from 26 messages and 29 waits to 28 and 29. -/
theorem part18 (v38 v405 v496 : BitVec 32) {Q : FVec F S1 .f32 → sProp 𝕄} :
    iprop(Run e c 26 29 ∗ got c fp0 (e.X (ord c 9)) (ord c 9) ∗ got c fn0 (e.X (ord c 10)) (ord c 10)
        ∗ free (mv 26 c) (ky 26 c) (rs 26) (rd 26) ∗ free (mv 27 c) (ky 27 c) (rs 27) (rd 27) ∗ part c wM fullShare (e.W c) ∗ Out e c 9)
      ⊢ iprop((Run e c 28 29 ∗ (part c (half fpM 0 128 inb_S2x256x4096_S1x128x4096_0_128_0) fullShare.left (botOf (e.X (ord c 9))) ∗ part c fp0 fullShare.right (e.X (ord c 9)))
        ∗ (part c (half fnM 0 0 inb_S2x256x4096_S1x128x4096_0_0_0) fullShare.left (topOf (e.X (ord c 10))) ∗ part c fn0 fullShare.right (e.X (ord c 10)))
        ∗ RA (ord c 10) ∗ part c wM fullShare (e.W c) ∗ Out e c 10 -∗ Q (k0_pay27 (cst (e.X (ord c 9))) (e.W c)))
      -∗ WP c (k0_part18 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v38 v405 v496) Q) := by
  simp only [k0_part18_eq_skeleton]; unfold k0_part18_skel
  simp only [Prog.lift, semSignalWord, semWaitWord, Prog.bind_op, Prog.bind_ret, Prog.pure_eq_ret]
  iintro ⟨HS, H6, H7, #F26, #F27, HW, HO⟩ Hk
  ihave H6 := (take c rfl) $$ H6
  icases H6 with ⟨H6, #R6⟩
  ihave H7 := (take c rfl) $$ H7
  icases H7 with ⟨H7, #R7⟩
  ihave H6 := (lend_top c fpM 0 _ inb_S2x256x4096_S1x128x4096_0_0_0 inb_S2x256x4096_S1x128x4096_0_128_0 _).1 $$ H6
  icases H6 with ⟨H6t, H6b, H6r⟩
  ihave H7 := (lend_top c fnM 0 _ inb_S2x256x4096_S1x128x4096_0_0_0 inb_S2x256x4096_S1x128x4096_0_128_0 _).1 $$ H7
  icases H7 with ⟨H7t, H7b, H7r⟩
  iapply (dma_send (Y := topOf (e.X (ord c 9))) (q := fullShare.left) (R := RA (ord c 9)) e c 26 29 26 (by decide +kernel) rfl ?_ ?_ ?_) $$ [HS H6t]
  · revert c; decide +kernel
  · exact ⟨⟨rfl, rfl⟩, rfl, rfl⟩
  · rw [show ord c 9 = org 26 c by revert c; decide +kernel]; exact ⟨BIBase.Entails.rfl, BIBase.Entails.rfl⟩
  · isplitl [HS]; · iexact HS
    isplitl [H6t]; · iexact H6t
    isplitr; · iexact R6
    iexact F26
  iintro HS
  iapply (dma_send (Y := botOf (e.X (ord c 10))) (q := fullShare.left) (R := RA (ord c 10)) e c 27 29 27 (by decide +kernel) rfl ?_ ?_ ?_) $$ [HS H7b]
  · revert c; decide +kernel
  · exact ⟨⟨rfl, rfl⟩, rfl, rfl⟩
  · rw [show ord c 10 = org 27 c by revert c; decide +kernel]; exact ⟨BIBase.Entails.rfl, BIBase.Entails.rfl⟩
  · isplitl [HS]; · iexact HS
    isplitl [H7b]; · iexact H7b
    isplitr; · iexact R7
    iexact F27
  iintro HS
  iapply (product e c 9 (by decide) ?_ ?_) $$ [H6r HW HO]
  · revert c; decide +kernel
  · rfl
  · isplitl [H6r]; · iexact H6r
    isplitl [HW]; · iexact HW
    isplitl [HO]; · iexact HO
    iexact R6
  iintro ⟨H6r, HW, HO⟩
  unfold WP; rw [wp_ret]; imodintro
  iapply Hk
  isplitl [HS]; · iexact HS
  isplitl [H6b H6r]; · (isplitl [H6b] <;> iassumption)
  isplitl [H7t H7r]; · (isplitl [H7t] <;> iassumption)
  isplitr; · iexact R7
  isplitl [HW]; · iexact HW
  iexact HO

/-- Part 19 of the body takes the device from 28 messages and 29 waits to 28 and 30. -/
theorem part19 (v33 v405 : BitVec 32) {Q : F .f32 → sProp 𝕄} :
    iprop(Run e c 28 29 ∗ part c fn0 fullShare.right (e.X (ord c 10)) ∗ RA (ord c 10) ∗ part c wM fullShare (e.W c) ∗ Out e c 10)
      ⊢ iprop((Run e c 28 30 ∗ part c fn0 fullShare.right (e.X (ord c 10)) ∗ part c wM fullShare (e.W c) ∗ Out e c 11 ∗ part c st fullShare.left (e.X (so 2 c)) -∗ Q (e.run c 11))
      -∗ WP c (k0_part19 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v33 v405 (e.run c 9) (k0_pay27 (cst (e.X (ord c 9))) (e.W c))) Q) := by
  simp only [k0_part19_eq_skeleton]; unfold k0_part19_skel
  simp only [Prog.lift, semSignalWord, semWaitWord, Prog.bind_op, Prog.bind_ret, Prog.pure_eq_ret]
  iintro ⟨HS, H7, #R7, HW, HO⟩ Hk
  iapply (product e c 10 (by decide) ?_ ?_) $$ [H7 HW HO]
  · revert c; decide +kernel
  · rfl
  · isplitl [H7]; · iexact H7
    isplitl [HW]; · iexact HW
    isplitl [HO]; · iexact HO
    iexact R7
  iintro ⟨H7, HW, HO⟩
  iapply (dma_wait e c 28 29 (20, false) (by decide +kernel) rfl ?_) $$ HS
  · exact ⟨rfl, rfl⟩
  iintro ⟨HS, H1⟩
  ihave H1 := (bk20 e c) $$ H1
  unfold WP; rw [wp_ret]; imodintro
  rw [show k0_pay29 (e.run c 9) (k0_pay27 (cst (e.X (ord c 9))) (e.W c)) (cst (e.X (ord c 10))) (e.W c) = e.run c 11 from rfl]
  iapply Hk
  isplitl [HS]; · iexact HS
  isplitl [H7]; · iexact H7
  isplitl [HW]; · iexact HW
  isplitl [HO]; · iexact HO
  iexact H1

/-- and the fourth likewise. -/
theorem RA_so3 : iprop(Whn (dAct (10, true) c) (RA (dn (dn c))) ∗ Whn (dAct (11, true) c) (RA (up (up c))) ∗ Whn (dAct (18, true) c) (RA (dn (dn (dn c)))) ∗ Whn (dAct (19, true) c) (RA (up (up (up c)))))
    ⊢ RA (F := F) (so 3 c) := by
  have h : ∀ c : Dev nD, (so 3 c = dn (dn c) ∧ dAct (10, true) c = true) ∨ (so 3 c = up (up c) ∧ dAct (11, true) c = true)
      ∨ (so 3 c = dn (dn (dn c)) ∧ dAct (18, true) c = true) ∨ (so 3 c = up (up (up c)) ∧ dAct (19, true) c = true) := by decide +kernel
  rcases h c with ⟨h, hz⟩ | ⟨h, hz⟩ | ⟨h, hz⟩ | ⟨h, hz⟩ <;> rw [h]
  · rw [Whn_true hz]; iintro ⟨#H, -⟩; iexact H
  · rw [Whn_true (b := dAct (11, true) c) hz]; iintro ⟨-, #H, -⟩; iexact H
  · rw [Whn_true (b := dAct (18, true) c) hz]; iintro ⟨-, -, #H, -⟩; iexact H
  · rw [Whn_true (b := dAct (19, true) c) hz]; iintro ⟨-, -, -, #H⟩; iexact H

/-- A block received where it is expected, whole. -/
theorem Got_take (d : D) {s : Shape} {m : Memref sig .tc .vmem s .f32} {Y : s.Idx → Elt F .f32} {o : Dev nD} (h : dpay e c d = got c m Y o) :
    Got e c d ⊢ iprop(Whn (dAct d c) (part c m fullShare Y) ∗ Whn (dAct d c) (RA o)) := by
  unfold Got; rw [h]; exact (Whn_sep _ _ _).1

/-- Part 20 of the body takes the device from 28 messages and 30 waits to 28 and 35. -/
theorem part20 (v43 v44 : BitVec 32) {Q : BitVec 32 → sProp 𝕄} :
    iprop(Run e c 28 30 ∗ (part c st fullShare.left (e.X (so 2 c)) ∗ part c st fullShare.right.right (e.X (so 2 c)))
        ∗ Whn (dAct (11, true) c) (part c dn1 fullShare.right (e.X (up (up c)))) ∗ Whn (dAct (10, true) c) (part c up1 fullShare.right (e.X (dn (dn c))))
        ∗ Whn (dAct (10, true) c) (RA (dn (dn c))) ∗ Whn (dAct (11, true) c) (RA (up (up c))))
      ⊢ iprop((Run e c 28 35 ∗ part c st fullShare (e.X (so 3 c)) ∗ RA (so 3 c)
        ∗ Whn (dAct (11, true) c) (part c dn1 fullShare.right (e.X (up (up c)))) ∗ Whn (dAct (10, true) c) (part c up1 fullShare.right (e.X (dn (dn c))))
        ∗ Whn (dAct (18, true) c) (part c up2 fullShare (e.X (dn (dn (dn c))))) ∗ Whn (dAct (19, true) c) (part c dn2 fullShare (e.X (up (up (up c)))))
        ∗ free (mv 28 c) (ky 28 c) (rs 28) (rd 28) ∗ free (mv 29 c) (ky 29 c) (rs 29) (rd 29) -∗ ∀ w, Q w)
      -∗ WP c (k0_part20 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 (zw c) v43 v44) Q) := by
  simp only [k0_part20_eq_skeleton]; unfold k0_part20_skel
  simp only [Prog.lift, semSignalWord, semWaitWord, Prog.bind_op, Prog.bind_ret, Prog.pure_eq_ret]
  iintro ⟨HS, ⟨H1, H3⟩, D1R, U1R, #R10, #R11⟩ Hk
  iapply (dma_wait e c 28 30 (21, false) (by decide +kernel) rfl ?_) $$ HS
  · exact ⟨rfl, rfl⟩
  iintro ⟨HS, H2⟩
  ihave H2 := (bk21 e c) $$ H2
  ihave Hst := (st_join c _) $$ [H1 H2 H3]
  · isplitl [H1]; · iexact H1
    isplitl [H2] <;> iassumption
  ihave Hst := (Sg_none c (e.X (so 3 c))) $$ Hst
  iapply (dma_wait_if e c 28 31 (18, true) (by decide +kernel) ?_ ?_) $$ HS
  · revert c; decide +kernel
  · exact ⟨rfl, rfl⟩
  iintro ⟨HS, H18⟩
  iapply (dma_wait_if e c 28 32 (19, true) (by decide +kernel) ?_ ?_) $$ HS
  · revert c; decide +kernel
  · exact ⟨rfl, rfl⟩
  iintro ⟨HS, H19⟩
  ihave H18 := (Got_take e c (18, true) (pay18 e c)) $$ H18
  icases H18 with ⟨U2, #R18⟩
  ihave H19 := (Got_take e c (19, true) (pay19 e c)) $$ H19
  icases H19 with ⟨D2, #R19⟩
  ihave #HR := (RA_so3 c) $$ []
  · isplitr; · iexact R10
    isplitr; · iexact R11
    isplitr; · iexact R18
    iexact R19
  iapply (stage_if e c (a := dAct (19, true) c) (b := decide (c.val / 4 = 0)) (false) (up (up (up c))) (so 3 c) ?_ ?_ ?_) $$ [D2 Hst]
  · revert c; decide +kernel
  · revert c; decide +kernel
  · intro Y; unfold k0_pay30; exact stage_cast
  · isplitl [D2] <;> iassumption
  iintro ⟨D2, Hst⟩
  iapply (stage_if e c (a := dAct (11, true) c) (b := decide (c.val / 4 = 1)) (false || decide (c.val / 4 = 0)) (up (up c)) (so 3 c) ?_ ?_ ?_) $$ [D1R Hst]
  · revert c; decide +kernel
  · revert c; decide +kernel
  · intro Y; unfold k0_pay31; exact stage_cast
  · isplitl [D1R] <;> iassumption
  iintro ⟨D1R, Hst⟩
  iapply (stage_if e c (a := dAct (10, true) c) (b := decide (c.val / 4 = 2)) ((false || decide (c.val / 4 = 0)) || decide (c.val / 4 = 1)) (dn (dn c)) (so 3 c) ?_ ?_ ?_) $$ [U1R Hst]
  · revert c; decide +kernel
  · revert c; decide +kernel
  · intro Y; unfold k0_pay32; exact stage_cast
  · isplitl [U1R] <;> iassumption
  iintro ⟨U1R, Hst⟩
  iapply (stage_if e c (a := dAct (18, true) c) (b := decide (c.val / 4 = 3)) (((false || decide (c.val / 4 = 0)) || decide (c.val / 4 = 1)) || decide (c.val / 4 = 2)) (dn (dn (dn c))) (so 3 c) ?_ ?_ ?_) $$ [U2 Hst]
  · revert c; decide +kernel
  · revert c; decide +kernel
  · intro Y; unfold k0_pay33; exact stage_cast
  · isplitl [U2] <;> iassumption
  iintro ⟨U2, Hst⟩
  ihave Hst := (Sg_full c (by revert c; decide +kernel) _) $$ Hst
  iapply (credit_wait_second e c 28 33 (22, true) (by decide +kernel) ?_) $$ HS
  · rfl
  iintro ⟨HS, F28⟩
  ihave #F28 := (crd22 e c) $$ F28
  iapply (credit_wait_second e c 28 34 (23, true) (by decide +kernel) ?_) $$ HS
  · rfl
  iintro ⟨HS, F29⟩
  ihave #F29 := (crd23 e c) $$ F29
  unfold WP; rw [wp_ret]; imodintro
  iapply Hk $$ [HS Hst D1R U1R U2 D2]
  isplitl [HS]; · iexact HS
  isplitl [Hst]; · iexact Hst
  isplitr; · iexact HR
  isplitl [D1R]; · iexact D1R
  isplitl [U1R]; · iexact U1R
  isplitl [U2]; · iexact U2
  isplitl [D2]; · iexact D2
  isplitr; · iexact F28
  iexact F29

/-- Part 21 of the body takes the device from 28 messages and 35 waits to 30 and 35. -/
theorem part21 (v2 v33 v38 v583 : BitVec 32) {Q : FVec F S256x128 .f32 → sProp 𝕄} :
    iprop(Run e c 28 35 ∗ part c st fullShare (e.X (so 3 c)) ∗ RA (so 3 c) ∗ free (mv 28 c) (ky 28 c) (rs 28) (rd 28) ∗ free (mv 29 c) (ky 29 c) (rs 29) (rd 29)
        ∗ part c wM fullShare (e.W c) ∗ Out e c 11)
      ⊢ iprop((Run e c 30 35 ∗ part c st fullShare.right.right (e.X (so 3 c)) ∗ part c wM fullShare (e.W c) ∗ Out e c 12 -∗ Q (k0_pay35 (cst (e.X (ord c 11))) (e.W c)))
      -∗ WP c (k0_part21 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2 v33 v38 v583) Q) := by
  simp only [k0_part21_eq_skeleton]; unfold k0_part21_skel
  simp only [Prog.lift, semSignalWord, semWaitWord, Prog.bind_op, Prog.bind_ret, Prog.pure_eq_ret]
  iintro ⟨HS, Hst, #HR, #F28, #F29, HW, HO⟩ Hk
  ihave Hst := (owns_three c st _).1 $$ Hst
  icases Hst with ⟨H1, H2, H3⟩
  iapply (dma_send (R := RA (so 3 c)) e c 28 35 28 (by decide +kernel) rfl ?_ ?_ ?_) $$ [HS H1]
  · revert c; decide +kernel
  · exact ⟨⟨rfl, rfl⟩, rfl, rfl⟩
  · exact ⟨BIBase.Entails.rfl, BIBase.Entails.rfl⟩
  · isplitl [HS]; · iexact HS
    isplitl [H1]; · iexact H1
    isplitr; · iexact HR
    iexact F28
  iintro HS
  iapply (dma_send (R := RA (so 3 c)) e c 29 35 29 (by decide +kernel) rfl ?_ ?_ ?_) $$ [HS H2]
  · revert c; decide +kernel
  · exact ⟨⟨rfl, rfl⟩, rfl, rfl⟩
  · exact ⟨BIBase.Entails.rfl, BIBase.Entails.rfl⟩
  · isplitl [HS]; · iexact HS
    isplitl [H2]; · iexact H2
    isplitr; · iexact HR
    iexact F29
  iintro HS
  ihave H3 := (Entails.of_eq (congrArg (fun d => part c st fullShare.right.right (e.X d)) (ord11 c))) $$ H3
  ihave #HR' := (Entails.of_eq (congrArg (RA (F := F)) (ord11 c))) $$ HR
  iapply (product e c 11 (by decide) ?_ ?_) $$ [H3 HW HO]
  · revert c; decide +kernel
  · rfl
  · isplitl [H3]; · iexact H3
    isplitl [HW]; · iexact HW
    isplitl [HO]; · iexact HO
    iexact HR'
  iintro ⟨H3, HW, HO⟩
  ihave H3 := (Entails.of_eq (congrArg (fun d => part c st fullShare.right.right (e.X d)) (ord11 c).symm)) $$ H3
  unfold WP; rw [wp_ret]; imodintro
  iapply Hk
  isplitl [HS]; · iexact HS
  isplitl [H3]; · iexact H3
  isplitl [HW]; · iexact HW
  iexact HO

/-- Part 22 of the body takes the device from 30 messages and 35 waits to 30 and 38. -/
theorem part22 (v33 : BitVec 32) {Q : F .f32 → sProp 𝕄} :
    Run e c 30 35
      ⊢ iprop((Run e c 30 38 ∗ part c fp0T fullShare.left (topOf (e.X (ord c 9))) ∗ part c fn0B fullShare.left (botOf (e.X (ord c 10))) ∗ got c anT (topOf (e.X (ord c 12))) (ord c 12) -∗ Q (e.run c 12))
      -∗ WP c (k0_part22 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 v33 (e.run c 11) (k0_pay35 (cst (e.X (ord c 11))) (e.W c))) Q) := by
  simp only [k0_part22_eq_skeleton]; unfold k0_part22_skel
  simp only [Prog.lift, semSignalWord, semWaitWord, Prog.bind_op, Prog.bind_ret, Prog.pure_eq_ret]
  iintro HS Hk
  iapply (dma_wait e c 30 35 (26, false) (by decide +kernel) rfl ?_) $$ HS
  · exact ⟨rfl, rfl⟩
  iintro ⟨HS, H1⟩
  iapply (dma_wait e c 30 36 (27, false) (by decide +kernel) rfl ?_) $$ HS
  · exact ⟨rfl, rfl⟩
  iintro ⟨HS, H2⟩
  iapply (dma_wait e c 30 37 (26, true) (by decide +kernel) rfl ?_) $$ HS
  · exact ⟨rfl, rfl⟩
  iintro ⟨HS, H3⟩
  unfold WP; rw [wp_ret]; imodintro
  rw [show k0_pay36 (e.run c 11) (k0_pay35 (cst (e.X (ord c 11))) (e.W c)) = e.run c 12 from rfl]
  iapply Hk
  isplitl [HS]; · iexact HS
  isplitl [H1]; · (iapply (bk26 e c); iexact H1)
  isplitl [H2]; · (iapply (bk27 e c); iexact H2)
  iapply (Entails.of_eq (pay26 e c)); iexact H3

/-- Part 23 of the body takes the device from 30 messages and 38 waits to 32 and 39. -/
theorem part23 (v33 v38 v42 v405 : BitVec 32) {Q : (Σ' (_ : F .f32), BitVec 32) → sProp 𝕄} :
    iprop(Run e c 30 38 ∗ got c anT (topOf (e.X (ord c 12))) (ord c 12) ∗ readerAt EK (c, 10) 2 ∗ readerAt EK (c, 11) 2 ∗ free c 10 22 1 ∗ free c 11 23 1
        ∗ part c wM fullShare (e.W c) ∗ Out e c 12)
      ⊢ iprop((Run e c 32 39 ∗ part c wM fullShare (e.W c) ∗ Out e c 13 -∗ ∀ w, Q ⟨e.run c 13, w⟩)
      -∗ WP c (k0_part23 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v33 v38 v42 v405 (e.run c 12)) Q) := by
  simp only [k0_part23_eq_skeleton]; unfold k0_part23_skel
  simp only [Prog.lift, semSignalWord, semWaitWord, Prog.bind_op, Prog.bind_ret, Prog.pure_eq_ret]
  iintro ⟨HS, HT, K10, K11, #F10, #F11, HW, HO⟩ Hk
  ihave HT := (take c rfl) $$ HT
  icases HT with ⟨HT, #RT⟩
  iapply (dma_wait e c 30 38 (27, true) (by decide +kernel) rfl ?_) $$ HS
  · exact ⟨rfl, rfl⟩
  iintro ⟨HS, HB⟩
  ihave HB := (take c (pay27 e c)) $$ HB
  icases HB with ⟨HB, #RB⟩
  ihave Ha := (an_join c (e.X (ord c 12))) $$ [HT HB]
  · isplitl [HT] <;> iassumption
  iapply (product e c 12 (by decide) ?_ ?_) $$ [Ha HW HO]
  · revert c; decide +kernel
  · rfl
  · isplitl [Ha]; · iexact Ha
    isplitl [HW]; · iexact HW
    isplitl [HO]; · iexact HO
    iexact RT
  iintro ⟨Ha, HW, HO⟩
  ihave Ha := (owns_Slot c an _) $$ Ha
  ihave Ha := (Slot_halved anM c 0 _ inb_S1x256x4096_S1x128x4096_0_0_0 inb_S1x256x4096_S1x128x4096_0_128_0).1 $$ Ha
  icases Ha with ⟨HT, HB⟩
  iapply (offer_then e c 30 39 10 22 rfl (set_nonempty anT pt128) 2 (by decide) ?_) $$ [HS K10 HT]
  · revert c; decide +kernel
  · isplitl [HS]; · iexact HS
    isplitl [K10]; · iexact K10
    iexact HT
  iintro ⟨HS, K10, #G10⟩
  iapply (offer_then e c 30 39 11 23 rfl (set_nonempty anB pt128) 2 (by decide) ?_) $$ [HS K11 HB]
  · revert c; decide +kernel
  · isplitl [HS]; · iexact HS
    isplitl [K11]; · iexact K11
    iexact HB
  iintro ⟨HS, K11, #G11⟩
  iapply (credit_pay (R := iprop(free c 10 22 1 ∗ free c 10 22 2)) e c 30 39 30 (by decide +kernel) rfl ?_ ?_ ?_) $$ [HS]
  · revert c; decide +kernel
  · rfl
  · exact BIBase.Entails.rfl
  · isplitl [HS]; · iexact HS
    isplitr; · iexact F10
    iexact G10
  iintro HS
  iapply (credit_pay (R := iprop(free c 11 23 1 ∗ free c 11 23 2)) e c 31 39 31 (by decide +kernel) rfl ?_ ?_ ?_) $$ [HS]
  · revert c; decide +kernel
  · rfl
  · exact BIBase.Entails.rfl
  · isplitl [HS]; · iexact HS
    isplitr; · iexact F11
    iexact G11
  iintro HS
  unfold WP; rw [wp_ret]; imodintro
  rw [show k0_pay38 (e.run c 12) (cst (e.X (ord c 12))) (e.W c) = e.run c 13 from rfl]
  iapply Hk $$ [HS HW HO]
  isplitl [HS]; · iexact HS
  isplitl [HW]; · iexact HW
  iexact HO

/-- Part 24 of the body takes the device from 32 messages and 39 waits to 33 and 43. -/
theorem part24 (v33 v38 w : BitVec 32) {Q : PUnit → sProp 𝕄} :
    Run e c 32 39
      ⊢ iprop((Run e c 33 43 ∗ (part c (half fpM 1 128 inb_S2x256x4096_S1x128x4096_1_128_0) fullShare.left (botOf (e.X (ord c 13))) ∗ part c fp1 fullShare.right (e.X (ord c 13))) ∗ RA (ord c 13)
        ∗ got c fn1 (e.X (ord c 14)) (ord c 14) ∗ free (mv 33 c) (ky 33 c) (rs 33) (rd 33) -∗ Q ⟨⟩)
      -∗ WP c (k0_part24 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v33 v38 w) Q) := by
  simp only [k0_part24_eq_skeleton]; unfold k0_part24_skel
  simp only [Prog.lift, semSignalWord, semWaitWord, Prog.bind_op, Prog.bind_ret, Prog.pure_eq_ret]
  iintro HS Hk
  iapply (dma_wait e c 32 39 (28, true) (by decide +kernel) rfl ?_) $$ HS
  · exact ⟨rfl, rfl⟩
  iintro ⟨HS, H6⟩
  ihave H6 := (take c (pay28 e c)) $$ H6
  icases H6 with ⟨H6, #R6⟩
  iapply (dma_wait e c 32 40 (29, true) (by decide +kernel) rfl ?_) $$ HS
  · exact ⟨rfl, rfl⟩
  iintro ⟨HS, H7⟩
  iapply (credit_wait_second e c 32 41 (30, true) (by decide +kernel) ?_) $$ HS
  · rfl
  iintro ⟨HS, F32⟩
  ihave #F32 := (crd30 e c) $$ F32
  iapply (credit_wait_second e c 32 42 (31, true) (by decide +kernel) ?_) $$ HS
  · rfl
  iintro ⟨HS, F33⟩
  ihave #F33 := (crd31 e c) $$ F33
  ihave H6 := (lend_top c fpM 1 _ inb_S2x256x4096_S1x128x4096_1_0_0 inb_S2x256x4096_S1x128x4096_1_128_0 _).1 $$ H6
  icases H6 with ⟨H6t, H6b, H6r⟩
  iapply (dma_send (Y := topOf (e.X (ord c 13))) (q := fullShare.left) (R := RA (ord c 13)) e c 32 43 32 (by decide +kernel) rfl ?_ ?_ ?_) $$ [HS H6t]
  · revert c; decide +kernel
  · exact ⟨⟨rfl, rfl⟩, rfl, rfl⟩
  · rw [show ord c 13 = org 32 c by revert c; decide +kernel]; exact ⟨BIBase.Entails.rfl, BIBase.Entails.rfl⟩
  · isplitl [HS]; · iexact HS
    isplitl [H6t]; · iexact H6t
    isplitr; · iexact R6
    iexact F32
  iintro HS
  unfold WP; rw [wp_ret]; imodintro
  iapply Hk
  isplitl [HS]; · iexact HS
  isplitl [H6b H6r]; · (isplitl [H6b] <;> iassumption)
  isplitr; · iexact R6
  isplitl [H7]; · (iapply (Entails.of_eq (pay29 e c)); iexact H7)
  iexact F33

/-- Part 25 of the body takes the device from 33 messages and 43 waits to 34 and 43. -/
theorem part25 (v38 v583 : BitVec 32) {Q : (Σ' (_ : F .f32) (_ : FVec F S256x128 .f32), BitVec 32) → sProp 𝕄} :
    iprop(Run e c 33 43 ∗ part c fp1 fullShare.right (e.X (ord c 13)) ∗ RA (ord c 13) ∗ got c fn1 (e.X (ord c 14)) (ord c 14) ∗ free (mv 33 c) (ky 33 c) (rs 33) (rd 33)
        ∗ part c wM fullShare (e.W c) ∗ Out e c 13)
      ⊢ iprop((Run e c 34 43 ∗ part c fp1 fullShare.right (e.X (ord c 13))
        ∗ (part c (half fnM 1 0 inb_S2x256x4096_S1x128x4096_1_0_0) fullShare.left (topOf (e.X (ord c 14))) ∗ part c fn1 fullShare.right (e.X (ord c 14)))
        ∗ RA (ord c 14) ∗ part c wM fullShare (e.W c) ∗ Out e c 14 -∗ ∀ w, Q ⟨e.run c 14, e.tile c (ord c 14), w⟩)
      -∗ WP c (k0_part25 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v38 v583 (e.run c 13)) Q) := by
  simp only [k0_part25_eq_skeleton]; unfold k0_part25_skel
  simp only [Prog.lift, semSignalWord, semWaitWord, Prog.bind_op, Prog.bind_ret, Prog.pure_eq_ret]
  iintro ⟨HS, H6, #R6, H7, #F33, HW, HO⟩ Hk
  ihave H7 := (take c rfl) $$ H7
  icases H7 with ⟨H7, #R7⟩
  ihave H7 := (lend_top c fnM 1 _ inb_S2x256x4096_S1x128x4096_1_0_0 inb_S2x256x4096_S1x128x4096_1_128_0 _).1 $$ H7
  icases H7 with ⟨H7t, H7b, H7r⟩
  iapply (dma_send (Y := botOf (e.X (ord c 14))) (q := fullShare.left) (R := RA (ord c 14)) e c 33 43 33 (by decide +kernel) rfl ?_ ?_ ?_) $$ [HS H7b]
  · revert c; decide +kernel
  · exact ⟨⟨rfl, rfl⟩, rfl, rfl⟩
  · rw [show ord c 14 = org 33 c by revert c; decide +kernel]; exact ⟨BIBase.Entails.rfl, BIBase.Entails.rfl⟩
  · isplitl [HS]; · iexact HS
    isplitl [H7b]; · iexact H7b
    isplitr; · iexact R7
    iexact F33
  iintro HS
  iapply (product e c 13 (by decide) ?_ ?_) $$ [H6 HW HO]
  · revert c; decide +kernel
  · rfl
  · isplitl [H6]; · iexact H6
    isplitl [HW]; · iexact HW
    isplitl [HO]; · iexact HO
    iexact R6
  iintro ⟨H6, HW, HO⟩
  iapply (wp_load_slab c fnM 1 _) $$ H7r
  iintro H7r
  iapply (load_w c) $$ HW
  iintro HW
  unfold WP; rw [wp_ret]; imodintro
  rw [show k0_pay40 (e.run c 13) (cst (e.X (ord c 13))) (e.W c) = e.run c 14 from rfl, show k0_pay41 (cst (e.X (ord c 14))) (e.W c) = e.tile c (ord c 14) from rfl]
  iapply Hk $$ [HS H6 H7t H7r HW HO]
  isplitl [HS]; · iexact HS
  isplitl [H6]; · iexact H6
  isplitl [H7t H7r]; · (isplitl [H7t] <;> iassumption)
  isplitr; · iexact R7
  isplitl [HW]; · iexact HW
  iexact HO

/-- Part 26 of the body takes the device from 34 messages and 43 waits to 34 and 45. -/
theorem part26 (v33 v583 c4 : BitVec 32) {Q : F .f32 → sProp 𝕄} :
    iprop(Run e c 34 43 ∗ RA (ord c 14) ∗ Out e c 14)
      ⊢ iprop((Run e c 34 45 ∗ Out e c 15 ∗ (part c st fullShare.left (e.X (so 3 c)) ∗ part c st fullShare.right.left (e.X (so 3 c))) -∗ Q (e.run c 15))
      -∗ WP c (k0_part26 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v33 v583 (e.run c 14) (e.tile c (ord c 14)) c4) Q) := by
  simp only [k0_part26_eq_skeleton]; unfold k0_part26_skel
  simp only [Prog.lift, semSignalWord, semWaitWord, Prog.bind_op, Prog.bind_ret, Prog.pure_eq_ret]
  iintro ⟨HS, #R7, HO⟩ Hk
  iapply (out_put e c 14 (by decide) ?_ ?_) $$ [HO]
  · revert c; decide +kernel
  · rfl
  · isplitl [HO]; · iexact HO
    iexact R7
  iintro HO
  iapply (dma_wait e c 34 43 (28, false) (by decide +kernel) rfl ?_) $$ HS
  · exact ⟨rfl, rfl⟩
  iintro ⟨HS, H1⟩
  ihave H1 := (bk28 e c) $$ H1
  iapply (dma_wait e c 34 44 (29, false) (by decide +kernel) rfl ?_) $$ HS
  · exact ⟨rfl, rfl⟩
  iintro ⟨HS, H2⟩
  ihave H2 := (bk29 e c) $$ H2
  unfold WP; rw [wp_ret]; imodintro
  rw [show k0_pay42 (e.run c 14) (e.tile c (ord c 14)) = e.run c 15 from rfl]
  iapply Hk
  isplitl [HS]; · iexact HS
  isplitl [HO]; · iexact HO
  isplitl [H1] <;> iassumption

/-- Part 27 of the body takes the device from 34 messages and 45 waits to 34 and 49. -/
theorem part27 (v33 v38 : BitVec 32) {Q : PUnit → sProp 𝕄} :
    Run e c 34 45
      ⊢ iprop((Run e c 34 49 ∗ part c fp1T fullShare.left (topOf (e.X (ord c 13))) ∗ part c fn1B fullShare.left (botOf (e.X (ord c 14))) ∗ part c an fullShare (e.X (ord c 15)) ∗ RA (ord c 15) -∗ Q ⟨⟩)
      -∗ WP c (k0_part27 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 v33 v38) Q) := by
  simp only [k0_part27_eq_skeleton]; unfold k0_part27_skel
  simp only [Prog.lift, semSignalWord, semWaitWord, Prog.bind_op, Prog.bind_ret, Prog.pure_eq_ret]
  iintro HS Hk
  iapply (dma_wait e c 34 45 (32, false) (by decide +kernel) rfl ?_) $$ HS
  · exact ⟨rfl, rfl⟩
  iintro ⟨HS, H1⟩
  iapply (dma_wait e c 34 46 (33, false) (by decide +kernel) rfl ?_) $$ HS
  · exact ⟨rfl, rfl⟩
  iintro ⟨HS, H2⟩
  iapply (dma_wait e c 34 47 (32, true) (by decide +kernel) rfl ?_) $$ HS
  · exact ⟨rfl, rfl⟩
  iintro ⟨HS, HT⟩
  ihave HT := (take c (pay32 e c)) $$ HT
  icases HT with ⟨HT, #RT⟩
  iapply (dma_wait e c 34 48 (33, true) (by decide +kernel) rfl ?_) $$ HS
  · exact ⟨rfl, rfl⟩
  iintro ⟨HS, HB⟩
  ihave HB := (take c (pay33 e c)) $$ HB
  icases HB with ⟨HB, #RB⟩
  ihave Ha := (an_join c (e.X (ord c 15))) $$ [HT HB]
  · isplitl [HT] <;> iassumption
  unfold WP; rw [wp_ret]; imodintro
  iapply Hk
  isplitl [HS]; · iexact HS
  isplitl [H1]; · (iapply (bk32 e c); iexact H1)
  isplitl [H2]; · (iapply (bk33 e c); iexact H2)
  isplitl [Ha]; · iexact Ha
  iexact RT

/-- Part 28 of the body takes the device from 34 messages and 49 waits to 34 and 53. -/
theorem part28 (v42 v583 : BitVec 32) {Q : F .f32 → sProp 𝕄} :
    iprop(Run e c 34 49 ∗ part c an fullShare (e.X (ord c 15)) ∗ RA (ord c 15) ∗ part c wM fullShare (e.W c) ∗ Out e c 15)
      ⊢ iprop((Run e c 34 53 ∗ part c an fullShare (e.X (ord c 15)) ∗ part c wM fullShare (e.W c) ∗ Out e c 16
        ∗ Got e c (10, false) ∗ Got e c (11, false) ∗ Got e c (18, false) ∗ Got e c (19, false) -∗ Q (e.A c))
      -∗ WP c (k0_part28 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c (zw c) v42 v583 (e.run c 15)) Q) := by
  simp only [k0_part28_eq_skeleton]; unfold k0_part28_skel
  simp only [Prog.lift, semSignalWord, semWaitWord, Prog.bind_op, Prog.bind_ret, Prog.pure_eq_ret]
  iintro ⟨HS, Ha, #RT, HW, HO⟩ Hk
  iapply (product e c 15 (by decide) ?_ ?_) $$ [Ha HW HO]
  · revert c; decide +kernel
  · rfl
  · isplitl [Ha]; · iexact Ha
    isplitl [HW]; · iexact HW
    isplitl [HO]; · iexact HO
    iexact RT
  iintro ⟨Ha, HW, HO⟩
  iapply (dma_wait_if e c 34 49 (10, false) (by decide +kernel) ?_ ?_) $$ HS
  · revert c; decide +kernel
  · exact ⟨rfl, rfl⟩
  iintro ⟨HS, H10⟩
  iapply (dma_wait_if e c 34 50 (11, false) (by decide +kernel) ?_ ?_) $$ HS
  · revert c; decide +kernel
  · exact ⟨rfl, rfl⟩
  iintro ⟨HS, H11⟩
  iapply (dma_wait_if e c 34 51 (18, false) (by decide +kernel) ?_ ?_) $$ HS
  · revert c; decide +kernel
  · exact ⟨rfl, rfl⟩
  iintro ⟨HS, H18⟩
  iapply (dma_wait_if e c 34 52 (19, false) (by decide +kernel) ?_ ?_) $$ HS
  · revert c; decide +kernel
  · exact ⟨rfl, rfl⟩
  iintro ⟨HS, H19⟩
  unfold WP; rw [wp_ret]; imodintro
  rw [show k0_pay44 (e.run c 15) (cst (e.X (ord c 15))) (e.W c) = e.A c from rfl]
  iapply Hk
  isplitl [HS]; · iexact HS
  isplitl [Ha]; · iexact Ha
  isplitl [HW]; · iexact HW
  isplitl [HO]; · iexact HO
  isplitl [H10]; · iexact H10
  isplitl [H11]; · iexact H11
  isplitl [H18]; · iexact H18
  iexact H19

end PartsE

end Cert.Gather

end
-- ==== Proof.PartsF.lean ====
/-
The maxima exchanged, and the block rounded by the greatest of them: the last parts of the program (29 to 39).
-/
module

public import proofs.«01_k».proof.Proof.PartsE

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section PartsF
variable (e : Env F) (c : Dev nD) {α : Type}

/-- A device's own maximum in its row, after `i` shares of the row were lent out. -/
abbrev Row (i : ℕ) : sProp 𝕄 := part c (rowM c) (shr i) (k0_pay45 (e.A c))

/-- The rows of maxima are regions of the other devices. -/
theorem row_reg (c' d : Dev nD) (k : Fin 29) (hk : k.val = d.val + 13) : reg (F := F) c' k = Slot c' (rowM d) := by
  obtain ⟨k, h⟩ := k
  obtain rfl : k = d.val + 13 := hk
  rfl

/-- A device's maximum sent to another. -/
theorem row_send {Q : α → sProp 𝕄} (i : ℕ) (μ : Fin 49) (hok : okSend μ (34 + i) 53 = true ∧ 34 ≤ μ.val ∧ rd μ = 0) (ha : act μ c = true)
    {c' : Dev nD} {hsc : (rowM c).view.ref.isScScratch = false} {sS sem : SemLoc sig} (hc' : c' = mv μ c)
    (hs : (sS = csem (ss μ) ∧ sem = csem (rs μ)) ∧ (rowM c).view.amount sem = amt μ)
    (hp : sendBy e.X e.A μ c (org μ c) = part c (rowM c) (shr i).left (k0_pay45 (e.A c)) ∧ recvBy e.X e.A μ c' c (org μ c) = owns (c' : Thread nD τ) (rowM c) fullShare (k0_pay45 (e.A c)))
    {hsrc : (rowM c).view.WordExact} {hdst : (rowM c).view.WordExact} {ht : DmaTarget.Typed .vmem sem (.remote (c' : Thread nD τ) (rowM c) sS hsc)}
    {k : PUnit → Prog (TpuEff nD τ sig (Elt F) Λ₀ .tc) α} :
    iprop(Run e c (34 + i) 53 ∗ Row e c i ∗ RA (mv μ c))
      ⊢ iprop((Run e c (34 + i + 1) 53 ∗ Row e c (i + 1) -∗ WP c (k ⟨⟩) Q)
        -∗ WP c (.op (.enqueueDma (rowM c) (.remote (c' : Thread nD τ) (rowM c) sS hsc) sem hsrc hdst ht) k) Q) := by
  obtain ⟨hok, h34, hrd⟩ := hok
  have hky : (ky μ c).val = c.val + 13 := (if_pos h34 : kyN μ c = 13 + c.val).trans (Nat.add_comm _ _)
  have hw : ∀ μ : Fin 49, 34 ≤ μ.val → ∀ c, written (mv μ c) (ky μ c) = true := by decide +kernel
  have hf := RA_free e (mv μ c) (ky μ c) (rs μ) (hw μ h34 c)
  rw [← hrd] at hf
  iintro ⟨HS, Hr, HR⟩ Hk
  ihave Hr := (owns_halves (c : Thread nD τ) (rowM c) (shr i) (k0_pay45 (e.A c))).1 $$ Hr
  icases Hr with ⟨H1, H2⟩
  unfold Run
  icases HS with ⟨#HI, #HN, HS⟩
  ihave HF := hf $$ [HR]
  · isplitr; · iexact HI
    iexact HR
  iapply (dma_send (R := iprop(emp)) e c (34 + i) 53 μ hok ha hc' ⟨hs.1, row_reg c' c _ hky, hs.2⟩ ?_) $$ [HS H1 HF]
  · rw [hp.1, hp.2]
    exact ⟨BIBase.Entails.rfl, (sep_emp (PROP := sProp 𝕄)).1⟩
  · unfold Run
    isplitl [HS]
    · isplitr; · iexact HI
      isplitr; · iexact HN
      iexact HS
    isplitl [H1]; · iexact H1
    isplitr [HF]; · iempintro
    iexact HF
  iintro HS
  iapply Hk
  unfold Run
  isplitl [HS]; · iexact HS
  iexact H2

/-- One more term of a product over an initial range. -/
theorem range_push (n : ℕ) (Φ : ℕ → sProp 𝕄) : iprop(bigSep (Finset.range n) Φ ∗ Φ n) ⊢ bigSep (Finset.range (n + 1)) Φ := by
  rw [Finset.range_add_one]
  iintro ⟨H1, H2⟩
  iapply (Entails.of_eq (sep_insert (F := F) Finset.notMem_range_self (Φ := Φ)).symm)
  isplitl [H2] <;> iassumption

/-- The shares of its row come back to a device, -/
abbrev Lent (i : ℕ) : sProp 𝕄 := bigSep (Finset.range i) fun m => part c (rowM c) (shr m).left (k0_pay45 (e.A c))
/-- and the rows of the others arrive. -/
abbrev Rows (i : ℕ) : sProp 𝕄 := bigSep (Finset.range i) fun m =>
  part c (rowM ((rot (m + 1)).symm c)) fullShare (k0_pay45 (e.A ((rot (m + 1)).symm c)))

/-- A wait for one of them. -/
theorem row_wait {Q : α → sProp 𝕄} (i j : ℕ) (d : D) (hok : okWait 49 j d = true) (ha : dAct d c = true) (Φ : ℕ → sProp 𝕄) (hp : dpay e c d = Φ i)
    {sem : DmaSem sig} {s s' : Shape} {sp sp' : Space} {src : Memref sig .tc sp s .f32} {dst : Memref sig .tc sp' s' .f32} {h1 h2}
    (hs : SemLoc.dma sem = csem (dS d) ∧ dst.view.dmaCredit = amt d.1)
    {k : PUnit → Prog (TpuEff nD τ sig (Elt F) Λ₀ .tc) α} :
    iprop(Run e c 49 j ∗ bigSep (Finset.range i) Φ) ⊢ iprop((Run e c 49 (j + 1) ∗ bigSep (Finset.range (i + 1)) Φ -∗ WP c (k ⟨⟩) Q)
      -∗ WP c (.op (.waitDma2 sem src dst h1 h2) k) Q) := by
  iintro ⟨HS, HB⟩ Hk
  iapply (dma_wait e c 49 j d hok ha hs) $$ HS
  rw [hp]
  iintro ⟨HS, HP⟩
  iapply Hk
  isplitl [HS]; · iexact HS
  iapply (range_push i Φ)
  isplitl [HB] <;> iassumption

/-- The row is whole again once all the shares are back. -/
theorem row_whole (n : ℕ) : iprop(Lent e c n ∗ Row e c n) ⊢ part c (rowM c) fullShare (k0_pay45 (e.A c)) := by
  induction n with
  | zero => iintro ⟨-, H⟩; iexact H
  | succ n ih =>
    iintro ⟨H1, H2⟩
    iapply ih
    ihave H1 := (Entails.of_eq (congrArg (fun s => bigSep s fun m => part c (rowM c) (shr m).left (k0_pay45 (e.A c))) (Finset.range_add_one (n := n)))) $$ H1
    ihave H1 := (Entails.of_eq (sep_insert (F := F) (Finset.notMem_range_self (n := n)) (Φ := fun m => part c (rowM c) (shr m).left (k0_pay45 (e.A c))))) $$ H1
    icases H1 with ⟨H0, H1⟩
    isplitl [H1]; · iexact H1
    iapply (owns_halves (c : Thread nD τ) (rowM c) (shr n) (k0_pay45 (e.A c))).2
    isplitl [H0]; · iexact H0
    iexact H2

/-- All the devices' maxima, as the buffer holds them in the end. -/
def Env.maxima : S16x128.Idx → F .f32 := fun x => e.A (x 0)

/-- A product over an image. -/
theorem sep_image {I J : Type} [DecidableEq I] [DecidableEq J] {s : Finset I} {f : I → J} (hf : ∀ a ∈ s, ∀ b ∈ s, f a = f b → a = b) (Φ : J → sProp 𝕄) :
    bigSep (s.image f) Φ = bigSep s fun i => Φ (f i) := by
  revert hf
  refine Finset.induction_on s (fun _ => by rw [Finset.image_empty, BI.bigSep_empty, BI.bigSep_empty]) fun a s ha ih hf => ?_
  have hn : f a ∉ s.image f := fun h => by
    obtain ⟨b, hb, hab⟩ := Finset.mem_image.mp h
    exact ha (hf b (Finset.mem_insert_of_mem hb) a (Finset.mem_insert_self a s) hab ▸ hb)
  rw [Finset.image_insert, sep_insert hn, sep_insert ha,
    ih fun b hb b' hb' => hf b (Finset.mem_insert_of_mem hb) b' (Finset.mem_insert_of_mem hb')]

/-- The buffer of maxima, put together from its rows. -/
theorem rows_whole : iprop(Lent e c 15 ∗ Row e c 15 ∗ Rows e c 15) ⊢ owns (c : Thread nD τ) mxM fullShare e.maxima := by
  have hu : ∀ c : Dev nD, (Finset.univ : Finset (Dev nD)) = insert c ((Finset.range 15).image fun m => (rot (m + 1)).symm c) := by decide +kernel
  have hn : ∀ c : Dev nD, c ∉ (Finset.range 15).image fun m => (rot (m + 1)).symm c := by decide +kernel
  have hi : ∀ c : Dev nD, ∀ a ∈ Finset.range 15, ∀ b ∈ Finset.range 15, (rot (a + 1)).symm c = (rot (b + 1)).symm c → a = b := by decide +kernel
  have hr : ∀ d : Dev nD, part c (rowM d) fullShare (k0_pay45 (e.A d)) ⊢ ownsOn c mxM fullShare (rowsI 16 128 d.val 1) e.maxima :=
    fun d => (owns_row c d fullShare (e.A d) e.maxima fun _ => rfl).1
  iintro ⟨H1, H2, H3⟩
  iapply (owns_rows c fullShare e.maxima).2
  iapply (Entails.of_eq (congrArg (fun s => bigSep s fun d : Dev nD => (ownsOn c mxM fullShare (rowsI 16 128 d.val 1) e.maxima : sProp 𝕄)) (hu c)).symm)
  iapply (Entails.of_eq (sep_insert (F := F) (hn c) (Φ := fun d : Dev nD => (ownsOn c mxM fullShare (rowsI 16 128 d.val 1) e.maxima : sProp 𝕄))).symm)
  isplitl [H1 H2]
  · iapply (hr c)
    iapply (row_whole e c 15)
    isplitl [H1] <;> iassumption
  iapply (Entails.of_eq (sep_image (f := fun m => (rot (m + 1)).symm c) (hi c) (fun d : Dev nD => (ownsOn c mxM fullShare (rowsI 16 128 d.val 1) e.maxima : sProp 𝕄))).symm)
  iapply (show Rows e c 15 ⊢ bigSep (Finset.range 15) fun m => (ownsOn c mxM fullShare (rowsI 16 128 ((rot (m + 1)).symm c).val 1) e.maxima : sProp 𝕄) from BI.bigSep_mono (s := Finset.range 15) (Φ := fun m => part c (rowM ((rot (m + 1)).symm c)) fullShare (k0_pay45 (e.A ((rot (m + 1)).symm c)))) (Ψ := fun m => (ownsOn c mxM fullShare (rowsI 16 128 ((rot (m + 1)).symm c).val 1) e.maxima : sProp 𝕄)) (fun m _ => hr ((rot (m + 1)).symm c)))
  iexact H3

/-- The whole rectangle of a buffer of two axes is all of it. -/
theorem emb_all {n m : ℕ} (h) (x : (⟨2, ![n, m]⟩ : Shape).Idx) : (Rect.unit (s := ⟨2, ![n, m]⟩) ![0, 0] (⟨2, ![n, m]⟩ : Shape).size h).emb x = x := by
  funext a
  refine Fin.ext ?_
  match a with
  | ⟨0, _⟩ => show 0 + 1 * (x 0).val = (x 0).val; omega
  | ⟨1, _⟩ => show 0 + 1 * (x 1).val = (x 1).val; omega

/-- Loading a whole buffer of two axes. -/
theorem load_all {Q : α → sProp 𝕄} {n m : ℕ} (M : Memref sig .tc .vmem ⟨2, ![n, m]⟩ .f32) {h hl} {X : (⟨2, ![n, m]⟩ : Shape).Idx → Elt F .f32}
    {K : ((⟨2, ![n, m]⟩ : Shape).Idx → Elt F .f32) → Prog (TpuEff nD τ sig (Elt F) Λ₀ .tc) α} :
    (owns (c : Thread nD τ) M fullShare X : sProp 𝕄) ⊢ iprop((owns (c : Thread nD τ) M fullShare X -∗ WP c (K X) Q)
      -∗ WP c (.op (.load M (Rect.unit (s := ⟨2, ![n, m]⟩) ![0, 0] (⟨2, ![n, m]⟩ : Shape).size h).toLoadRect hl) K) Q) := by
  have h0 := wp_load_full c M (Rect.unit (s := ⟨2, ![n, m]⟩) ![0, 0] (⟨2, ![n, m]⟩ : Shape).size h) (q := fullShare) (X := X) (hl := hl) (K := K) (Q := Q)
  rw [show (fun x => X ((Rect.unit (s := ⟨2, ![n, m]⟩) ![0, 0] (⟨2, ![n, m]⟩ : Shape).size h).emb x)) = X from funext fun x => congrArg X (emb_all h x)] at h0
  exact h0

/-- Storing over a whole buffer of two axes. -/
theorem store_all {Q : α → sProp 𝕄} {n m : ℕ} (M : Memref sig .tc .vmem ⟨2, ![n, m]⟩ .f32) {h} {X w : (⟨2, ![n, m]⟩ : Shape).Idx → Elt F .f32} {hx hm}
    {K : PUnit → Prog (TpuEff nD τ sig (Elt F) Λ₀ .tc) α} :
    (owns (c : Thread nD τ) M fullShare X : sProp 𝕄) ⊢ iprop((owns (c : Thread nD τ) M fullShare w -∗ WP c (K ⟨⟩) Q)
      -∗ WP c (.op (.store M (Rect.unit (s := ⟨2, ![n, m]⟩) ![0, 0] (⟨2, ![n, m]⟩ : Shape).size h) w Finset.univ hx hm) K) Q) := by
  unfold owns
  iintro ⟨%f, %hf, H⟩ Hk
  iapply (wp_store 𝒱₀ (c : Thread nD τ) none Set.univ (m := M) (r := Rect.unit (s := ⟨2, ![n, m]⟩) ![0, 0] (⟨2, ![n, m]⟩ : Shape).size h)
    (Mk := Finset.univ) (S := M.view.set) (View.set_slice_subset _ _)) $$ H
  iintro H
  iapply Hk
  iexists _
  isplitr
  rotate_left
  · iexact H
  · ipureintro
    funext y
    conv_lhs => rw [← emb_all h y]
    exact View.read_slice_write_emb (v := M.view) _ _ _ (Finset.mem_univ _)

/-- A device's block of the product, put together from the tiles. -/
def Env.out (e : Env F) (c : Dev nD) : S4096x128.Idx → F .f32 := fun x =>
  e.tile c ⟨(x 0).val / 256, by have : (x 0).val < 4096 := (x 0).isLt; show _ < 16; omega⟩
    (ix2 (n0 := 256) (n1 := 128) ⟨(x 0).val % 256, Nat.mod_lt _ (by norm_num)⟩ (x 1))

/-- Sixteen tiles are the whole block. -/
theorem Out_whole : Out e c 16 ⊢ owns (c : Thread nD τ) oM fullShare (e.out c) := by
  have h : ∀ c d : Dev nD, ∃ m : Fin 16, ord c m = d := by decide +kernel
  unfold Out
  iintro ⟨⟨%Y, %hY, H⟩, -⟩
  rw [show Y = e.out c from ?_]
  · iexact H
  funext x
  have hx : (x 0).val < 4096 := (x 0).isLt
  obtain ⟨m, hm⟩ := h c ⟨(x 0).val / 256, by show _ < 16; omega⟩
  have key : ∀ d : Dev nD, ord c m = d → ∀ (r : Fin 256) (j : Fin 128) (h : 256 * d.val + r.val < 4096),
      Y (ix2 (n0 := 4096) (n1 := 128) ⟨256 * d.val + r.val, h⟩ j) = e.tile c d (ix2 (n0 := 256) (n1 := 128) r j) := by
    rintro d rfl r j h
    exact hY m.val m.isLt r j
  refine Eq.trans (congrArg Y ?_) (key _ hm ⟨(x 0).val % 256, Nat.mod_lt _ (by norm_num)⟩ (x 1) (by show 256 * ((x 0).val / 256) + (x 0).val % 256 < 4096; omega))
  refine (ix2_eta x).symm.trans (congrArg₂ ix2 (Fin.ext ?_) rfl)
  show (x 0).val = 256 * ((x 0).val / 256) + (x 0).val % 256
  omega

/-- The device's maximum is written into its row and sent on. -/
theorem part29 (v2 : BitVec 32) {Q : (Σ' (_ : BitVec 32) (_ : BitVec 32), BitVec 32) → sProp 𝕄} :
    iprop(Run e c 34 53 ∗ Slot c (rowM c) ∗ bigSep Finset.univ fun d => RA (F := F) d)
      ⊢ iprop((Run e c 36 53 ∗ Row e c 2 -∗ ∀ w, Q w) -∗ WP c (k0_part29 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2 (e.A c)) Q) := by
  simp only [k0_part29_eq_skeleton]; unfold k0_part29_skel
  simp only [Prog.lift, semSignalWord, semWaitWord, Prog.bind_op, Prog.bind_ret, Prog.pure_eq_ret]
  iintro ⟨HS, HR, #HA⟩ Hk
  iapply (wp_load_row c _ (off13_eq c) _) $$ HR
  iintro %v HR
  iapply (wp_store_row c _ (off13_eq c) _) $$ HR
  iintro HR
  iapply (row_send e c 0 34 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 34 c)) (Φ := fun d => RA (F := F) d)); iexact HA
  iintro ⟨HS, HR⟩
  iapply (row_send e c 1 35 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 35 c)) (Φ := fun d => RA (F := F) d)); iexact HA
  iintro ⟨HS, HR⟩
  unfold WP; rw [wp_ret]; imodintro
  iapply Hk $$ [HS HR]
  isplitl [HS] <;> iassumption

/-- The next maxima are sent. -/
theorem part30 (v2 : BitVec 32) {Q : (Σ' (_ : BitVec 32) (_ : BitVec 32), BitVec 32) → sProp 𝕄} :
    iprop(Run e c 36 53 ∗ Row e c 2 ∗ bigSep Finset.univ fun d => RA (F := F) d)
      ⊢ iprop((Run e c 39 53 ∗ Row e c 5 -∗ ∀ w, Q w) -∗ WP c (k0_part30 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2) Q) := by
  simp only [k0_part30_eq_skeleton]; unfold k0_part30_skel
  simp only [Prog.lift, semSignalWord, semWaitWord, Prog.bind_op, Prog.bind_ret, Prog.pure_eq_ret]
  iintro ⟨HS, HR, #HA⟩ Hk
  iapply (row_send e c 2 36 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 36 c)) (Φ := fun d => RA (F := F) d)); iexact HA
  iintro ⟨HS, HR⟩
  iapply (row_send e c 3 37 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 37 c)) (Φ := fun d => RA (F := F) d)); iexact HA
  iintro ⟨HS, HR⟩
  iapply (row_send e c 4 38 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 38 c)) (Φ := fun d => RA (F := F) d)); iexact HA
  iintro ⟨HS, HR⟩
  unfold WP; rw [wp_ret]; imodintro
  iapply Hk $$ [HS HR]
  isplitl [HS] <;> iassumption

/-- The next maxima are sent. -/
theorem part31 (v2 : BitVec 32) {Q : (Σ' (_ : BitVec 32) (_ : BitVec 32) (_ : BitVec 32), BitVec 32) → sProp 𝕄} :
    iprop(Run e c 39 53 ∗ Row e c 5 ∗ bigSep Finset.univ fun d => RA (F := F) d)
      ⊢ iprop((Run e c 43 53 ∗ Row e c 9 -∗ ∀ w, Q w) -∗ WP c (k0_part31 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2) Q) := by
  simp only [k0_part31_eq_skeleton]; unfold k0_part31_skel
  simp only [Prog.lift, semSignalWord, semWaitWord, Prog.bind_op, Prog.bind_ret, Prog.pure_eq_ret]
  iintro ⟨HS, HR, #HA⟩ Hk
  iapply (row_send e c 5 39 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 39 c)) (Φ := fun d => RA (F := F) d)); iexact HA
  iintro ⟨HS, HR⟩
  iapply (row_send e c 6 40 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 40 c)) (Φ := fun d => RA (F := F) d)); iexact HA
  iintro ⟨HS, HR⟩
  iapply (row_send e c 7 41 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 41 c)) (Φ := fun d => RA (F := F) d)); iexact HA
  iintro ⟨HS, HR⟩
  iapply (row_send e c 8 42 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 42 c)) (Φ := fun d => RA (F := F) d)); iexact HA
  iintro ⟨HS, HR⟩
  unfold WP; rw [wp_ret]; imodintro
  iapply Hk $$ [HS HR]
  isplitl [HS] <;> iassumption

/-- The next maxima are sent. -/
theorem part32 (v2 v907 : BitVec 32) {Q : (Σ' (_ : BitVec 32) (_ : BitVec 32) (_ : BitVec 32), BitVec 32) → sProp 𝕄} :
    iprop(Run e c 43 53 ∗ Row e c 9 ∗ bigSep Finset.univ fun d => RA (F := F) d)
      ⊢ iprop((Run e c 46 53 ∗ Row e c 12 -∗ ∀ w, Q w) -∗ WP c (k0_part32 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2 v907) Q) := by
  simp only [k0_part32_eq_skeleton]; unfold k0_part32_skel
  simp only [Prog.lift, semSignalWord, semWaitWord, Prog.bind_op, Prog.bind_ret, Prog.pure_eq_ret]
  iintro ⟨HS, HR, #HA⟩ Hk
  iapply (row_send e c 9 43 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 43 c)) (Φ := fun d => RA (F := F) d)); iexact HA
  iintro ⟨HS, HR⟩
  iapply (row_send e c 10 44 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 44 c)) (Φ := fun d => RA (F := F) d)); iexact HA
  iintro ⟨HS, HR⟩
  iapply (row_send e c 11 45 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 45 c)) (Φ := fun d => RA (F := F) d)); iexact HA
  iintro ⟨HS, HR⟩
  unfold WP; rw [wp_ret]; imodintro
  iapply Hk $$ [HS HR]
  isplitl [HS] <;> iassumption

/-- The next maxima are sent. -/
theorem part33 (v2 v938 : BitVec 32) {Q : (Σ' (_ : BitVec 32), BitVec 32) → sProp 𝕄} :
    iprop(Run e c 46 53 ∗ Row e c 12 ∗ bigSep Finset.univ fun d => RA (F := F) d)
      ⊢ iprop((Run e c 49 53 ∗ Row e c 15 -∗ ∀ w, Q w) -∗ WP c (k0_part33 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v2 v938) Q) := by
  simp only [k0_part33_eq_skeleton]; unfold k0_part33_skel
  simp only [Prog.lift, semSignalWord, semWaitWord, Prog.bind_op, Prog.bind_ret, Prog.pure_eq_ret]
  iintro ⟨HS, HR, #HA⟩ Hk
  iapply (row_send e c 12 46 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 46 c)) (Φ := fun d => RA (F := F) d)); iexact HA
  iintro ⟨HS, HR⟩
  iapply (row_send e c 13 47 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 47 c)) (Φ := fun d => RA (F := F) d)); iexact HA
  iintro ⟨HS, HR⟩
  iapply (row_send e c 14 48 (by decide +kernel) rfl ?_ ?_ ?_) $$ [HS HR]
  · revert c; decide +kernel
  · exact ⟨⟨rfl, rfl⟩, rfl⟩
  · exact ⟨rfl, rfl⟩
  · isplitl [HS]; · iexact HS
    isplitl [HR]; · iexact HR
    iapply (sep_elim (Finset.mem_univ (mv 48 c)) (Φ := fun d => RA (F := F) d)); iexact HA
  iintro ⟨HS, HR⟩
  unfold WP; rw [wp_ret]; imodintro
  iapply Hk $$ [HS HR]
  isplitl [HS] <;> iassumption

/-- The lent shares of the row come back. -/
theorem part34 {Q : PUnit → sProp 𝕄} :
    iprop(Run e c 49 53 ∗ Lent e c 0)
      ⊢ iprop((Run e c 49 59 ∗ Lent e c 6 -∗ Q ⟨⟩) -∗ WP c (k0_part34 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c ) Q) := by
  simp only [k0_part34_eq_skeleton]; unfold k0_part34_skel
  simp only [Prog.lift, semSignalWord, semWaitWord, Prog.bind_op, Prog.bind_ret, Prog.pure_eq_ret]
  iintro ⟨HS, HL⟩ Hk
  iapply (row_wait e c 0 53 (34, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 1 54 (35, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 2 55 (36, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 3 56 (37, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 4 57 (38, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 5 58 (39, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  unfold WP; rw [wp_ret]; imodintro
  iapply Hk
  isplitl [HS]; · iexact HS
  iexact HL

/-- The lent shares of the row come back. -/
theorem part35 {Q : PUnit → sProp 𝕄} :
    iprop(Run e c 49 59 ∗ Lent e c 6)
      ⊢ iprop((Run e c 49 65 ∗ Lent e c 12 -∗ Q ⟨⟩) -∗ WP c (k0_part35 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c ) Q) := by
  simp only [k0_part35_eq_skeleton]; unfold k0_part35_skel
  simp only [Prog.lift, semSignalWord, semWaitWord, Prog.bind_op, Prog.bind_ret, Prog.pure_eq_ret]
  iintro ⟨HS, HL⟩ Hk
  iapply (row_wait e c 6 59 (40, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 7 60 (41, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 8 61 (42, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 9 62 (43, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 10 63 (44, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 11 64 (45, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  unfold WP; rw [wp_ret]; imodintro
  iapply Hk
  isplitl [HS]; · iexact HS
  iexact HL

/-- The maxima of the others arrive. -/
theorem part36 (v818 v828 v838 : BitVec 32) {Q : PUnit → sProp 𝕄} :
    iprop(Run e c 49 65 ∗ Lent e c 12 ∗ Rows e c 0)
      ⊢ iprop((Run e c 49 70 ∗ Lent e c 15 ∗ Rows e c 2 -∗ Q ⟨⟩) -∗ WP c (k0_part36 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c v818 v828 v838) Q) := by
  simp only [k0_part36_eq_skeleton]; unfold k0_part36_skel
  simp only [Prog.lift, semSignalWord, semWaitWord, Prog.bind_op, Prog.bind_ret, Prog.pure_eq_ret]
  iintro ⟨HS, HL, HR⟩ Hk
  iapply (row_wait e c 12 65 (46, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 13 66 (47, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 14 67 (48, false) (by decide +kernel) rfl (fun m => part c (rowM c) (shr m).left (k0_pay45 (e.A c))) ?_ ?_) $$ [HS HL]
  · rfl
  · exact ⟨rfl, rfl⟩
  · isplitl [HS] <;> iassumption
  iintro ⟨HS, HL⟩
  iapply (row_wait e c 0 68 (34, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 1 69 (35, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  unfold WP; rw [wp_ret]; imodintro
  iapply Hk
  isplitl [HS]; · iexact HS
  isplitl [HL]; · iexact HL
  iexact HR

/-- The maxima of the others arrive. -/
theorem part37 (w0 w1 w2 w3 w4 : BitVec 32) {Q : PUnit → sProp 𝕄} :
    iprop(Run e c 49 70 ∗ Rows e c 2)
      ⊢ iprop((Run e c 49 75 ∗ Rows e c 7 -∗ Q ⟨⟩) -∗ WP c (k0_part37 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c w0 w1 w2 w3 w4) Q) := by
  simp only [k0_part37_eq_skeleton]; unfold k0_part37_skel
  simp only [Prog.lift, semSignalWord, semWaitWord, Prog.bind_op, Prog.bind_ret, Prog.pure_eq_ret]
  iintro ⟨HS, HR⟩ Hk
  iapply (row_wait e c 2 70 (36, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 3 71 (37, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 4 72 (38, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 5 73 (39, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 6 74 (40, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  unfold WP; rw [wp_ret]; imodintro
  iapply Hk
  isplitl [HS]; · iexact HS
  iexact HR

/-- The maxima of the others arrive. -/
theorem part38 (w0 w1 w2 w3 : BitVec 32) {Q : PUnit → sProp 𝕄} :
    iprop(Run e c 49 75 ∗ Rows e c 7)
      ⊢ iprop((Run e c 49 80 ∗ Rows e c 12 -∗ Q ⟨⟩) -∗ WP c (k0_part38 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c w0 w1 w2 w3) Q) := by
  simp only [k0_part38_eq_skeleton]; unfold k0_part38_skel
  simp only [Prog.lift, semSignalWord, semWaitWord, Prog.bind_op, Prog.bind_ret, Prog.pure_eq_ret]
  iintro ⟨HS, HR⟩ Hk
  iapply (row_wait e c 7 75 (41, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 8 76 (42, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 9 77 (43, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 10 78 (44, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 11 79 (45, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  unfold WP; rw [wp_ret]; imodintro
  iapply Hk
  isplitl [HS]; · iexact HS
  iexact HR

/-- The last maxima arrive, and the block is rounded by the scale of them all. -/
theorem part39 (w0 w1 w2 : BitVec 32) {Q : (Σ' (_ : F .f32), FVec F S4096x128 .fp8e4m3) → sProp 𝕄} :
    iprop(Run e c 49 80 ∗ Lent e c 15 ∗ Row e c 15 ∗ Rows e c 12 ∗ Out e c 16)
      ⊢ iprop((Run e c 49 83 ∗ owns (c : Thread nD τ) mxM fullShare e.maxima ∗ owns (c : Thread nD τ) oM fullShare (e.out c)
        -∗ Q ⟨k0_pay46 e.maxima, k0_pay47 e.maxima (e.out c)⟩) -∗ WP c (k0_part39 (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 c w0 w1 w2) Q) := by
  simp only [k0_part39_eq_skeleton]; unfold k0_part39_skel
  simp only [Prog.lift, semSignalWord, semWaitWord, Prog.bind_op, Prog.bind_ret, Prog.pure_eq_ret]
  iintro ⟨HS, HL, H0, HR, HO⟩ Hk
  iapply (row_wait e c 12 80 (46, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 13 81 (47, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  iapply (row_wait e c 14 82 (48, true) (by decide +kernel) rfl (fun m => part c (rowM ((rot (m + 1)).symm c)) fullShare (k0_pay45 (e.A ((rot (m + 1)).symm c)))) ?_ ?_) $$ [HS HR]
  · rfl
  · exact ⟨rfl, rfl⟩
  · isplitl [HS] <;> iassumption
  iintro ⟨HS, HR⟩
  ihave HM := (rows_whole e c) $$ [HL H0 HR]
  · isplitl [HL]; · iexact HL
    isplitl [H0]; · iexact H0
    iexact HR
  ihave HO := (Out_whole e c) $$ HO
  iapply (load_all c mxM) $$ HM
  iintro HM
  iapply (load_all c oM) $$ HO
  iintro HO
  unfold WP; rw [wp_ret]; imodintro
  iapply Hk
  isplitl [HS]; · iexact HS
  isplitl [HM]; · iexact HM
  iexact HO

end PartsF

end Cert.Gather

end
-- ==== Proof.Body.lean ====
/-
The whole program of a device: its parts one after another.
-/
module

public import proofs.«01_k».proof.Proof.PartsF

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section Body
variable (e : Env F) (c : Dev nD)

/-- One program after another, in a proof. -/
theorem wp_seq {α β : Type} {p : Prog (TpuEff nD τ sig (Elt F) Λ₀ .tc) β} {K : β → Prog (TpuEff nD τ sig (Elt F) Λ₀ .tc) α} {Q : α → sProp 𝕄} :
    WP c p (fun x => WP c (K x) Q) ⊢ WP c (p >>= K) Q := wp_then (R := iprop(emp)) c BIBase.Entails.rfl

/-- Once every product is taken, every device is known to have arrived. -/
theorem Out_everyone : Out e c 16 ⊢ bigSep Finset.univ fun d => RA (F := F) d := by
  have h : ∀ c d : Dev nD, ∃ m : Fin 16, ord c m = d := by decide +kernel
  have h1 : (bigSep (Finset.range 16) fun m => RA (F := F) (ord c m)) ⊢ bigSep Finset.univ fun d : Dev nD => RA (F := F) d := by
    refine BIBase.Entails.trans (BI.bigSep_of_persistent (Finset.univ : Finset (Dev nD)) _) (BI.bigSep_mono fun d _ => ?_)
    obtain ⟨m, hm⟩ := h c d
    rw [← hm]
    exact sep_elim (i := m.val) (s := Finset.range 16) (Φ := fun m => RA (F := F) (ord c m)) (Finset.mem_range.mpr m.isLt)
  unfold Out
  iintro ⟨-, H⟩
  iapply h1; iexact H

/-- What a device's block is in the end. -/
def Env.res (e : Env F) (c : Dev nD) : S4096x128.Idx → Elt F .f32 := k0_pay1 (k0_pay46 e.maxima) (k0_pay47 e.maxima (e.out c))

/-- A slot some devices receive into: those that do not keep it unused. -/
abbrev Unused (d : D) {s : Shape} (m : Memref sig .tc .vmem s .f32) : sProp 𝕄 := Whn (!dAct d c) (Slot c m)

/-- A slot received into and then lent to a copy is whole at the end. -/
theorem slot_lent (d : D) (μ : Fin 49) {s : Shape} (m : Memref sig .tc .vmem s .f32) (Y : s.Idx → Elt F .f32) (hd : dAct (μ, false) c = act μ c)
    (ha : act μ c = true → dAct d c = true) (hp : dpay e c (μ, false) ⊢ part c m fullShare.left Y) :
    iprop(Half c d μ m Y ∗ Got e c (μ, false) ∗ Whn (dAct d c) (part c m fullShare.right Y) ∗ Unused c d m) ⊢ Slot c m := by
  have hG : Got e c (μ, false) ⊢ Whn (act μ c) (part c m fullShare.left Y) := by
    unfold Got; rw [hd]; exact Whn_mono hp
  unfold Half Unused
  by_cases h : dAct d c = true
  · rw [h, Whn_true rfl]
    iintro ⟨H1, H2, H3, -⟩
    ihave H2 := hG $$ H2
    iapply (owns_Slot c m Y)
    iapply (owns_halves (c : Thread nD τ) m fullShare Y).2
    isplitr [H3]
    · iapply (Whn_split (act μ c) _).2
      isplitl [H2]
      · iexact H2
      · iexact H1
    iexact H3
  · rw [Bool.eq_false_iff.mpr h]
    iintro ⟨-, -, -, H⟩
    iapply (Entails.of_eq (Whn_true (b := !false) rfl (Slot c m))); iexact H

/-- A slot received into and not lent. -/
theorem slot_got (d : D) {s : Shape} (m : Memref sig .tc .vmem s .f32) (Y : s.Idx → Elt F .f32) :
    iprop(Whn (dAct d c) (part c m fullShare Y) ∗ Unused c d m) ⊢ Slot c m := by
  iintro ⟨H1, H2⟩
  iapply (Whn_split (dAct d c) _).2
  isplitl [H1]
  · iapply (Whn_mono (owns_Slot c m Y)); iexact H1
  iexact H2

/-- What a device starts with: its blocks, its slots, and that its regions are offered once. -/
def Pre : sProp 𝕄 :=
  iprop(Inv e ∗ RA c ∗ St e c 0 0 ∗ part c xM fullShare (e.X c) ∗ part c wM fullShare (e.W c) ∗ (∃ Y, part c oM fullShare Y) ∗ Slot c st ∗ Slot c (rowM c)
    ∗ (readerAt EK (c, 0) 1 ∗ readerAt EK (c, 1) 1 ∗ readerAt EK (c, 2) 1 ∗ readerAt EK (c, 3) 1 ∗ readerAt EK (c, 10) 1 ∗ readerAt EK (c, 11) 1)
    ∗ Unused c (4, true) up0 ∗ Unused c (10, true) up1 ∗ Unused c (18, true) up2 ∗ Unused c (5, true) dn0 ∗ Unused c (11, true) dn1 ∗ Unused c (19, true) dn2)

/-- What it ends with: all is done, its blocks are back, the result is in place, and every slot is whole. -/
def Post : sProp 𝕄 :=
  iprop(Run e c 49 83 ∗ part c xM fullShare (e.X c) ∗ part c wM fullShare (e.W c) ∗ part c oM fullShare (e.res c)
    ∗ Slot c st ∗ part c mxM fullShare e.maxima ∗ Slot c fp0 ∗ Slot c fp1 ∗ Slot c fn0 ∗ Slot c fn1 ∗ Slot c an ∗ Slot c rz
    ∗ Slot c up0 ∗ Slot c up1 ∗ Slot c up2 ∗ Slot c dn0 ∗ Slot c dn1 ∗ Slot c dn2)

/-- The whole program of a device. -/
theorem body {Q : PUnit → sProp 𝕄} :
    Pre e c ⊢ iprop((Post e c -∗ Q ⟨⟩) -∗ WP c (cc0_body (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27) Q) := by
  rw [cc0_body_eq_skeleton]; unfold cc0_body_skel Pre
  iintro ⟨#HI, #HRA, HS, HX, HW, ⟨%Y0, HO⟩, Hst, Hrow, ⟨HR0, HR1, HR2, HR3, HRT, HRB⟩, Hu0, Hu1, Hu2, Hd0, Hd1, Hd2⟩ Hk
  ihave HX := (owns_three c xM (e.X c)).1 $$ HX
  icases HX with ⟨HX1, HX2, HX3⟩
  ihave HX1 := (Whn_split (act 4 c) _).1 $$ HX1
  icases HX1 with ⟨HX1, HX1'⟩
  ihave HX2 := (Whn_split (act 5 c) _).1 $$ HX2
  icases HX2 with ⟨HX2, HX2'⟩
  ihave HO := (show part c oM fullShare Y0 ⊢ Out e c 0 from ?_) $$ HO
  · unfold Out
    iintro H
    isplitl [H]
    · iexists Y0
      isplitr
      · ipureintro; exact fun m hm => absurd hm (Nat.not_lt_zero m)
      iexact H
    rw [Finset.range_zero, BI.bigSep_empty]; iempintro
  iapply (wp_seq c)
  iapply (part1 c)
  · iempintro
  iintro %v2 %z %v29 %v33 %v34 %v36 %hz
  subst hz
  dsimp only
  iapply (wp_seq c)
  iapply (part2 e c _ _ _ _ _ _) $$ [HS HX1]
  · isplitr; · iexact HI
    isplitr; · iexact HRA
    isplitl [HS]; · iexact HS
    iexact HX1
  iintro HS %w2
  obtain ⟨a2_0, a2_1, a2_2, a2_3, a2_4⟩ := w2
  try dsimp only
  iapply (wp_seq c)
  iapply (part3 e c _ _ _ _) $$ [HS HX2 HX3 Hst]
  · isplitl [HS]; · iexact HS
    isplitl [HX2]; · iexact HX2
    isplitl [HX3]; · iexact HX3
    iexact Hst
  iintro ⟨HS, HX3, Hst⟩
  try dsimp only
  iapply (wp_seq c)
  iapply (part4 e c _ _ _) $$ [HS Hst HW HO]
  · isplitl [HS]; · iexact HS
    isplitl [Hst]; · iexact Hst
    isplitl [HW]; · iexact HW
    iexact HO
  iintro ⟨HS, Hst, HW, HO, Hf⟩
  try dsimp only
  iapply (wp_seq c)
  iapply (part5 e c _ _ 0#32) $$ [HS Hf HW]
  · isplitl [HS]; · iexact HS
    isplitl [Hf]; · iexact Hf
    iexact HW
  iintro ⟨HS, Hf, Hn, #R1, #R2, HW⟩ %w5
  try dsimp only
  icases Hn with ⟨Hn1, Hn2⟩
  iapply (wp_seq c)
  iapply (part6 e c _ _) $$ [HS Hn2 HW HO]
  · isplitl [HS]; · iexact HS
    isplitl [Hn2]; · iexact Hn2
    isplitr; · iexact R1
    isplitr; · iexact R2
    isplitl [HW]; · iexact HW
    iexact HO
  iintro ⟨HS, Hn2, HW, HO, Hst1⟩
  try dsimp only
  iapply (wp_seq c)
  iapply (part7 e c _ _) $$ [HS Hst1 Hst]
  · isplitl [HS]; · iexact HS
    isplitl [Hst1]; · iexact Hst1
    iexact Hst
  iintro ⟨HS, ⟨Hu0h, Hu0r⟩, ⟨Hd0h, Hd0r⟩, Hst⟩ %w7
  try dsimp only
  iapply (wp_seq c)
  iapply (part8 e c _ _ _ _) $$ [HS Hst HW]
  · isplitl [HS]; · iexact HS
    isplitl [Hst]; · iexact Hst
    iexact HW
  iintro ⟨HS, Hst, HW⟩
  try dsimp only
  iapply (wp_seq c)
  iapply (part9 e c _ _) $$ [HS Hf Hn1 Hn2 HR0 HR2 HO]
  · isplitl [HS]; · iexact HS
    isplitl [Hf]; · iexact Hf
    isplitl [Hn1 Hn2]
    · isplitl [Hn1]; · iexact Hn1
      iexact Hn2
    isplitl [HR0]; · iexact HR0
    isplitl [HR2]; · iexact HR2
    iexact HO
  iintro ⟨HS, HR0, HR2, #F0, #F2, HO⟩
  try dsimp only
  iapply (wp_seq c)
  iapply (part10 e c _ _) $$ [HS HW]
  · isplitl [HS]; · iexact HS
    iexact HW
  iintro ⟨HS, HG4, HG5, Han, #R4, HW⟩
  try dsimp only
  iapply (wp_seq c)
  iapply (part11 e c _ _ _ _ _) $$ [HS Han HO]
  · isplitl [HS]; · iexact HS
    isplitl [Han]; · iexact Han
    isplitr; · iexact R4
    iexact HO
  iintro ⟨HS, Ha1, Ha2, Ha3, HO, Hf⟩
  try dsimp only
  iapply (wp_seq c)
  iapply (part12 e c _ _ _) $$ [HS Hf HW HO]
  · isplitl [HS]; · iexact HS
    isplitl [Hf]; · iexact Hf
    isplitl [HW]; · iexact HW
    iexact HO
  iintro ⟨HS, Hf, Hn, HW, HO⟩
  try dsimp only
  iapply (wp_seq c)
  iapply (part13 e c _ _) $$ [HS Hst]
  · isplitl [HS]; · iexact HS
    iexact Hst
  iintro ⟨HS, Hst, ⟨Hu1h, Hu1r⟩, #W10, HG11⟩ %w13
  try dsimp only
  iapply (wp_seq c)
  iapply (part14 e c _ _ _) $$ [HS Hst Hu1r HG11 Hd0r]
  · isplitl [HS]; · iexact HS
    isplitl [Hst]; · iexact Hst
    isplitl [Hu1r]; · iexact Hu1r
    isplitr; · iexact W10
    isplitl [HG11]; · iexact HG11
    iexact Hd0r
  iintro ⟨HS, Hst, ⟨Hd1h, Hd1r⟩, Hu1r, Hd0r, #R7, #W11, #F21⟩ %w14
  try dsimp only
  iapply (wp_seq c)
  iapply (part15 e c _ _ _ _) $$ [HS Hst Hf Hn HR1 HR3 HW HO]
  · isplitl [HS]; · iexact HS
    isplitl [Hst]; · iexact Hst
    isplitr; · iexact R7
    isplitr; · iexact F21
    isplitl [Hf]; · iexact Hf
    isplitl [Hn]; · iexact Hn
    isplitl [HR1]; · iexact HR1
    isplitl [HR3]; · iexact HR3
    isplitr; · iexact F0
    isplitr; · iexact F2
    isplitl [HW]; · iexact HW
    iexact HO
  iintro ⟨HS, Hst, HW, HO⟩
  try dsimp only
  iapply (wp_seq c)
  iapply (part16 e c _ _ _) $$ [HS HW HO]
  · isplitl [HS]; · iexact HS
    isplitl [HW]; · iexact HW
    iexact HO
  iintro ⟨HS, HG16, HG17, Hrz, HW, HO⟩ %w16
  try dsimp only
  iapply (wp_seq c)
  iapply (part17 e c _ _ _) $$ [HS HG16 Ha1 HG17 Ha2 Ha3 HRT HRB]
  · isplitl [HS]; · iexact HS
    isplitl [HG16 Ha1]
    · isplitl [HG16]; · iexact HG16
      iexact Ha1
    isplitl [HG17 Ha2]
    · isplitl [HG17]; · iexact HG17
      iexact Ha2
    isplitl [Ha3]; · iexact Ha3
    isplitl [HRT]; · iexact HRT
    iexact HRB
  iintro ⟨HS, Hf, Hn, HRT, HRB, #FT, #FB, #F26, #F27⟩ %w17
  try dsimp only
  iapply (wp_seq c)
  iapply (part18 e c _ _ _) $$ [HS Hf Hn HW HO]
  · isplitl [HS]; · iexact HS
    isplitl [Hf]; · iexact Hf
    isplitl [Hn]; · iexact Hn
    isplitr; · iexact F26
    isplitr; · iexact F27
    isplitl [HW]; · iexact HW
    iexact HO
  iintro ⟨HS, ⟨Hf1, Hf2⟩, ⟨Hn1, Hn2⟩, #R10, HW, HO⟩
  try dsimp only
  iapply (wp_seq c)
  iapply (part19 e c _ _) $$ [HS Hn2 HW HO]
  · isplitl [HS]; · iexact HS
    isplitl [Hn2]; · iexact Hn2
    isplitr; · iexact R10
    isplitl [HW]; · iexact HW
    iexact HO
  iintro ⟨HS, Hn2, HW, HO, Hst1⟩
  try dsimp only
  iapply (wp_seq c)
  iapply (part20 e c _ _) $$ [HS Hst1 Hst Hd1r Hu1r]
  · isplitl [HS]; · iexact HS
    isplitl [Hst1 Hst]
    · isplitl [Hst1]; · iexact Hst1
      iexact Hst
    isplitl [Hd1r]; · iexact Hd1r
    isplitl [Hu1r]; · iexact Hu1r
    isplitr; · iexact W10
    iexact W11
  iintro ⟨HS, Hst, #R11, Hd1r, Hu1r, Hu2g, Hd2g, #F28, #F29⟩ %w20
  try dsimp only
  iapply (wp_seq c)
  iapply (part21 e c _ _ _ _) $$ [HS Hst HW HO]
  · isplitl [HS]; · iexact HS
    isplitl [Hst]; · iexact Hst
    isplitr; · iexact R11
    isplitr; · iexact F28
    isplitr; · iexact F29
    isplitl [HW]; · iexact HW
    iexact HO
  iintro ⟨HS, Hst, HW, HO⟩
  try dsimp only
  iapply (wp_seq c)
  iapply (part22 e c _) $$ [HS]
  · iexact HS
  iintro ⟨HS, Hf0, Hn0, Han⟩
  try dsimp only
  iapply (wp_seq c)
  iapply (part23 e c _ _ _ _) $$ [HS Han HRT HRB HW HO]
  · isplitl [HS]; · iexact HS
    isplitl [Han]; · iexact Han
    isplitl [HRT]; · iexact HRT
    isplitl [HRB]; · iexact HRB
    isplitr; · iexact FT
    isplitr; · iexact FB
    isplitl [HW]; · iexact HW
    iexact HO
  iintro ⟨HS, HW, HO⟩ %w23
  try dsimp only
  iapply (wp_seq c)
  iapply (part24 e c _ _ _) $$ [HS]
  · iexact HS
  iintro ⟨HS, ⟨Hf3, Hf4⟩, #R13, Hn3, #F33⟩
  try dsimp only
  iapply (wp_seq c)
  iapply (part25 e c _ _) $$ [HS Hf4 Hn3 HW HO]
  · isplitl [HS]; · iexact HS
    isplitl [Hf4]; · iexact Hf4
    isplitr; · iexact R13
    isplitl [Hn3]; · iexact Hn3
    isplitr; · iexact F33
    isplitl [HW]; · iexact HW
    iexact HO
  iintro ⟨HS, Hf4, ⟨Hn3, Hn4⟩, #R14, HW, HO⟩ %w25
  try dsimp only
  iapply (wp_seq c)
  iapply (part26 e c _ _ _) $$ [HS HO]
  · isplitl [HS]; · iexact HS
    isplitr; · iexact R14
    iexact HO
  iintro ⟨HS, HO, ⟨Hst1, Hst2⟩⟩
  try dsimp only
  iapply (wp_seq c)
  iapply (part27 e c _ _) $$ [HS]
  · iexact HS
  iintro ⟨HS, Hf5, Hn5, Han, #R15⟩
  try dsimp only
  iapply (wp_seq c)
  iapply (part28 e c _ _) $$ [HS Han HW HO]
  · isplitl [HS]; · iexact HS
    isplitl [Han]; · iexact Han
    isplitr; · iexact R15
    isplitl [HW]; · iexact HW
    iexact HO
  iintro ⟨HS, Han, HW, HO, HG10, HG11, HG18, HG19⟩
  try dsimp only
  ihave #HA := (show Out e c 16 ⊢ bigSep Finset.univ fun d => RA (F := F) d from ?_) $$ HO
  · exact Out_everyone e c
  iapply (wp_seq c)
  iapply (part29 e c _) $$ [HS Hrow]
  · isplitl [HS]; · iexact HS
    isplitl [Hrow]; · iexact Hrow
    iexact HA
  iintro ⟨HS, Hrow⟩ %w29
  obtain ⟨a29_0, a29_1, a29_2⟩ := w29
  try dsimp only
  iapply (wp_seq c)
  iapply (part30 e c _) $$ [HS Hrow]
  · isplitl [HS]; · iexact HS
    isplitl [Hrow]; · iexact Hrow
    iexact HA
  iintro ⟨HS, Hrow⟩ %w30
  obtain ⟨a30_0, a30_1, a30_2⟩ := w30
  try dsimp only
  iapply (wp_seq c)
  iapply (part31 e c _) $$ [HS Hrow]
  · isplitl [HS]; · iexact HS
    isplitl [Hrow]; · iexact Hrow
    iexact HA
  iintro ⟨HS, Hrow⟩ %w31
  obtain ⟨a31_0, a31_1, a31_2, a31_3⟩ := w31
  try dsimp only
  iapply (wp_seq c)
  iapply (part32 e c _ _) $$ [HS Hrow]
  · isplitl [HS]; · iexact HS
    isplitl [Hrow]; · iexact Hrow
    iexact HA
  iintro ⟨HS, Hrow⟩ %w32
  obtain ⟨a32_0, a32_1, a32_2, a32_3⟩ := w32
  try dsimp only
  iapply (wp_seq c)
  iapply (part33 e c _ _) $$ [HS Hrow]
  · isplitl [HS]; · iexact HS
    isplitl [Hrow]; · iexact Hrow
    iexact HA
  iintro ⟨HS, Hrow⟩ %w33
  obtain ⟨a33_0, a33_1⟩ := w33
  try dsimp only
  ihave HL := (show (iprop(emp) : sProp 𝕄) ⊢ Lent e c 0 from Entails.of_eq (BI.bigSep_empty (Φ := fun m => part c (rowM c) (shr m).left (k0_pay45 (e.A c)))).symm) $$ []
  · iempintro
  iapply (wp_seq c)
  iapply (part34 e c) $$ [HS HL]
  · isplitl [HS]; · iexact HS
    iexact HL
  iintro ⟨HS, HL⟩
  try dsimp only
  iapply (wp_seq c)
  iapply (part35 e c) $$ [HS HL]
  · isplitl [HS]; · iexact HS
    iexact HL
  iintro ⟨HS, HL⟩
  try dsimp only
  ihave HRr := (show (iprop(emp) : sProp 𝕄) ⊢ Rows e c 0 from Entails.of_eq (BI.bigSep_empty (Φ := fun m => part c (rowM ((rot (m + 1)).symm c)) fullShare (k0_pay45 (e.A ((rot (m + 1)).symm c))))).symm) $$ []
  · iempintro
  iapply (wp_seq c)
  iapply (part36 e c _ _ _) $$ [HS HL HRr]
  · isplitl [HS]; · iexact HS
    isplitl [HL]; · iexact HL
    iexact HRr
  iintro ⟨HS, HL, HRr⟩
  try dsimp only
  iapply (wp_seq c)
  iapply (part37 e c _ _ _ _ _) $$ [HS HRr]
  · isplitl [HS]; · iexact HS
    iexact HRr
  iintro ⟨HS, HRr⟩
  try dsimp only
  iapply (wp_seq c)
  iapply (part38 e c _ _ _ _) $$ [HS HRr]
  · isplitl [HS]; · iexact HS
    iexact HRr
  iintro ⟨HS, HRr⟩
  try dsimp only
  iapply (wp_seq c)
  iapply (part39 e c _ _ _) $$ [HS HL Hrow HRr HO]
  · isplitl [HS]; · iexact HS
    isplitl [HL]; · iexact HL
    isplitl [Hrow]; · iexact Hrow
    isplitl [HRr]; · iexact HRr
    iexact HO
  iintro ⟨HS, HM, HO⟩
  try dsimp only
  simp only [Prog.lift, Prog.bind_op, Prog.bind_ret, Prog.pure_eq_ret]
  iapply (load_all c oM) $$ HO
  iintro HO
  iapply (store_all c oM) $$ HO
  iintro HO
  unfold WP; rw [wp_ret]; imodintro
  iapply Hk
  unfold Post
  isplitl [HS]; · iexact HS
  isplitl [HX1' HX2' HX3 HG4 HG5]
  · iapply (owns_three c xM (e.X c)).2
    isplitl [HX1' HG4]
    · iapply (Got_back e c 4 (by revert c; decide +kernel) (bk4 e c)); isplitl [HG4] <;> iassumption
    isplitl [HX2' HG5]
    · iapply (Got_back e c 5 (by revert c; decide +kernel) (bk5 e c)); isplitl [HG5] <;> iassumption
    iexact HX3
  isplitl [HW]; · iexact HW
  isplitl [HO]; · iexact HO
  isplitl [Hst Hst1 Hst2]
  · iapply (owns_Slot c st (e.X (so 3 c)))
    iapply (owns_three c st _).2
    isplitl [Hst1]; · iexact Hst1
    isplitl [Hst2]; · iexact Hst2
    iexact Hst
  isplitl [HM]; · iexact HM
  isplitl [Hf0 Hf1 Hf2]
  · iapply (owns_Slot c fp0 (e.X (ord c 9)))
    iapply (lend_top c fpM 0 _ _ _ _).2
    isplitl [Hf0]; · iexact Hf0
    isplitl [Hf1]; · iexact Hf1
    iexact Hf2
  isplitl [Hf3 Hf4 Hf5]
  · iapply (owns_Slot c fp1 (e.X (ord c 13)))
    iapply (lend_top c fpM 1 _ _ _ _).2
    isplitl [Hf5]; · iexact Hf5
    isplitl [Hf3]; · iexact Hf3
    iexact Hf4
  isplitl [Hn0 Hn1 Hn2]
  · iapply (owns_Slot c fn0 (e.X (ord c 10)))
    iapply (lend_top c fnM 0 _ _ _ _).2
    isplitl [Hn1]; · iexact Hn1
    isplitl [Hn0]; · iexact Hn0
    iexact Hn2
  isplitl [Hn3 Hn4 Hn5]
  · iapply (owns_Slot c fn1 (e.X (ord c 14)))
    iapply (lend_top c fnM 1 _ _ _ _).2
    isplitl [Hn3]; · iexact Hn3
    isplitl [Hn5]; · iexact Hn5
    iexact Hn4
  isplitl [Han]; · iapply (owns_Slot c an _); iexact Han
  isplitl [Hrz]; · iapply (owns_Slot c rz _); iexact Hrz
  isplitl [Hu0h HG10 Hu0r Hu0]
  · iapply (slot_lent e c (4, true) 10 up0 (e.X (dn c)) (by revert c; decide +kernel) (by revert c; decide +kernel) (bk10 e c))
    isplitl [Hu0h]; · iexact Hu0h
    isplitl [HG10]; · iexact HG10
    isplitl [Hu0r]; · iexact Hu0r
    iexact Hu0
  isplitl [Hu1h HG18 Hu1r Hu1]
  · iapply (slot_lent e c (10, true) 18 up1 (e.X (dn (dn c))) (by revert c; decide +kernel) (by revert c; decide +kernel) (bk18 e c))
    isplitl [Hu1h]; · iexact Hu1h
    isplitl [HG18]; · iexact HG18
    isplitl [Hu1r]; · iexact Hu1r
    iexact Hu1
  isplitl [Hu2g Hu2]
  · iapply (slot_got c (18, true) up2 _); isplitl [Hu2g] <;> iassumption
  isplitl [Hd0h HG11 Hd0r Hd0]
  · iapply (slot_lent e c (5, true) 11 dn0 (e.X (up c)) (by revert c; decide +kernel) (by revert c; decide +kernel) (bk11 e c))
    isplitl [Hd0h]; · iexact Hd0h
    isplitl [HG11]; · iexact HG11
    isplitl [Hd0r]; · iexact Hd0r
    iexact Hd0
  isplitl [Hd1h HG19 Hd1r Hd1]
  · iapply (slot_lent e c (11, true) 19 dn1 (e.X (up (up c))) (by revert c; decide +kernel) (by revert c; decide +kernel) (bk19 e c))
    isplitl [Hd1h]; · iexact Hd1h
    isplitl [HG19]; · iexact HG19
    isplitl [Hd1r]; · iexact Hd1r
    iexact Hd1
  iapply (slot_got c (19, true) dn2 _); isplitl [Hd2g] <;> iassumption

end Body

end Cert.Gather

end
-- ==== Proof.Scratch.lean ====
/-
The scratch buffers at the start and at the end: split into the slots of the protocol, each offered once to its writers, and put together again.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## A buffer of slots as its slots -/

section Slots
variable {n : ℕ} (M : Memref sig .tc .vmem ⟨3, ![n, 256, 4096]⟩ .f32) (c : Dev nD)

/-- What is at the indices of one slot is that slot. -/
theorem on_slab (k : ℕ) (h) (X : (⟨3, ![n, 256, 4096]⟩ : Shape).Idx → Elt F .f32) (hk : k < n) :
    (ownsOn c M fullShare (slabI n k) X : sProp 𝕄) ⊢ Slot c (slab M k h) := by
  refine BIBase.Entails.trans ?_ (owns_Slot c (slab M k h) (fun x => X (ix3 (n0 := n) (n1 := 256) (n2 := 4096) ⟨k, hk⟩ (x 0) (x 1))))
  refine BIBase.Entails.trans (ownsOn_congr c M fullShare fun x hx => ?_) (owns_slab M c k h fullShare _).2
  refine congrArg X (Shape.idx3_ext ?_ rfl rfl)
  exact (Finset.mem_filter.mp hx).2

/-- A buffer is held just when all its slots are. -/
theorem Slot_slabs [NeZero n] (h : ∀ k : Fin n, ∀ a, (![k.val, 0, 0] : Fin 3 → ℕ) a + S1x256x4096.size a ≤ (⟨3, ![n, 256, 4096]⟩ : Shape).size a) :
    (Slot c M : sProp 𝕄) ⊣⊢ bigSep Finset.univ fun k : Fin n => Slot c (slab M k.val (h k)) := by
  constructor
  · iintro H
    ihave H := (Slot_owns c M) $$ H
    icases H with ⟨%X, H⟩
    ihave H := (ownsOn_slabs M c fullShare X).1 $$ H
    iapply (show (bigSep (Finset.univ : Finset (Fin n)) fun k => (ownsOn c M fullShare (slabI n k.val) X : sProp 𝕄)) ⊢ _ from
      BI.bigSep_mono fun k _ => on_slab M c k.val (h k) X k.isLt)
    iexact H
  · haveI hne : Nonempty (S256x4096.Idx → Elt F .f32) := ⟨fun _ => (Scalar.ofBits .f32 0x00000000#32 : F .f32)⟩
    iintro H
    ihave H := (show (bigSep (Finset.univ : Finset (Fin n)) fun k => (Slot c (slab M k.val (h k)) : sProp 𝕄))
        ⊢ bigSep Finset.univ fun k => iprop(∃ Y, owns (c : Thread nD τ) (slab M k.val (h k)) fullShare Y) from
      BI.bigSep_mono fun k _ => Slot_owns c _) $$ H
    ihave H := (BI.bigSep_exists_pi Finset.univ fun (k : Fin n) (Y : S256x4096.Idx → Elt F .f32) =>
      (owns (c : Thread nD τ) (slab M k.val (h k)) fullShare Y : sProp 𝕄)) $$ H
    icases H with ⟨%Y, H⟩
    iapply (owns_Slot c M fun y => Y (y 0) (ix2 (n0 := 256) (n1 := 4096) (y 1) (y 2)))
    iapply (ownsOn_slabs M c fullShare _).2
    iapply (show (bigSep (Finset.univ : Finset (Fin n)) fun k => (owns (c : Thread nD τ) (slab M k.val (h k)) fullShare (Y k) : sProp 𝕄)) ⊢ _ from
      BI.bigSep_mono fun k _ => BIBase.Entails.trans (owns_slab M c k.val (h k) fullShare (Y k)).1 (ownsOn_congr c M fullShare fun x hx => ?_))
    · have hk : x 0 = k := Fin.ext (Finset.mem_filter.mp hx).2
      show spread n (Y k) x = Y (x 0) _
      rw [hk]; rfl
    · iexact H

end Slots

section Scratch
variable (c : Dev nD)

/-- Each of three slots lies inside its buffer, -/
theorem fit3 : ∀ k : Fin 3, ∀ a, (![k.val, 0, 0] : Fin 3 → ℕ) a + S1x256x4096.size a ≤ S3x256x4096.size a := by decide
/-- each of two, -/
theorem fit2 : ∀ k : Fin 2, ∀ a, (![k.val, 0, 0] : Fin 3 → ℕ) a + S1x256x4096.size a ≤ S2x256x4096.size a := by decide
/-- and the only one. -/
theorem fit1 : ∀ k : Fin 1, ∀ a, (![k.val, 0, 0] : Fin 3 → ℕ) a + S1x256x4096.size a ≤ S1x256x4096.size a := by decide

/-- A buffer of three slots is its slots, -/
theorem slots_three (M : Memref sig .tc .vmem S3x256x4096 .f32) :
    (Slot c M : sProp 𝕄) ⊣⊢ iprop(Slot c (slab M 0 (fit3 0)) ∗ Slot c (slab M 1 (fit3 1)) ∗ Slot c (slab M 2 (fit3 2))) := by
  have e := Slot_slabs (F := F) M c fit3
  rw [bigSep_univ_eq_bigSepL [(0 : Fin 3), 1, 2] (by decide) (by decide)] at e
  exact e
/-- one of two likewise, -/
theorem slots_two (M : Memref sig .tc .vmem S2x256x4096 .f32) :
    (Slot c M : sProp 𝕄) ⊣⊢ iprop(Slot c (slab M 0 (fit2 0)) ∗ Slot c (slab M 1 (fit2 1))) := by
  have e := Slot_slabs (F := F) M c fit2
  rw [bigSep_univ_eq_bigSepL [(0 : Fin 2), 1] (by decide) (by decide)] at e
  exact e
/-- and one of one. -/
theorem slots_one (M : Memref sig .tc .vmem S1x256x4096 .f32) : (Slot c M : sProp 𝕄) ⊣⊢ Slot c (slab M 0 (fit1 0)) := by
  have e := Slot_slabs (F := F) M c fit1
  rw [bigSep_univ_eq_bigSepL [(0 : Fin 1)] (by decide) (by decide)] at e
  exact e

/-- The buffer of maxima falls into its rows. -/
theorem Slot_rows : (Slot c mxM : sProp 𝕄) ⊢ bigSep Finset.univ fun d : Dev nD => Slot c (rowM d) := by
  iintro H
  ihave H := (Slot_owns c mxM) $$ H
  icases H with ⟨%X, H⟩
  ihave H := (owns_rows c fullShare X).1 $$ H
  iapply (show (bigSep (Finset.univ : Finset (Dev nD)) fun d => (ownsOn c mxM fullShare (rowsI 16 128 d.val 1) X : sProp 𝕄)) ⊢ _ from
    BI.bigSep_mono fun d _ => BIBase.Entails.trans (?_ : _ ⊢ (_ : sProp 𝕄)) (Slot_row c d).2)
  · iintro H; iexists X; iexact H
  · iexact H

/-- The kernel's scratch buffers. -/
theorem scratch_eq : (Pipeline.scopedRest (Ix := ℕ) (Name := ℕ) (U := UU) (Lvl := ℕ) (Val := Elt F) cfg0.spec c : sProp 𝕄)
    = iprop(Slot c upM ∗ Slot c dnM ∗ Slot c stM ∗ Slot c fpM ∗ Slot c fnM ∗ Slot c anM ∗ Slot c rzM ∗ Slot c mxM) := by
  refine (scopedRest0_eq (Val := Elt F) c).trans ?_
  unfold Slot slot
  simp only [Memref.view_whole, View.set_whole]

/-- A conjunction over the regions is of twenty-nine parts, -/
theorem all29 (Φ : Fin 29 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28) :=
  bigSep_univ_eq_bigSepL [(0 : Fin 29), 1, 2, 3, 4, 5, 6, 7, 8, 9, 10, 11, 12, 13, 14, 15, 16, 17, 18, 19, 20, 21, 22, 23, 24, 25, 26, 27, 28] (by decide) (by decide) Φ
/-- one over the devices of sixteen, -/
theorem all16 (Φ : Dev nD → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Dev nD), 1, 2, 3, 4, 5, 6, 7, 8, 9, 10, 11, 12, 13, 14, 15] (by decide) (by decide) Φ
/-- and one over the slots of twelve. -/
theorem first12 (Φ : Fin 29 → sProp 𝕄) : bigSep ({0, 1, 2, 3, 4, 5, 6, 7, 8, 9, 10, 11} : Finset (Fin 29)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_eq_bigSepL_of_eq [(0 : Fin 29), 1, 2, 3, 4, 5, 6, 7, 8, 9, 10, 11] (by decide) (by decide) Φ

/-- A buffer is the region that it is. -/
theorem to_reg (k : Fin 29) {s : Shape} {m : Memref sig .tc .vmem s .f32} (h : reg (F := F) c k = Slot c m) : (Slot c m : sProp 𝕄) ⊢ reg c k := Entails.of_eq h.symm

/-- The scratch buffers as the slots the protocol uses. -/
theorem scratch_split : (Pipeline.scopedRest (Ix := ℕ) (Name := ℕ) (U := UU) (Lvl := ℕ) (Val := Elt F) cfg0.spec c : sProp 𝕄)
    ⊢ iprop(Slot c st ∗ bigSep Finset.univ fun k : Fin 29 => reg c k) := by
  rw [scratch_eq]
  iintro ⟨Hup, Hdn, Hst, Hfp, Hfn, Han, Hrz, Hmx⟩
  ihave Hup := (slots_three c upM).1 $$ Hup
  icases Hup with ⟨U0, U1, U2⟩
  ihave Hdn := (slots_three c dnM).1 $$ Hdn
  icases Hdn with ⟨D0, D1, D2⟩
  ihave Hfp := (slots_two c fpM).1 $$ Hfp
  icases Hfp with ⟨P0, P1⟩
  ihave Hfn := (slots_two c fnM).1 $$ Hfn
  icases Hfn with ⟨N0, N1⟩
  ihave Hst := (slots_one c stM).1 $$ Hst
  ihave Han := (slots_one c anM).1 $$ Han
  ihave Hrz := (slots_one c rzM).1 $$ Hrz
  ihave Han := (Slot_halved anM c 0 _ inb_S1x256x4096_S1x128x4096_0_0_0 inb_S1x256x4096_S1x128x4096_0_128_0).1 $$ Han
  icases Han with ⟨AT, AB⟩
  ihave Hmx := (Slot_rows c) $$ Hmx
  ihave Hmx := (Entails.of_eq (all16 fun d : Dev nD => (Slot c (rowM d) : sProp 𝕄))) $$ Hmx
  isplitl [Hst]; · iexact Hst
  iapply (Entails.of_eq (all29 fun k : Fin 29 => (reg c k : sProp 𝕄)).symm)
  isplitl [P0]; · iapply (to_reg c 0 rfl); iexact P0
  isplitl [P1]; · iapply (to_reg c 1 rfl); iexact P1
  isplitl [N0]; · iapply (to_reg c 2 rfl); iexact N0
  isplitl [N1]; · iapply (to_reg c 3 rfl); iexact N1
  isplitl [U0]; · iapply (to_reg c 4 rfl); iexact U0
  isplitl [U1]; · iapply (to_reg c 5 rfl); iexact U1
  isplitl [U2]; · iapply (to_reg c 6 rfl); iexact U2
  isplitl [D0]; · iapply (to_reg c 7 rfl); iexact D0
  isplitl [D1]; · iapply (to_reg c 8 rfl); iexact D1
  isplitl [D2]; · iapply (to_reg c 9 rfl); iexact D2
  isplitl [AT]; · iapply (to_reg c 10 rfl); iexact AT
  isplitl [AB]; · iapply (to_reg c 11 rfl); iexact AB
  isplitl [Hrz]; · iapply (to_reg c 12 rfl); iexact Hrz
  iexact Hmx

/-- And put together again. -/
theorem scratch_join : iprop(Slot c st ∗ Slot c mxM ∗ Slot c fp0 ∗ Slot c fp1 ∗ Slot c fn0 ∗ Slot c fn1 ∗ Slot c an ∗ Slot c rz
      ∗ Slot c up0 ∗ Slot c up1 ∗ Slot c up2 ∗ Slot c dn0 ∗ Slot c dn1 ∗ Slot c dn2)
    ⊢ (Pipeline.scopedRest (Ix := ℕ) (Name := ℕ) (U := UU) (Lvl := ℕ) (Val := Elt F) cfg0.spec c : sProp 𝕄) := by
  rw [scratch_eq]
  iintro ⟨Hst, Hmx, P0, P1, N0, N1, Han, Hrz, U0, U1, U2, D0, D1, D2⟩
  isplitl [U0 U1 U2]
  · iapply (slots_three c upM).2
    isplitl [U0]; · iexact U0
    isplitl [U1] <;> iassumption
  isplitl [D0 D1 D2]
  · iapply (slots_three c dnM).2
    isplitl [D0]; · iexact D0
    isplitl [D1] <;> iassumption
  isplitl [Hst]; · iapply (slots_one c stM).2; iexact Hst
  isplitl [P0 P1]
  · iapply (slots_two c fpM).2; isplitl [P0] <;> iassumption
  isplitl [N0 N1]
  · iapply (slots_two c fnM).2; isplitl [N0] <;> iassumption
  isplitl [Han]; · iapply (slots_one c anM).2; iexact Han
  isplitl [Hrz]; · iapply (slots_one c rzM).2; iexact Hrz
  iexact Hmx

end Scratch

/-! ## The first offer of every region -/

section Offer
variable (e : Env F) (c : Dev nD)

/-- No region is held twice. -/
theorem reg_once (k : Fin 29) : iprop(reg c k ∗ reg c k) ⊢ (False : sProp 𝕄) := by
  unfold reg
  split <;> exact slot_slot_false (set_nonempty _ (fun a => ⟨0, by revert a; decide⟩))

/-- A region after its owner's first step: offered if it is ever written, kept otherwise. -/
def Offered (k : Fin 29) : sProp 𝕄 :=
  if written c k = true then iprop(readerAt EK (c, k) 1 ∗ released EK (c, k) 1) else reg c k

/-- A region's reader offers it for its first write, -/
theorem first_offer (k : Fin 29) : iprop(Inv e ∗ readerAt EK (c, k) 0 ∗ reg c k) ⊢ (|={Set.univ}=> Offered c k : sProp 𝕄) := by
  unfold Offered
  iintro ⟨#HI, Hr, HS⟩
  split
  · ihave #Hsl := (Inv_slot e c k) $$ HI
    iapply (slot_release EK (Set.mem_univ (e.ι (c, k))) (S := reg c k) (reg_once c k) 0)
    isplitr; · iexact Hsl
    isplitl [Hr]; · iexact Hr
    iexact HS
  · imodintro; iexact HS

/-- and a device offers all its regions. -/
theorem offer_all : iprop(Inv e ∗ (bigSep Finset.univ fun k : Fin 29 => readerAt EK (c, k) 0) ∗ bigSep Finset.univ fun k : Fin 29 => reg c k)
    ⊢ (|={Set.univ}=> bigSep Finset.univ fun k : Fin 29 => Offered c k : sProp 𝕄) := by
  iintro ⟨#HI, Hr, HS⟩
  ihave HIs := (BI.bigSep_of_persistent (Finset.univ : Finset (Fin 29)) (Inv e)) $$ HI
  iapply (show iprop((bigSep (Finset.univ : Finset (Fin 29)) fun _ => Inv e) ∗ (bigSep Finset.univ fun k : Fin 29 => readerAt EK (c, k) 0) ∗ bigSep Finset.univ fun k : Fin 29 => reg c k)
    ⊢ (|={Set.univ}=> bigSep Finset.univ fun k : Fin 29 => Offered c k : sProp 𝕄) from ?_)
  · rw [← BI.bigSep_sep', ← BI.bigSep_sep']
    exact BIBase.Entails.trans (BI.bigSep_mono fun k _ => first_offer e c k) (bigSep_fupd _ _)
  · isplitl [HIs]; · iexact HIs
    isplitl [Hr] <;> iassumption

/-- The device's regions are offered, -/
theorem offered_RA : (bigSep Finset.univ fun k : Fin 29 => (Offered c k : sProp 𝕄)) ⊢ RA c := by
  unfold RA
  rw [BI.bigSep_filter]
  refine BI.bigSep_mono fun k _ => show (Offered c k : sProp 𝕄) ⊢ (if written c k = true then released EK (c, k) 1 else iprop(emp)) from ?_
  unfold Offered
  split
  · iintro ⟨-, H⟩; iexact H
  · iintro -; iempintro

/-- An offered region that is written leaves its reader waiting for the first write, -/
theorem offered_reader (k : Fin 29) (h : written c k = true) : (Offered c k : sProp 𝕄) ⊢ readerAt EK (c, k) 1 := by
  unfold Offered; rw [if_pos h]; iintro ⟨H, -⟩; iexact H
/-- and one that is never written stays with the device. -/
theorem offered_unused (k : Fin 29) (d : D) {s : Shape} (m : Memref sig .tc .vmem s .f32) (hm : reg (F := F) c k = Slot c m) (h : dAct d c = written c k) :
    (Offered c k : sProp 𝕄) ⊢ Unused c d m := by
  unfold Offered Unused
  rw [h]
  by_cases hw : written c k = true
  · rw [if_pos hw, hw]
    iintro -; iapply (Entails.of_eq (Whn_false (b := !true) rfl (Slot c m)).symm); iempintro
  · rw [if_neg hw, Bool.eq_false_iff.mpr hw]
    iintro H; iapply (Entails.of_eq (Whn_true (b := !false) rfl (Slot c m)).symm)
    iapply (Entails.of_eq hm); iexact H

def rowK (c : Dev nD) : Fin 29 := ⟨c.val + 13, by have : c.val < 16 := c.isLt; omega⟩
/-- The region of a device's own row of maxima, -/
theorem reg_rowK : reg (F := F) c (rowK c) = Slot c (rowM c) := rfl

/-- which is none of the slots. -/
theorem rowK_new : ∀ c : Dev nD, rowK c ∉ ({0, 1, 2, 3, 4, 5, 6, 7, 8, 9, 10, 11} : Finset (Fin 29)) := by decide +kernel
/-- The slots written more than once are written on every device. -/
theorem read_written : ∀ c : Dev nD, ∀ k ∈ ([0, 1, 2, 3, 10, 11] : List (Fin 29)), written c k = true := by decide +kernel
/-- Nobody writes a device's own row of maxima. -/
theorem row_kept : ∀ c : Dev nD, written c (rowK c) = false := by decide +kernel
/-- A slot from another plane is written where that plane's block comes. -/
theorem planes_written : ∀ c : Dev nD, dAct (4, true) c = written c 4 ∧ dAct (10, true) c = written c 5 ∧ dAct (18, true) c = written c 6
    ∧ dAct (5, true) c = written c 7 ∧ dAct (11, true) c = written c 8 ∧ dAct (19, true) c = written c 9 := by decide +kernel

/-- One region and twelve others. -/
theorem pick {I : Type} [Fintype I] [DecidableEq I] (a : I) (T : Finset I) (h : a ∉ T) (Φ : I → sProp 𝕄) : bigSep Finset.univ Φ ⊢ iprop(Φ a ∗ bigSep T Φ) :=
  BIBase.Entails.trans (BI.bigSep_subset (Finset.subset_univ (insert a T)) (Φ := Φ)) (Entails.of_eq (sep_insert h))

/-- and what it keeps of them is what the program starts with. -/
theorem offered_split : (bigSep Finset.univ fun k : Fin 29 => (Offered c k : sProp 𝕄))
    ⊢ iprop(Slot c (rowM c)
      ∗ (readerAt EK (c, 0) 1 ∗ readerAt EK (c, 1) 1 ∗ readerAt EK (c, 2) 1 ∗ readerAt EK (c, 3) 1 ∗ readerAt EK (c, 10) 1 ∗ readerAt EK (c, 11) 1)
      ∗ Unused c (4, true) up0 ∗ Unused c (10, true) up1 ∗ Unused c (18, true) up2 ∗ Unused c (5, true) dn0 ∗ Unused c (11, true) dn1 ∗ Unused c (19, true) dn2) := by
  have hn := rowK_new
  have hw := read_written
  have hr := row_kept
  have hu := planes_written
  obtain ⟨u4, u10, u18, u5, u11, u19⟩ := hu c
  refine BIBase.Entails.trans (pick (rowK c) _ (rowK_new c) (Offered c)) ?_
  rw [first12]
  iintro ⟨Hr, H0, H1, H2, H3, H4, H5, H6, H7, H8, H9, H10, H11⟩
  isplitl [Hr]
  · iapply (Entails.of_eq (show (Offered c (rowK c) : sProp 𝕄) = Slot c (rowM c) from by unfold Offered; rw [hr c, if_neg (by decide)]; exact reg_rowK c)); iexact Hr
  isplitl [H0 H1 H2 H3 H10 H11]
  · isplitl [H0]; · iapply (offered_reader c 0 (hw c 0 (by decide))); iexact H0
    isplitl [H1]; · iapply (offered_reader c 1 (hw c 1 (by decide))); iexact H1
    isplitl [H2]; · iapply (offered_reader c 2 (hw c 2 (by decide))); iexact H2
    isplitl [H3]; · iapply (offered_reader c 3 (hw c 3 (by decide))); iexact H3
    isplitl [H10]; · iapply (offered_reader c 10 (hw c 10 (by decide))); iexact H10
    iapply (offered_reader c 11 (hw c 11 (by decide))); iexact H11
  isplitl [H4]; · iapply (offered_unused c 4 (4, true) up0 rfl u4); iexact H4
  isplitl [H5]; · iapply (offered_unused c 5 (10, true) up1 rfl u10); iexact H5
  isplitl [H6]; · iapply (offered_unused c 6 (18, true) up2 rfl u18); iexact H6
  isplitl [H7]; · iapply (offered_unused c 7 (5, true) dn0 rfl u5); iexact H7
  isplitl [H8]; · iapply (offered_unused c 8 (11, true) dn1 rfl u11); iexact H8
  iapply (offered_unused c 9 (19, true) dn2 rfl u19); iexact H9

end Offer

end Cert.Gather

end
-- ==== Proof.Ghost.lean ====
/-
The protocol's resources at launch and at the end: the invariants allocated, tokens, places and credit dealt to the devices, and the semaphores closed.
-/
module

public import proofs.«01_k».proof.Proof.Scratch

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The protocol's cells and tokens -/

/-- A device and one of its semaphores, as a cell. -/
theorem cellAt_inj : Function.Injective (fun p : Dev nD × Fin 62 => kcell p.1 p.2) := by
  rintro ⟨c, k⟩ ⟨c', k'⟩ h
  have h1 : c = c' := congrArg (fun g : GSem nD τ sig => g.1.1) h
  have h2 : csem k = csem k' := congrArg Prod.snd h
  rw [h1, csem_inj h2]
def cellsF : Finset (GSem nD τ sig) := Finset.univ.map ⟨fun p : Dev nD × Fin 62 => kcell p.1 p.2, cellAt_inj⟩

/-- The device and semaphore at which `c` pays duty `d`: at the receiver, or its own. -/
def payCell (c : Dev nD) (d : D) : GSem nD τ sig := kcell (if d.2 = true then mv d.1 c else c) (dS d)
/-- Whether `c` pays it. -/
def pays (c : Dev nD) (d : D) : Bool := act d.1 c && (d.2 || copy d.1)

/-- Two payments are never the same duty of the same round of the same semaphore. -/
theorem tokOf_inj : Function.Injective (fun p : Dev nD × D => ((payCell p.1 p.2, rd p.2.1, p.2) : GSem nD τ sig × ℕ × D)) := by
  rintro ⟨c, d⟩ ⟨c', d'⟩ h
  have hd : d = d' := congrArg (fun x : GSem nD τ sig × ℕ × D => x.2.2) h
  subst hd
  have hc : (if d.2 = true then mv d.1 c else c) = if d.2 = true then mv d.1 c' else c' := congrArg (fun x : GSem nD τ sig × ℕ × D => x.1.1.1) h
  split at hc
  · rw [(mv d.1).injective hc]
  · rw [hc]
def toksF : Finset (GSem nD τ sig × ℕ × D) :=
  (Finset.univ.filter fun p : Dev nD × D => pays p.1 p.2 = true).map ⟨fun p : Dev nD × D => (payCell p.1 p.2, rd p.2.1, p.2), tokOf_inj⟩

/-- The write that message `μ` of `c` is: the region it fills, and which of that region's writes. -/
def writeOf (p : Dev nD × Fin 49) : (Dev nD × Fin 29) × ℕ := ((mv p.2 p.1, ky p.2 p.1), rd p.2)
def writers : Finset (Dev nD × Fin 49) := Finset.univ.filter fun p => copy p.2 = true ∧ act p.2 p.1 = true

/-- A block lands in the same region on every device, which is none of the rows of maxima. -/
theorem ky_low : ∀ μ : Fin 49, μ.val < 34 → copy μ = true → ∀ c : Dev nD, ky μ c = ky μ 0 ∧ (ky μ 0).val < 13 := by decide +kernel
/-- No two copies of blocks make the same write of a region, but for the two relays, -/
theorem ky_once : ∀ μ μ' : Fin 49, μ.val < 34 → μ'.val < 34 → copy μ = true → copy μ' = true → ky μ 0 = ky μ' 0 → rd μ = rd μ' →
    μ = μ' ∨ (μ = 16 ∧ μ' = 17) ∨ (μ = 17 ∧ μ' = 16) := by decide +kernel
/-- which never go to the same device. -/
theorem relays_apart : ∀ c c' : Dev nD, act 16 c = true → act 17 c' = true → mv 16 c ≠ mv 17 c' := by decide +kernel
/-- Two rows of maxima of a device go to different devices. -/
theorem rots_apart : ∀ c : Dev nD, ∀ μ μ' : Fin 49, 34 ≤ μ.val → 34 ≤ μ'.val → mv μ c = mv μ' c → μ = μ' := by decide +kernel

/-- A row of maxima lands in its sender's row. -/
theorem ky_high (μ : Fin 49) (c : Dev nD) (h : 34 ≤ μ.val) : (ky μ c).val = 13 + c.val := by
  show kyN μ c = _
  unfold kyN; rw [if_pos h]

/-- No two messages are the same write. -/
theorem writeOf_inj : ∀ p ∈ writers, ∀ p' ∈ writers, writeOf p = writeOf p' → p = p' := by
  rintro ⟨c, μ⟩ hp ⟨c', μ'⟩ hp' h
  obtain ⟨hc, ha⟩ := (Finset.mem_filter.mp hp).2
  obtain ⟨hc', ha'⟩ := (Finset.mem_filter.mp hp').2
  have h1 : mv μ c = mv μ' c' := congrArg (fun x => x.1.1) h
  have h2 : ky μ c = ky μ' c' := congrArg (fun x => x.1.2) h
  have h3 : rd μ = rd μ' := congrArg (fun x => x.2) h
  by_cases hm : 34 ≤ μ.val
  · by_cases hm' : 34 ≤ μ'.val
    · have := congrArg Fin.val h2
      rw [ky_high μ c hm, ky_high μ' c' hm'] at this
      have hcc : c = c' := Fin.ext (by omega)
      subst hcc
      rw [rots_apart c μ μ' hm hm' h1]
    · obtain ⟨e1, e2⟩ := ky_low μ' (by omega) hc' c'
      have := congrArg Fin.val (h2.trans e1)
      rw [ky_high μ c hm] at this
      omega
  · obtain ⟨e1, e2⟩ := ky_low μ (by omega) hc c
    by_cases hm' : 34 ≤ μ'.val
    · have := congrArg Fin.val (h2.symm.trans e1)
      rw [ky_high μ' c' hm'] at this
      omega
    · obtain ⟨e1', e2'⟩ := ky_low μ' (by omega) hc' c'
      rcases ky_once μ μ' (by omega) (by omega) hc hc' (e1.symm.trans (h2.trans e1')) h3 with rfl | ⟨rfl, rfl⟩ | ⟨rfl, rfl⟩
      · rw [(mv μ).injective h1]
      · exact absurd h1 (relays_apart c c' ha ha')
      · exact absurd h1.symm (relays_apart c' c ha' ha)

/-- No semaphore has more than three rounds. -/
theorem rd_lt : ∀ μ : Fin 49, rd μ < 3 := by decide +kernel

/-- A conjunction over both truth values is of two parts. -/
theorem sep_bool (Φ : Bool → sProp 𝕄) : bigSep Finset.univ Φ = iprop(Φ true ∗ Φ false) :=
  bigSep_univ_eq_bigSepL [true, false] (by decide) (by decide) Φ

/-! ## What the launch hands out -/

section Ghost
variable (X : Dev nD → S256x4096.Idx → Elt F .f32) (W : Dev nD → S4096x128.Idx → Elt F .f32)

/-- The greatest magnitudes of the devices' products. -/
def maxOf : Dev nD → F .f32 := (⟨X, W, fun _ => 0, fun _ => 0⟩ : Env F).A

/-- The running maxima do not depend on the invariants' names, -/
theorem run_names (κ : Dev nD × Fin 62 → ℕ) (ι : Dev nD × Fin 29 → ℕ) (c : Dev nD) (n : ℕ) :
    (⟨X, W, κ, ι⟩ : Env F).run c n = (⟨X, W, fun _ => 0, fun _ => 0⟩ : Env F).run c n := by
  induction n with
  | zero => rfl
  | succ n ih => exact congrArg (fun a => k0_pay13 a ((⟨X, W, κ, ι⟩ : Env F).tile c (ord c n))) ih
/-- and neither does the last of them. -/
theorem A_names (κ : Dev nD × Fin 62 → ℕ) (ι : Dev nD × Fin 29 → ℕ) : (⟨X, W, κ, ι⟩ : Env F).A = maxOf X W :=
  funext fun c => run_names X W κ ι c 16

/-- The protocol's part of the launch: every cell's state, marks, places and tokens, and the regions' element. -/
def Big : sProp 𝕄 :=
  iprop((bigSep Finset.univ fun p : Dev nD × Fin 62 => roundState EB (Rd X (maxOf X W)) (kcell p.1 p.2) 0)
    ∗ (bigSep Finset.univ fun p : Dev nD × Fin 62 => reached EB (kcell p.1 p.2) 0)
    ∗ (bigSep Finset.univ fun p : Dev nD × Fin 62 => atPos EB (kcell p.1 p.2) 0 ∅ 0)
    ∗ (bigSep Finset.univ fun p : Dev nD × D => if pays p.1 p.2 = true then dutyTok EB (payCell p.1 p.2) (rd p.2.1) p.2 else iprop(emp))
    ∗ BI.own ((EK : Emb UK 𝕄) (initSlots Finset.univ 3)))

/-- From the protocol's starting elements: every cell's state, marks, places and tokens, and the regions' element. -/
theorem fund_big : BI.own ((embR : Emb (UB × UK) 𝕄) (initOf cellsF toksF, initSlots Finset.univ 3)) ⊢ (|==> Big X W : sProp 𝕄) := by
  have hX (Φ : GSem nD τ sig → sProp 𝕄) : bigSep cellsF Φ = bigSep Finset.univ fun p : Dev nD × Fin 62 => Φ (kcell p.1 p.2) := by
    unfold cellsF; rw [BI.bigSep_map]; rfl
  have hT : bigSep toksF (fun x => (dutyTok EB x.1 x.2.1 x.2.2 : sProp 𝕄))
      = bigSep Finset.univ fun p : Dev nD × D => if pays p.1 p.2 = true then dutyTok EB (payCell p.1 p.2) (rd p.2.1) p.2 else iprop(emp) := by
    unfold toksF; rw [BI.bigSep_map, BI.bigSep_filter]; rfl
  iintro H
  ihave H := (show BI.own ((embR : Emb (UB × UK) 𝕄) (initOf cellsF toksF, initSlots Finset.univ 3))
    ⊢ iprop(BI.own ((EB : Emb UB 𝕄) (initOf cellsF toksF)) ∗ BI.own ((EK : Emb UK 𝕄) (initSlots Finset.univ 3))) from own_pair_emb _ _ _) $$ H
  icases H with ⟨HB, HK⟩
  imod (Rounds.fund EB (Rd X (maxOf X W)) cellsF toksF) $$ HB with ⟨Hst, Hr, Hat, Htok⟩
  imodintro
  unfold Big
  isplitl [Hst]; · iapply (Entails.of_eq (hX fun g => roundState EB (Rd X (maxOf X W)) g 0)); iexact Hst
  isplitl [Hr]; · iapply (Entails.of_eq (hX fun g => reached EB g 0)); iexact Hr
  isplitl [Hat]; · iapply (Entails.of_eq (hX fun g => atPos EB g 0 ∅ 0)); iexact Hat
  isplitl [Htok]; · iapply (Entails.of_eq hT); iexact Htok
  iexact HK

/-! ## The invariants are allocated -/

/-- A device's share of the protocol, with the invariants of all devices but for the levels. -/
def InvL (e : Env F) : sProp 𝕄 :=
  iprop((bigSep Finset.univ fun p : Dev nD × Fin 62 => cellInv EB (Rd e.X e.A) (e.κ p) (kcell p.1 p.2))
    ∗ (bigSep Finset.univ fun p : Dev nD × Fin 62 => reached EB (kcell p.1 p.2) 0)
    ∗ (bigSep Finset.univ fun p : Dev nD × Fin 29 => slotInv EK (e.ι p) p (reg p.1 p.2)))
instance InvL_persistent (e : Env F) : BI.Persistent (InvL e) := by unfold InvL; infer_instance

/-- The tokens device `c` pays with, its places, and its regions, not offered yet. -/
def Own (e : Env F) (c : Dev nD) : sProp 𝕄 :=
  iprop(bigSep Finset.univ (TokF (F := F) c 0) ∗ bigSep Finset.univ (PosF e c 0) ∗ bigSep Finset.univ fun k : Fin 29 => readerAt EK (c, k) 0)

/-- What a device gets. -/
def Dealt (c : Dev nD) : sProp 𝕄 :=
  iprop(∃ κι : (Dev nD × Fin 62 → ℕ) × (Dev nD × Fin 29 → ℕ), InvL ⟨X, W, κι.1, κι.2⟩ ∗ Own ⟨X, W, κι.1, κι.2⟩ c)

/-- At the start a device is at round 0 of all its semaphores. -/
theorem places (e : Env F) (c : Dev nD) :
    iprop((bigSep Finset.univ fun k : Fin 62 => atPos EB (kcell c k) 0 ∅ 0) ∗ bigSep Finset.univ fun k : Fin 62 => reached EB (kcell c k) 0)
      ⊢ (bigSep Finset.univ (PosF e c 0) : sProp 𝕄) := by
  rw [← BI.bigSep_sep']
  refine BI.bigSep_mono fun k _ => show iprop(atPos EB (kcell c k) 0 ∅ 0 ∗ reached EB (kcell c k) 0) ⊢ (PosF e c 0 k : sProp 𝕄) from ?_
  have h0 : cnt c k 0 = 0 := rfl
  unfold PosF
  split
  · rw [h0]; iintro ⟨H, -⟩; iexact H
  · rw [h0]

/-- A device's duty tokens and write tokens, message by message. -/
theorem tokens (c : Dev nD) :
    iprop((bigSep Finset.univ fun d : D => if pays c d = true then dutyTok EB (payCell c d) (rd d.1) d else iprop(emp))
      ∗ bigSep Finset.univ fun μ : Fin 49 => if copy μ = true ∧ act μ c = true then writeTok EK (mv μ c, ky μ c) (rd μ + 1) else iprop(emp))
      ⊢ (bigSep Finset.univ (TokF (F := F) c 0) : sProp 𝕄) := by
  rw [BI.bigSep_univ_prod, ← BI.bigSep_sep']
  refine BI.bigSep_mono fun μ _ => show iprop((bigSep Finset.univ fun b : Bool => if pays c (μ, b) = true then dutyTok EB (payCell c (μ, b)) (rd μ) (μ, b) else iprop(emp))
    ∗ if copy μ = true ∧ act μ c = true then writeTok EK (mv μ c, ky μ c) (rd μ + 1) else iprop(emp)) ⊢ (TokF (F := F) c 0 μ : sProp 𝕄) from ?_
  rw [sep_bool]
  unfold TokF
  by_cases ha : act μ c = true
  · have h1 : pays c (μ, true) = true := by unfold pays; rw [ha]; rfl
    rw [if_pos h1, if_pos (show 0 ≤ μ.val ∧ act μ c = true from ⟨Nat.zero_le _, ha⟩)]
    by_cases hc : copy μ = true
    · have h2 : pays c (μ, false) = true := by unfold pays; rw [ha, hc]; rfl
      rw [if_pos h2, if_pos ⟨hc, ha⟩, if_pos hc]
      iintro ⟨⟨H1, H2⟩, H3⟩
      isplitl [H1]; · iexact H1
      isplitl [H2]; · iexact H2
      iexact H3
    · rw [if_neg hc]
      iintro ⟨⟨H1, -⟩, -⟩
      isplitl [H1]; · iexact H1
      iempintro
  · rw [if_neg (show ¬ (0 ≤ μ.val ∧ act μ c = true) from fun h => ha h.2)]
    iintro -; iempintro

/-- Of a product, the factors at the distinct images of the pairs that satisfy `p`. -/
theorem sep_pairs {I K J : Type} [Fintype I] [Fintype K] [DecidableEq I] [DecidableEq K] [DecidableEq J] (s : Finset J) (p : I × K → Prop) [DecidablePred p] (f : I × K → J)
    (hf : ∀ a ∈ Finset.univ.filter p, ∀ b ∈ Finset.univ.filter p, f a = f b → a = b) (hs : ∀ a, f a ∈ s) (Φ : J → sProp 𝕄) :
    bigSep s Φ ⊢ bigSep Finset.univ fun i : I => bigSep Finset.univ fun k : K => if p (i, k) then Φ (f (i, k)) else iprop(emp) := by
  have hi : (Finset.univ.filter p).image f ⊆ s := by
    intro x hx
    obtain ⟨a, -, rfl⟩ := Finset.mem_image.mp hx
    exact hs a
  refine BIBase.Entails.trans (BI.bigSep_subset hi) (Entails.of_eq ?_)
  exact (sep_image hf Φ).trans ((BI.bigSep_filter _ p _).trans (BI.bigSep_univ_prod _))

/-- Every write is among the regions' first three. -/
theorem writeOf_mem (p : Dev nD × Fin 49) : writeOf p ∈ Finset.univ ×ˢ Finset.range 3 :=
  Finset.mem_product.mpr ⟨Finset.mem_univ _, Finset.mem_range.mpr (rd_lt p.2)⟩

/-- The write tokens reach those who write. -/
theorem writes_dealt : (bigSep (Finset.univ ×ˢ Finset.range 3) fun x : (Dev nD × Fin 29) × ℕ => (writeTok EK x.1 (x.2 + 1) : sProp 𝕄))
    ⊢ bigSep Finset.univ fun c : Dev nD => bigSep Finset.univ fun μ : Fin 49 =>
      if copy μ = true ∧ act μ c = true then writeTok EK (mv μ c, ky μ c) (rd μ + 1) else iprop(emp) :=
  sep_pairs (I := Dev nD) (K := Fin 49) (Finset.univ ×ˢ Finset.range 3) (fun p => copy p.2 = true ∧ act p.2 p.1 = true) writeOf writeOf_inj writeOf_mem (fun x => writeTok EK x.1 (x.2 + 1))

/-- All cells' invariants and all regions', at some names, every device with its share. -/
theorem deal : iprop(Big X W ∗ bigSep Finset.univ fun p : Dev nD × Fin 62 => semVal (kcell p.1 p.2) 0)
    ⊢ (|={Set.univ}=> bigSep Finset.univ (Dealt X W) : sProp 𝕄) := by
  unfold Big
  iintro ⟨⟨Hst, #Hr, Hat, Htok, HK⟩, Hv⟩
  imod (show iprop((bigSep Finset.univ fun p : Dev nD × Fin 62 => semVal (kcell p.1 p.2) 0)
        ∗ bigSep Finset.univ fun p : Dev nD × Fin 62 => roundState EB (Rd X (maxOf X W)) (kcell p.1 p.2) 0)
      ⊢ (|={Set.univ}=> bigSep Finset.univ fun p : Dev nD × Fin 62 => iprop(∃ κ : ℕ, cellInv EB (Rd X (maxOf X W)) κ (kcell p.1 p.2)) : sProp 𝕄) from by
        rw [← BI.bigSep_sep']
        exact BIBase.Entails.trans (BI.bigSep_mono fun p _ => BIBase.Entails.trans (Rounds.body_intro EB (Rd X (maxOf X W)) (kcell p.1 p.2)) inv_alloc)
          (bigSep_fupd _ _)) $$ [Hv Hst] with Hinv
  · isplitl [Hv] <;> iassumption
  ihave Hinv := (BI.bigSep_exists_pi Finset.univ (fun (p : Dev nD × Fin 62) (κ : ℕ) => (cellInv EB (Rd X (maxOf X W)) κ (kcell p.1 p.2) : sProp 𝕄))) $$ Hinv
  icases Hinv with ⟨%κ, #Hinv⟩
  imod (slots_init (Es := Set.univ) EK Finset.univ 3 (fun p : Dev nD × Fin 29 => reg (F := F) p.1 p.2) ∅) $$ HK with ⟨%ι, -, #Hsl, Hrd, Hwr⟩
  imodintro
  ihave Hwr := (writes_dealt (F := F)) $$ Hwr
  ihave Hrd := (Entails.of_eq (BI.bigSep_univ_prod fun p : Dev nD × Fin 29 => (readerAt EK p 0 : sProp 𝕄))) $$ Hrd
  ihave Htok := (Entails.of_eq (BI.bigSep_univ_prod fun p : Dev nD × D => (if pays p.1 p.2 = true then dutyTok EB (payCell p.1 p.2) (rd p.2.1) p.2 else iprop(emp) : sProp 𝕄))) $$ Htok
  ihave Hat := (Entails.of_eq (BI.bigSep_univ_prod fun p : Dev nD × Fin 62 => (atPos EB (kcell p.1 p.2) 0 ∅ 0 : sProp 𝕄))) $$ Hat
  ihave Hr' := (Entails.of_eq (BI.bigSep_univ_prod fun p : Dev nD × Fin 62 => (reached EB (kcell p.1 p.2) 0 : sProp 𝕄))) $$ Hr
  have hI : iprop((bigSep Finset.univ fun p : Dev nD × Fin 62 => cellInv EB (Rd X (maxOf X W)) (κ p) (kcell p.1 p.2))
    ∗ (bigSep Finset.univ fun p : Dev nD × Fin 62 => reached EB (kcell p.1 p.2) 0)
    ∗ (bigSep Finset.univ fun p : Dev nD × Fin 29 => slotInv EK (ι p) p (reg p.1 p.2))) ⊢ (InvL ⟨X, W, κ, ι⟩ : sProp 𝕄) := by
    unfold InvL; rw [A_names]
  ihave #HI := hI $$ []
  · isplitr; · iexact Hinv
    isplitr; · iexact Hr
    iexact Hsl
  have hone (c : Dev nD) : iprop(InvL ⟨X, W, κ, ι⟩
      ∗ (bigSep Finset.univ fun d : D => if pays c d = true then dutyTok EB (payCell c d) (rd d.1) d else iprop(emp))
      ∗ (bigSep Finset.univ fun μ : Fin 49 => if copy μ = true ∧ act μ c = true then writeTok EK (mv μ c, ky μ c) (rd μ + 1) else iprop(emp))
      ∗ (bigSep Finset.univ fun k : Fin 62 => atPos EB (kcell c k) 0 ∅ 0) ∗ (bigSep Finset.univ fun k : Fin 62 => reached EB (kcell c k) 0)
      ∗ bigSep Finset.univ fun k : Fin 29 => readerAt EK (c, k) 0) ⊢ (Dealt X W c : sProp 𝕄) := by
    unfold Dealt Own
    iintro ⟨HI, H1, H2, H3, H4, H5⟩
    iexists (κ, ι)
    isplitl [HI]; · iexact HI
    isplitl [H1 H2]
    · iapply (tokens (F := F) c); isplitl [H1] <;> iassumption
    isplitl [H3 H4]
    · iapply (places _ c); isplitl [H3] <;> iassumption
    iexact H5
  ihave HIs := (BI.bigSep_of_persistent (Finset.univ : Finset (Dev nD)) (InvL (F := F) ⟨X, W, κ, ι⟩)) $$ HI
  iapply (show _ ⊢ (bigSep Finset.univ (Dealt X W) : sProp 𝕄) from BI.bigSep_mono fun c _ => hone c)
  simp only [BI.bigSep_sep']
  isplitl [HIs]; · iexact HIs
  isplitl [Htok]; · iexact Htok
  isplitl [Hwr]; · iexact Hwr
  isplitl [Hat]; · iexact Hat
  isplitl [Hr']; · iexact Hr'
  iexact Hrd

end Ghost

/-! ## The credit dealt at launch -/

section Credit

/-- What the others owe device `c` at launch. -/
def due (c : Dev nD) : CellTallies nD τ sig ℕ :=
  ∑ μ : Fin 49, if ract μ c = true then tallyAt (kcell c (rs μ)) (ix μ) (amt μ) else 0

/-- What all devices owe at launch is what is due to all devices. -/
theorem due_sum : (∑ d : Dev nD, Oat d 0) = ∑ d : Dev nD, due d := by
  unfold Oat due
  rw [Finset.sum_comm, Finset.sum_comm (s := Finset.univ (α := Dev nD)) (t := Finset.univ (α := Fin 49)) (f := fun d μ => if ract μ d = true then tallyAt (kcell d (rs μ)) (ix μ) (amt μ) else 0)]
  refine Finset.sum_congr rfl fun μ _ => ?_
  refine Eq.trans ?_ (Equiv.sum_comp (mv μ) fun d => if ract μ d = true then tallyAt (kcell d (rs μ)) (ix μ) (amt μ) else (0 : CellTallies nD τ sig ℕ))
  refine Finset.sum_congr rfl fun d _ => ?_
  have h : ract μ (mv μ d) = act μ d := by unfold ract; rw [Equiv.symm_apply_apply]
  rw [h]
  by_cases ha : act μ d = true
  · rw [if_pos ⟨Nat.zero_le _, ha⟩, if_pos ha]
  · rw [if_neg (fun h => ha h.2), if_neg ha]

/-- What is due to a device is due at its own cells. -/
theorem due_own (d : Dev nD) (g : GSem nD τ sig) (h : due d g ≠ 0) : g.1 = ((d : Dev nD) : Thread nD τ) := by
  by_contra hg
  refine h ?_
  unfold due
  rw [Finset.sum_apply]
  refine Finset.sum_eq_zero fun μ _ => ?_
  split
  · exact tallyAt_ne_cell (fun he : g = kcell d (rs μ) => hg (congrArg Prod.fst he)) _ _
  · rfl

/-- The launch gives a device the units that it will wait for. -/
theorem credits (c : Dev nD) : (Pipeline.launchCred (fun d => Oat d 0) c : sProp 𝕄) ⊢ bigSep Finset.univ (CrdF (F := F) c 0 0) := by
  rw [Pipeline.launchCred_of_sum (fun d => Oat d 0) due due_sum due_own c]
  unfold due
  rw [Pipeline.cred_finsetSum, BI.bigSep_univ_prod]
  refine BI.bigSep_mono fun μ _ => show (cred (if ract μ c = true then tallyAt (kcell c (rs μ)) (ix μ) (amt μ) else 0) : sProp 𝕄)
    ⊢ bigSep Finset.univ fun b : Bool => CrdF (F := F) c 0 0 (μ, b) from ?_
  rw [sep_bool]
  have h0 : (CrdF (F := F) c 0 0 (μ, false) : sProp 𝕄) = iprop(emp) := by
    unfold CrdF; exact if_neg fun h => absurd (h.2.2 rfl) (Nat.not_lt_zero _)
  rw [h0]
  by_cases h : ract μ c = true
  · have h1 : (CrdF (F := F) c 0 0 (μ, true) : sProp 𝕄) = cred (tallyAt (kcell c (rs μ)) (ix μ) (amt μ)) := by
      unfold CrdF; exact if_pos ⟨h, Nat.zero_le _, fun h => Bool.noConfusion h⟩
    rw [h1, if_pos h]
    iintro H
    isplitl [H]; · iexact H
    iempintro
  · have h1 : (CrdF (F := F) c 0 0 (μ, true) : sProp 𝕄) = iprop(emp) := by
      unfold CrdF; exact if_neg fun h' => h h'.1
    rw [h1]
    iintro -
    isplitl
    · iempintro
    iempintro

end Credit

/-! ## The end: every semaphore is back at zero -/

section Close
variable (e : Env F) (c : Dev nD)

/-- After all messages a device owes nothing. -/
theorem Oat_done : Oat c 49 = 0 := by
  unfold Oat
  refine Finset.sum_eq_zero fun μ _ => if_neg fun h => ?_
  have := μ.isLt
  omega

/-- After all waits every duty to a device has been taken, -/
theorem rounds_done : ∀ c : Dev nD, ∀ d : D, dAct d c = true → (¬ (57 ≤ (dS d).val ∧ (dS d).val ≤ 60) → rd d.1 < cnt c (dS d) 83)
    ∧ ((57 ≤ (dS d).val ∧ (dS d).val ≤ 60) → rd d.1 < 1) := by decide +kernel
/-- and both units of each credit semaphore. -/
theorem credits_done : ∀ c : Dev nD, ∀ k : Fin 62, (57 ≤ k.val ∧ k.val ≤ 60) → cnt c k 83 = 2 := by decide +kernel

/-- After all waits a semaphore is given back at zero, -/
theorem close_one (k : Fin 62) : iprop(Inv e ∗ PosF e c 83 k) ⊢ (|={Set.univ}=> semVal (kcell c k) 0 : sProp 𝕄) := by
  iintro ⟨#HI, H⟩
  ihave #Hc := (Inv_cell e c k) $$ HI
  by_cases hk : 57 ≤ k.val ∧ k.val ≤ 60
  · have h : PosF e c 83 k ⊢ (atPos EB (kcell c k) 1 ∅ 0 : sProp 𝕄) := by
      unfold PosF; rw [if_pos hk, credits_done c k hk]
      exact BIBase.Entails.rfl
    ihave H := h $$ H
    iapply (Rounds.cell_close EB (Rd e.X e.A) (Set.mem_univ (e.κ (c, k))) (fun h => h) (R := 1) ?_) $$ [H]
    · intro r hr
      rw [duties_kcell]
      refine Finset.filter_false_of_mem fun d _ hd => ?_
      obtain ⟨rfl, h2, h3⟩ := hd
      have := (rounds_done c d h3).2 hk
      omega
    · isplitr; · iexact Hc
      iexact H
  · have h : PosF e c 83 k ⊢ (atPos EB (kcell c k) (cnt c k 83) ∅ 0 : sProp 𝕄) := by
      unfold PosF; rw [if_neg hk]; iintro ⟨H, -⟩; iexact H
    ihave H := h $$ H
    iapply (Rounds.cell_close EB (Rd e.X e.A) (Set.mem_univ (e.κ (c, k))) (fun h => h) (R := cnt c k 83) ?_) $$ [H]
    · intro r hr
      rw [duties_kcell]
      refine Finset.filter_false_of_mem fun d _ hd => ?_
      obtain ⟨rfl, h2, h3⟩ := hd
      have := (rounds_done c d h3).1 hk
      omega
    · isplitr; · iexact Hc
      iexact H

/-- and so are all semaphores of the device. -/
theorem close_all : iprop(Inv e ∗ bigSep Finset.univ (PosF e c 83)) ⊢ (|={Set.univ}=> bigSep Finset.univ fun k : Fin 62 => semVal (kcell c k) 0 : sProp 𝕄) := by
  iintro ⟨#HI, H⟩
  ihave HIs := (BI.bigSep_of_persistent (Finset.univ : Finset (Fin 62)) (Inv e)) $$ HI
  iapply (show iprop((bigSep (Finset.univ : Finset (Fin 62)) fun _ => Inv e) ∗ bigSep Finset.univ (PosF e c 83))
    ⊢ (|={Set.univ}=> bigSep Finset.univ fun k : Fin 62 => semVal (kcell c k) 0 : sProp 𝕄) from ?_)
  · rw [← BI.bigSep_sep']
    exact BIBase.Entails.trans (BI.bigSep_mono fun k _ => close_one e c k) (bigSep_fupd _ _)
  · isplitl [HIs] <;> iassumption

end Close

end Cert.Gather

end
-- ==== Proof.Launch.lean ====
/-
The launch of the sixteen devices: what each starts and ends with, and the run of the whole program.
-/
module

public import proofs.«01_k».proof.Proof.Ghost

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The state at the start: the given memory, no semaphore counted. -/
def s₀ : MemSt nD τ sig (Elt F) := ⟨m, fun _ => 0, ρ⟩

/-- A device's blocks, as the launch reads them in. -/
def xIn (c : Dev nD) : (cc0_stg0_0 : Ref sig .tc).ty.Contents (Elt F) := (win0_0.blk (0 : Fin 1)).view.read (Elt F) ((s₀ m ρ).mem ((c : Thread nD τ).loc main_arg0))
def wIn (c : Dev nD) : (cc0_stg1_0 : Ref sig .tc).ty.Contents (Elt F) := (win0_1.blk (0 : Fin 1)).view.read (Elt F) ((s₀ m ρ).mem ((c : Thread nD τ).loc main_arg1))

/-- Those blocks, and the names the invariants have. -/
def env (κι : (Dev nD × Fin 62 → ℕ) × (Dev nD × Fin 29 → ℕ)) : Env F := ⟨xIn m ρ, wIn m ρ, κι.1, κι.2⟩
/-- The result of a device. -/
def resOf (c : Dev nD) : (cc0_stg2_0 : Ref sig .tc).ty.Contents (Elt F) := (env m ρ (fun _ => 0, fun _ => 0)).res c
/-- A device's result does not depend on the invariants' names. -/
theorem res_names (κι : (Dev nD × Fin 62 → ℕ) × (Dev nD × Fin 29 → ℕ)) (c : Dev nD) : (env m ρ κι).res c = resOf m ρ c := by
  have h : (env m ρ κι).maxima = (env m ρ (fun _ => 0, fun _ => 0)).maxima :=
    funext fun x => congrFun ((A_names (xIn m ρ) (wIn m ρ) κι.1 κι.2).trans (A_names (xIn m ρ) (wIn m ρ) (fun _ => 0) (fun _ => 0)).symm) (x 0)
  show k0_pay1 (k0_pay46 (env m ρ κι).maxima) (k0_pay47 (env m ρ κι).maxima ((env m ρ κι).out c)) = _
  rw [h]; rfl

/-! ## The region's data -/

/-- The call has one grid point, -/
theorem cfg0_N : cfg0.N = 1 := by decide
def t₀ : Fin cfg0.N := ⟨0, by rw [cfg0_N]; decide⟩
/-- which is this one. -/
theorem fin_N (t : Fin cfg0.N) : t = t₀ := by
  obtain ⟨t, ht⟩ := t; have := cfg0_N; exact Fin.ext (by simp only [t₀]; omega)

/-- What a device's program starts from, but for its buffers. -/
def Start (c : Dev nD) : sProp 𝕄 :=
  iprop(Dealt (xIn m ρ) (wIn m ρ) c ∗ bigSep Finset.univ (CrdF (F := F) c 0 0) ∗ Lev)
def Φ₀ (c : Dev nD) : sProp 𝕄 := iprop(Start m ρ c ∗ Pipeline.scopedRest (Ix := ℕ) (Name := ℕ) (U := UU) (Lvl := ℕ) (Val := Elt F) cfg0.spec c)
/-- What it ends with: its semaphores at zero, its scratch buffers at some contents. -/
def Φ₁ (c : Dev nD) : sProp 𝕄 := iprop((bigSep Finset.univ fun k : Fin 62 => semVal (kcell c k) 0)
  ∗ Pipeline.scopedRest (Ix := ℕ) (Name := ℕ) (U := UU) (Lvl := ℕ) (Val := Elt F) cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => resOf m ρ c
  Φ t := match t with
    | ⟨0, _⟩ => Φ₀ m ρ c
    | ⟨_ + 1, _⟩ => Φ₁ c
  q _ := fullShare
  owed t := match t with
    | ⟨0, _⟩ => Oat c 0
    | ⟨_ + 1, _⟩ => 0

/-- A conjunction over the windows is of three parts. -/
theorem bigSep_W (Φ : Fin cfg0.W → sProp 𝕄) : bigSep Finset.univ Φ = iprop(Φ (0 : Fin 3) ∗ Φ (1 : Fin 3) ∗ Φ (2 : Fin 3)) := bigSep_W0 Φ
/-- The operand's block is fetched at the grid point, -/
theorem fetch_0 (t : Fin cfg0.N) : (cfg0.win (0 : Fin 3)).fetch t = true := by rw [fin_N t]; rfl
/-- and so is the weights'. -/
theorem fetch_1 (t : Fin cfg0.N) : (cfg0.win (1 : Fin 3)).fetch t = true := by rw [fin_N t]; rfl

/-! ## The body -/

/-- What the pipeline hands the body, and what it takes back. -/
def handed (c : Dev nD) : sProp 𝕄 :=
  iprop(Φ₀ m ρ c ∗ (dats m ρ 0 c).owesAt 0 t₀.castSucc
    ∗ (∃ d, owns (c : Thread nD τ) xM fullShare ((dats m ρ 0 c).before (0 : Fin 3) t₀ d))
    ∗ (∃ d, owns (c : Thread nD τ) wM fullShare ((dats m ρ 0 c).before (1 : Fin 3) t₀ d))
    ∗ (∃ d, owns (c : Thread nD τ) oM fullShare ((dats m ρ 0 c).before (2 : Fin 3) t₀ d)))
def given (c : Dev nD) : sProp 𝕄 :=
  iprop(Φ₁ c ∗ (dats m ρ 0 c).owesAt 0 t₀.succ
    ∗ owns (c : Thread nD τ) xM fullShare (xIn m ρ c) ∗ owns (c : Thread nD τ) wM fullShare (wIn m ρ c) ∗ owns (c : Thread nD τ) oM fullShare (resOf m ρ c))

/-- Before the body the operand's staging buffer holds the device's rows, -/
theorem before_x (c : Dev nD) (d) : (dats m ρ 0 c).before (0 : Fin 3) t₀ d = xIn m ρ c := by
  unfold Dat.before; rw [if_pos (fetch_0 t₀)]; rfl
/-- and the weights' its columns. -/
theorem before_w (c : Dev nD) (d) : (dats m ρ 0 c).before (1 : Fin 3) t₀ d = wIn m ρ c := by
  unfold Dat.before; rw [if_pos (fetch_1 t₀)]; rfl

/-- From what the pipeline hands over, the program's start: the regions are offered. -/
theorem ready (c : Dev nD) : handed m ρ c ⊢ (|={Set.univ}=> iprop(∃ κι, Pre (env m ρ κι) c) : sProp 𝕄) := by
  unfold handed Φ₀ Start Dealt Own
  iintro ⟨⟨⟨⟨%κι, #HI, Htok, Hpos, Hrd⟩, Hcrd, #Hlev⟩, Hscr⟩, Ho, ⟨%d0, Hx⟩, ⟨%d1, Hw⟩, ⟨%d2, Hout⟩⟩
  have hI : iprop(InvL ⟨xIn m ρ, wIn m ρ, κι.1, κι.2⟩ ∗ Lev) ⊢ (Inv (env m ρ κι) : sProp 𝕄) := by
    unfold InvL Inv
    iintro ⟨⟨H1, H2, H3⟩, H4⟩
    isplitl [H1]; · iexact H1
    isplitl [H2]; · iexact H2
    isplitl [H3]; · iexact H3
    iexact H4
  ihave #HInv := hI $$ []
  · isplitr; · iexact HI
    iexact Hlev
  ihave Hscr := (scratch_split c) $$ Hscr
  icases Hscr with ⟨Hst, Hreg⟩
  imod (offer_all (env m ρ κι) c) $$ [Hrd Hreg] with Hoff
  · isplitr; · iexact HInv
    isplitl [Hrd] <;> iassumption
  ihave #HRA := (offered_RA (F := F) c) $$ Hoff
  ihave Hoff := (offered_split (F := F) c) $$ Hoff
  icases Hoff with ⟨Hrow, Hread, H1, H2, H3, H4, H5, H6⟩
  imodintro
  iexists κι
  unfold Pre
  isplitr; · iexact HInv
  isplitr; · iexact HRA
  isplitl [Ho Htok Hcrd Hpos]
  · unfold St
    isplitl [Ho]
    · iapply (show (dats m ρ 0 c).owesAt 0 t₀.castSucc ⊢ (iprop(∃ W, owes (c : Thread nD τ) (Oat c 0) W) : sProp 𝕄) from by
        unfold Dat.owesAt Pipeline.owesWithin
        iintro ⟨%W, %hW, HO⟩
        iexists W; iexact HO)
      iexact Ho
    isplitl [Htok]; · iexact Htok
    isplitl [Hcrd]; · iexact Hcrd
    iexact Hpos
  isplitl [Hx]
  · iapply (Entails.of_eq (show (owns (c : Thread nD τ) xM fullShare ((dats m ρ 0 c).before (0 : Fin 3) t₀ d0) : sProp 𝕄) = part c xM fullShare ((env m ρ κι).X c) from by
      rw [before_x]; rfl))
    iexact Hx
  isplitl [Hw]
  · iapply (Entails.of_eq (show (owns (c : Thread nD τ) wM fullShare ((dats m ρ 0 c).before (1 : Fin 3) t₀ d1) : sProp 𝕄) = part c wM fullShare ((env m ρ κι).W c) from by
      rw [before_w]; rfl))
    iexact Hw
  isplitl [Hout]
  · iexists ((dats m ρ 0 c).before (2 : Fin 3) t₀ d2); iexact Hout
  isplitl [Hst]; · iexact Hst
  isplitl [Hrow]; · iexact Hrow
  isplitl [Hread]; · iexact Hread
  isplitl [H1]; · iexact H1
  isplitl [H2]; · iexact H2
  isplitl [H3]; · iexact H3
  isplitl [H4]; · iexact H4
  isplitl [H5]; · iexact H5
  iexact H6

/-- From the program's end, what the pipeline takes back: the semaphores are closed. -/
theorem over (κι : (Dev nD × Fin 62 → ℕ) × (Dev nD × Fin 29 → ℕ)) (c : Dev nD) : Post (env m ρ κι) c ⊢ (|={Set.univ}=> given m ρ c : sProp 𝕄) := by
  unfold Post Run St
  iintro ⟨⟨#HI, -, ⟨%W', Ho⟩, -, -, Hpos⟩, Hx, Hw, Hout, Hst, Hmx, Hf0, Hf1, Hn0, Hn1, Han, Hrz, Hu0, Hu1, Hu2, Hd0, Hd1, Hd2⟩
  imod (close_all (env m ρ κι) c) $$ [Hpos] with Hz
  · isplitr; · iexact HI
    iexact Hpos
  imodintro
  unfold given Φ₁
  isplitl [Hz Hst Hmx Hf0 Hf1 Hn0 Hn1 Han Hrz Hu0 Hu1 Hu2 Hd0 Hd1 Hd2]
  · isplitl [Hz]; · iexact Hz
    iapply (scratch_join (F := F) c)
    isplitl [Hst]; · iexact Hst
    isplitl [Hmx]; · iapply (owns_Slot c mxM (env m ρ κι).maxima); iexact Hmx
    isplitl [Hf0]; · iexact Hf0
    isplitl [Hf1]; · iexact Hf1
    isplitl [Hn0]; · iexact Hn0
    isplitl [Hn1]; · iexact Hn1
    isplitl [Han]; · iexact Han
    isplitl [Hrz]; · iexact Hrz
    isplitl [Hu0]; · iexact Hu0
    isplitl [Hu1]; · iexact Hu1
    isplitl [Hu2]; · iexact Hu2
    isplitl [Hd0]; · iexact Hd0
    isplitl [Hd1]; · iexact Hd1
    iexact Hd2
  isplitl [Ho]
  · iapply (show owes (c : Thread nD τ) (Oat c 49) W' ⊢ ((dats m ρ 0 c).owesAt 0 t₀.succ : sProp 𝕄) from by
      rw [Oat_done]
      unfold Dat.owesAt Pipeline.owesWithin
      iintro HO
      iexists W'
      isplitr
      · ipureintro; exact fun _ _ => Or.inl trivial
      iexact HO)
    iexact Ho
  isplitl [Hx]; · iexact Hx
  isplitl [Hw]; · iexact Hw
  iapply (Entails.of_eq (show (part c oM fullShare ((env m ρ κι).res c) : sProp 𝕄) = owns (c : Thread nD τ) oM fullShare (resOf m ρ c) from by rw [res_names]))
  iexact Hout

/-- From what the launch hands it, the body runs, and leaves its result and its semaphores at zero. -/
theorem sound (c : Dev nD) : handed m ρ c ⊢ WP c (cc0_body (F := F) xM (Memref.isWhole_whole _) wM (Memref.isWhole_whole _) oM (Memref.isWhole_whole _) upM (Memref.isWhole_whole _) dnM (Memref.isWhole_whole _) stM (Memref.isWhole_whole _) fpM (Memref.isWhole_whole _) fnM (Memref.isWhole_whole _) anM (Memref.isWhole_whole _) rzM (Memref.isWhole_whole _) mxM (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27) (fun _ => given m ρ c) := by
  iintro H
  iapply fupd_wp
  imod (ready m ρ c) $$ H with ⟨%κι, HP⟩
  imodintro
  iapply (wp_fupd _ _)
  iapply (body (env m ρ κι) c) $$ HP
  iintro HP
  iapply (over m ρ κι c); iexact HP

set_option maxRecDepth 4000 in
/-- This is what the pipeline asks of the body. -/
theorem body_obligation (c : Dev nD) : BodyObligation (dats m ρ 0 c) (defs₀ (F := F)) Variants.none 0 Set.univ := fun t => by
  rw [fin_N t]
  rw [bigSep_W, bigSep_W]
  exact sound m ρ c

/-! ## The launch -/

/-- The kernel's own semaphores: all but the barrier's. -/
def osem (k : Fin 61) : SemLoc sig := csem k.castSucc

/-- The body's semaphores are those that the call allots. -/
theorem ownSemFacts : Pipeline.OwnSemFacts cfg0.spec osem where
  isScoped := by decide +kernel
  inj := fun a b h => Fin.castSucc_injective _ (csem_inj h)
  disj := by decide +kernel

/-- Every window's array is held whole. -/
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf cellsF toksF, initSlots Finset.univ 3))

/-- What the launch element deals: all to the first device. -/
def G (c : Dev nD) : sProp 𝕄 := if c = 0 then Big (xIn m ρ) (wIn m ρ) else iprop(emp)

/-- The devices' parts of the protocol's starting state are the whole of it. -/
theorem all_G : (bigSep Finset.univ (G m ρ) : sProp 𝕄) ⊣⊢ Big (xIn m ρ) (wIn m ρ) := by
  have h : (bigSep Finset.univ (G m ρ) : sProp 𝕄) = Big (xIn m ρ) (wIn m ρ) := by
    have h1 := BI.bigSep_filter (Finset.univ : Finset (Dev nD)) (fun c => c = 0) (fun _ => (Big (xIn m ρ) (wIn m ρ) : sProp 𝕄))
    have h2 : (Finset.univ.filter fun c : Dev nD => c = 0) = {0} := by decide
    rw [h2, BI.bigSep_singleton] at h1
    exact h1.symm
  exact ⟨Entails.of_eq h, Entails.of_eq h.symm⟩

/-- The one semaphore outside the call is the barrier's. -/
theorem unscoped_eq (c : Dev nD) : (unscopedSems0 c : sProp 𝕄) = semVal (kcell c 61) 0 := by
  unfold unscopedSems0; rw [bigSep_eq_bigSepL_of_eq [SemLoc.reg barS] (by decide) (by decide)]; rfl

/-- A device's semaphores are its own and the barrier's. -/
theorem sems_eq (c : Dev nD) : (bigSep Finset.univ fun k : Fin 62 => (semVal (kcell c k) 0 : sProp 𝕄))
    ⊣⊢ iprop(Pipeline.ownSems0 (Ix := ℕ) (Name := ℕ) (U := UU) (Lvl := ℕ) (Val := Elt F) (τ := τ) osem c ∗ unscopedSems0 c) := by
  have h : (Finset.univ : Finset (Fin 62)) = insert (Fin.last 61) (Finset.univ.image (Fin.castSucc : Fin 61 → Fin 62)) := by decide +kernel
  have hn : Fin.last 61 ∉ Finset.univ.image (Fin.castSucc : Fin 61 → Fin 62) := by decide +kernel
  have e : (bigSep Finset.univ fun k : Fin 62 => (semVal (kcell c k) 0 : sProp 𝕄))
      = iprop(semVal (kcell c 61) 0 ∗ Pipeline.ownSems0 (Ix := ℕ) (Name := ℕ) (U := UU) (Lvl := ℕ) (Val := Elt F) (τ := τ) osem c) := by
    rw [h, sep_insert hn, sep_image (fun a _ b _ h => Fin.castSucc_injective _ h)]; rfl
  rw [unscoped_eq, e]
  constructor
  · iintro ⟨H1, H2⟩; isplitl [H2] <;> iassumption
  · iintro ⟨H1, H2⟩; isplitl [H2] <;> iassumption

/-- From all semaphores at zero and the starting state every device is dealt its share of the protocol. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (Dealt (xIn m ρ) (wIn m ρ)) := by
  refine BIBase.Entails.trans ?_ (deal (xIn m ρ) (wIn m ρ))
  have hv : iprop((bigSep Finset.univ fun c => Pipeline.ownSems0 (Ix := ℕ) (Name := ℕ) (U := UU) (Lvl := ℕ) (Val := Elt F) (τ := τ) osem c)
      ∗ bigSep Finset.univ fun c => unscopedSems0 c) ⊢ (bigSep Finset.univ fun p : Dev nD × Fin 62 => semVal (kcell p.1 p.2) 0 : sProp 𝕄) := by
    rw [← BI.bigSep_sep', BI.bigSep_univ_prod]
    exact BI.bigSep_mono fun c _ => (sems_eq c).2
  rw [BI.bigSep_sep', BI.bigSep_sep']
  iintro ⟨Ho, Hu, HG⟩
  isplitl [HG]; · iapply (all_G m ρ).1; iexact HG
  iapply hv
  isplitl [Ho] <;> iassumption

/-- What a device has when its call starts, -/
theorem start_intro (c : Dev nD) :
    iprop(Pipeline.unscopedRestP Pipeline.Prefetch.none cfg0.spec c (fun b => m ((c : Thread nD τ).loc b)) ∗ levAts L lv
        ∗ Pipeline.launchCred (fun d => Oat d 0) c ∗ prngReg c (ρ c) ∗ Dealt (xIn m ρ) (wIn m ρ) c)
      ⊢ |={Set.univ}=> iprop(Start m ρ c ∗ emp) := by
  iintro ⟨-, Hlev, Hcr, -, HG⟩
  imodintro
  unfold Start
  isplitl
  · isplitl [HG]; · iexact HG
    isplitl [Hcr]; · iapply (credits (F := F) c); iexact Hcr
    unfold Lev; iexact Hlev
  · iempintro

/-- what it has when its body starts, -/
theorem phi0_intro (c : Dev nD) :
    iprop(Start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

/-- and what it gives back when its body ends. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hz, Hr⟩
  ihave Hz := (sems_eq (F := F) c).1 $$ Hz
  icases Hz with ⟨Ho, Hu⟩
  isplitl [Hu]; · iexact Hu
  isplitl [Ho] <;> iassumption

/-- Every message is owed at an index above zero, -/
theorem ix_pos : ∀ μ : Fin 49, 0 < ix μ := by decide +kernel

/-- so that the pipeline's own waits, at index zero, are below all that is owed, -/
theorem mayWait_stage (c : Dev nD) (sm : SemLoc sig) (O : CellTallies nD τ sig ℕ) (hO : O = Oat c 0 ∨ O = 0) :
    (levAts L lv : sProp 𝕄) ⊢ MayWait (c : Thread nD τ) sm 0 O := by
  rcases hO with rfl | rfl
  · exact MayOwe.of_cut (L := L) (lev := lv) 0
      (fun p hp => by rw [Finset.mem_singleton.mp hp, L_kcell]; exact Finset.mem_range.mpr (by norm_num))
      (fun g u hg => by
        obtain ⟨μ, -, rfl, rfl⟩ := Oat_pos hg
        rw [L_kcell]; exact Finset.mem_range.mpr (ix_lt μ))
      (fun p hp => by rw [Finset.mem_singleton.mp hp]; exact Nat.le_refl 0)
      (fun g u hg => by
        obtain ⟨μ, -, rfl, rfl⟩ := Oat_pos hg
        exact ix_pos μ)
  · rw [MayWait_zero]; iintro -; iempintro

/-- and all of them may be made. -/
theorem stageWaits (c : Dev nD) : (levAts L lv : sProp 𝕄) ⊢ Pipeline.cellsWaits cfgs (dats m ρ) 0 0 c :=
  Pipeline.cellsWaits_intro cfgs (dats m ρ) 0 0 c fun w s t =>
    mayWait_stage c _ _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with no semaphore counted: every fair execution of the sixteen devices' program
    terminates, each device's arrays are then at the computed contents, and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Oat d 0) (howed₀ := fun _ => rfl) (howedN := fun _ => rfl)
    (L := L) (lv := lv) (hL := L_of_ne) (hwaits := stageWaits m ρ)
    (G := G m ρ) (G' := Dealt (xIn m ρ) (wIn m ρ)) (u₀ := u₀)
    (hu₀ := by
      unfold u₀
      iintro Hu
      ihave H := (ownU_pair _ _) $$ Hu
      icases H with ⟨HP, HX⟩
      imod (fund_big (xIn m ρ) (wIn m ρ)) $$ HX with HG
      imodintro
      isplitl [HP]; · iexact HP
      iapply (all_G m ρ).2; iexact HG)
    (hglob := glob m ρ)
    (hA := fun _ _ => rfl) (hpf := fun _ k => k.elim0)
    (X := Start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

/-- The two input arrays hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
/-- So does the array of the weights. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.Gather

end
-- ==== Proof.Frames.lean ====
/-
The frames of the kernel: the run with its values dropped, over machine floats and over exact ones.
-/
module

public import proofs.«01_k».proof.Defs
public import proofs.«01_k».proof.Proof.Gen.Kernel
public import proofs.«01_k».proof.Proof.Launch

@[expose] public section

noncomputable section

namespace Cert.Gather

open Idealize.ShloMosaic Idealize.ShloMosaic.TcCoe
open Idealize.SL.Sem

/-- The run with its values dropped, over any floats. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun r h => ⟨fun c => ⟨(h.1 c (0 : Fin 3)).trans (finalA_x m ρ c), (h.1 c (1 : Fin 3)).trans (finalA_w m ρ c)⟩, h.2⟩)
    (run_main m ρ)

/-- The run ends with both inputs as they were and every semaphore at zero, over exact floats. -/
theorem frame_ideal : Cert.quiescent_KernelIdeal (hKernelIdeal := Cert.KernelIdeal.Gen.facts) := fun m ρ _ => frame_any (F := Ideal) m ρ

/-- The two printed programs have one text: their kernels are one, -/
theorem kernels_same {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | ⟨0, h⟩, (t, s) => rfl

/-- and so their bodies, -/
theorem defs_same {F : FTy → Type} [FloatOps F] : Cert.Kernel.defs (F := F) = Cert.KernelIdeal.defs (F := F) := by
  unfold Cert.Kernel.defs Cert.KernelIdeal.defs
  rw [kernels_same]
  rfl

/-- and their runs. -/
theorem runs_same {F : FTy → Type} [FloatOps F] : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) := by
  rw [defs_same]; rfl

/-- The same over machine floats. -/
theorem frame_kernel : Cert.quiescent_Kernel (hKernel := Cert.Kernel.Gen.facts) := fun m ρ _ => by
  rw [runs_same]
  exact frame_any (F := Bits) m ρ

end Cert.Gather

end
-- ==== Proof.Value.lean ====
/-
The mathematics: at the real numbers the sixteen devices' results are the columns of the reference's result.
-/
module

public import proofs.«01_k».proof.Defs
public import proofs.«01_k».proof.Proof.Launch
public import proofs.«01_k».proof.Proof.Gen.ReferenceIdeal.Value
public import Idealize.ShloMosaic.Lib.Pointwise
public import Idealize.ShloMosaic.Lib.Layout
public import Idealize.ShloMosaic.Lib.ValueIdx

@[expose] public section

noncomputable section

namespace Cert.Gather

open Cert.KernelIdeal Cert.KernelIdeal.Gen
open Idealize.ShloMosaic
open Idealize.ShloMosaic.TcCoe
open Idealize.SL.Sem

/-! ## Greatest magnitudes -/

/-- The pattern the maxima start from is below everything. -/
theorem floor_f32 : FloatOps.ofBits (F := Ideal) .f32 0xFF800000#32 = (⊥ : EReal) := by
  show Ideal.ofBits .f32 0xFF800000#32 = ⊥
  simp [Ideal.ofBits, Ideal.ieee]

/-- The reduced shape has one index. -/
theorem one_size : ∀ b, S1.size b = 1 := by decide

/-- A maximum down to one element is at most `z` when every element is. -/
theorem reduced_le {u : Shape} {axes : List (Fin u.rank)} (src : FVec Ideal u .f32) (h : u.Reduces axes S1)
    (hφ : FKind.Formats .f32) (hacc : (0xFF800000#32 : BitVec 32) = FKind.maximumf.neutral .f32 hφ) (j : S1.Idx) (z : EReal) :
    (multiReduction .maximumf axes S1 src 0xFF800000#32 h hφ hacc j : EReal) ≤ z ↔ ∀ i, (src i : EReal) ≤ z := by
  rw [multiReduction_maximumf_eq_fold, floor_f32,
    Finset.filter_true_of_mem fun i _ => funext fun b => Fin.ext (by
      have h₁ := (h.drop i b).isLt; have h₂ := (j b).isLt
      have h₃ : S1.size b = 1 := one_size b
      omega)]
  refine (Finset.fold_max_le (b := (⊥ : EReal)) (f := fun i => (src i : EReal)) z).trans ?_
  simp

/-- The greatest element of a table, as a kernel takes it: from the table seen as one layer, down to one number. -/
def greatest {s u : Shape} {axes : List (Fin u.rank)} (v : FVec Ideal s .f32) (hc : s.ShapeCasts u)
    (h : u.Reduces axes S1) : EReal :=
  extractAt ![0, 0, 0] (shapeCast S1x1x1 (multiReduction (F := Ideal) .maximumf axes S1 (shapeCast u v hc) 0xFF800000#32 h
    (.inl rfl) rfl) shapeCasts_S1_S1x1x1) inpos_S1x1x1_p0_0_0

/-- It is at most `z` when every element is. -/
theorem greatest_le {s u : Shape} {axes : List (Fin u.rank)} (v : FVec Ideal s .f32) (hc : s.ShapeCasts u)
    (h : u.Reduces axes S1) (z : EReal) : greatest v hc h ≤ z ↔ ∀ i, (v i : EReal) ≤ z :=
  (reduced_le (shapeCast u v hc) h (.inl rfl) rfl
    (Shape.reshapeEquiv shapeCasts_S1_S1x1x1 fun a => ⟨![0, 0, 0] a, inpos_S1x1x1_p0_0_0 a⟩) z).trans
  ((Shape.reshapeEquiv hc).forall_congr_right (q := fun k => (v k : EReal) ≤ z))

/-- A magnitude is not negative. -/
theorem magnitude_nonneg (x : EReal) : 0 ≤ max x (-x) := by
  rcases le_total 0 x with h | h
  · exact h.trans (le_max_left _ _)
  · exact (EReal.neg_nonneg.mpr h).trans (le_max_right _ _)

/-- The kernel's maximum of two numbers is their maximum, -/
theorem maximumf_eq (a b : Ideal .f32) : Scalar.maximumf a b = (max a b : EReal) := rfl
/-- and its magnitudes are magnitudes. -/
theorem absf_apply {s : Shape} (t : FVec Ideal s .f32) (i : s.Idx) : absf t i = (max (t i) (-(t i)) : EReal) := rfl

/-- A device's maximum is taken of what it has met and of the new product. -/
theorem step_eq (a : Ideal .f32) (t : FVec Ideal S256x128 .f32) : k0_pay13 (F := Ideal) a t
    = Scalar.maximumf a (greatest (absf t) shapeCasts_S256x128_S1x256x128 reduces_S1x256x128_S1) := rfl

/-- A device's running maximum after one more product. -/
theorem step_le (a : EReal) (t : FVec Ideal S256x128 .f32) (z : EReal) :
    (k0_pay13 (F := Ideal) a t : EReal) ≤ z ↔ a ≤ z ∧ ∀ i, max (t i : EReal) (-(t i)) ≤ z := by
  rw [step_eq, maximumf_eq, max_le_iff, greatest_le]
  simp only [absf_apply]

/-- What a device has met in its first `n` products. -/
theorem run_le (e : Env Ideal) (c : Dev nD) (z : EReal) (n : ℕ) :
    (e.run c n : EReal) ≤ z ↔ 0 ≤ z ∧ ∀ k < n, ∀ i, max (e.tile c (ord c k) i : EReal) (-(e.tile c (ord c k) i)) ≤ z := by
  induction n with
  | zero =>
    have h0 : (e.run c 0 : EReal) = 0 := Ideal.ofBits_zero_f32
    rw [h0]; simp
  | succ n ih =>
    refine (step_le _ _ z).trans ?_
    rw [ih, Nat.forall_lt_succ_right]
    tauto

/-- A device works through every device's block. -/
theorem ord_onto : ∀ c d : Dev nD, ∃ n : Fin 16, ord c n = d := by decide +kernel

/-- A device's greatest magnitude is that of its products with all the blocks. -/
theorem A_le (e : Env Ideal) (c : Dev nD) (z : EReal) :
    (e.A c : EReal) ≤ z ↔ 0 ≤ z ∧ ∀ d i, max (e.tile c d i : EReal) (-(e.tile c d i)) ≤ z := by
  refine (run_le e c z 16).trans (and_congr_right fun _ => ⟨fun h d => ?_, fun h k _ => h _⟩)
  obtain ⟨n, rfl⟩ := ord_onto c d
  exact h n n.isLt

/-- The greatest of the sixteen devices' maxima. -/
def top (e : Env Ideal) : EReal := greatest e.maxima shapeCasts_S16x128_S1x16x128 reduces_S1x16x128_S1

/-- It is at most `z` when every product's magnitude is. -/
theorem top_le (e : Env Ideal) (z : EReal) :
    top e ≤ z ↔ ∀ c d i, max (e.tile c d i : EReal) (-(e.tile c d i)) ≤ z := by
  refine (greatest_le _ _ _ z).trans ⟨fun h c => ?_, fun h i => ?_⟩
  · exact ((A_le e c z).1 (h (ix2 c 0))).2
  · exact (A_le e (i 0) z).2 ⟨(magnitude_nonneg _).trans (h 0 0 (ix2 0 0)), h (i 0)⟩

/-! ## The products -/

/-- An element of a device's product with a block. -/
theorem tile_apply (e : Env Ideal) (c d : Dev nD) (r : Fin 256) (j : Fin 128) :
    (e.tile c d (ix2 r j) : EReal) = ∑ k : Fin 4096, (e.X d (ix2 r k) : EReal) * e.W c (ix2 k j) := by
  unfold Env.tile k0_pay3
  pointwise

/-- The reference's product, of the whole arrays. -/
def prod (x : FVec Ideal ⟨2, ![4096, 4096]⟩ .f32) (w : FVec Ideal ⟨2, ![4096, 2048]⟩ .f32) : FVec Ideal ⟨2, ![4096, 2048]⟩ .f32 :=
  matmul Cert.ReferenceIdeal.dot_S4096x4096_S4096x2048_S4096x2048_1_0_0_1_n_n (some .fp32) x w
    (constant ⟨2, ![4096, 2048]⟩ .f32 0x00000000#32)

/-- An element of it. -/
theorem prod_apply (x : FVec Ideal ⟨2, ![4096, 4096]⟩ .f32) (w : FVec Ideal ⟨2, ![4096, 2048]⟩ .f32) (r : Fin 4096) (j : Fin 2048) :
    (prod x w (ix2 r j) : EReal) = ∑ k : Fin 4096, (x (ix2 r k) : EReal) * w (ix2 k j) := by
  unfold prod
  pointwise

/-- An index is its two coordinates. -/
theorem at_coords {n k : ℕ} (q : (⟨2, ![n, k]⟩ : Shape).Idx) (a : Fin n) (b : Fin k) (ha : a.val = (q 0).val) (hb : b.val = (q 1).val) :
    ix2 a b = q := (congrArg₂ ix2 (Fin.ext ha) (Fin.ext hb)).trans (ix2_eta q)

/-- Such an index lies inside. -/
theorem place_lt {n k N : ℕ} (d : Fin n) (r : Fin k) (h : n * k = N) : d.val * k + r.val < N := by
  have h1 := r.isLt
  have h2 : (d.val + 1) * k ≤ n * k := Nat.mul_le_mul_right k d.isLt
  rw [Nat.succ_mul] at h2
  omega

section Blocks

variable (e : Env Ideal) (x : FVec Ideal ⟨2, ![4096, 4096]⟩ .f32) (w : FVec Ideal ⟨2, ![4096, 2048]⟩ .f32)
variable (hX : ∀ d : Fin 16, e.X d = Layout.block ⟨2, ![256, 4096]⟩ ⟨2, ![4096, 4096]⟩ 0 16 d x)
variable (hW : ∀ c : Fin 16, e.W c = Layout.block ⟨2, ![4096, 128]⟩ ⟨2, ![4096, 2048]⟩ 1 16 c w)

include hX hW in
/-- Each product is a piece of the reference's. -/
theorem tile_eq (c d : Fin 16) (r : Fin 256) (j : Fin 128) : (e.tile c d (ix2 r j) : EReal)
    = prod x w (ix2 ⟨d.val * 256 + r.val, by omega⟩ ⟨c.val * 128 + j.val, by omega⟩) := by
  rw [tile_apply, prod_apply, hX, hW]
  refine Finset.sum_congr rfl fun k _ => congrArg₂ (· * ·) (congrArg x ?_) (congrArg w ?_)
  · exact eq_ix2 _
  · exact eq_ix2 _

include hX hW in
/-- What a device holds before scaling is its columns of the reference's product. -/
theorem out_eq (c : Fin 16) (i : S4096x128.Idx) :
    e.out c i = (Layout.block ⟨2, ![4096, 128]⟩ ⟨2, ![4096, 2048]⟩ 1 16 c (prod x w) : _ → EReal) i := by
  refine (tile_eq e x w hX hW c _ _ _).trans (congrArg (prod x w) ?_)
  exact at_coords _ _ _ (Nat.div_add_mod' (i 0).val 256) rfl

/-- The greatest magnitude of the reference's product. -/
def refTop : EReal :=
  greatest (absf (prod x w)) Cert.ReferenceIdeal.Facts₀.shapeCasts_S4096x2048_S1x4096x2048 Cert.ReferenceIdeal.Facts₀.reduces_S1x4096x2048_S1

include hX hW in
/-- It is the greatest the sixteen devices meet. -/
theorem top_eq : top e = refTop x w := by
  refine eq_of_forall_ge_iff fun z => (top_le e z).trans (Iff.trans ?_ (greatest_le _ _ _ z).symm)
  simp only [absf_apply]
  constructor
  · intro h i
    have h0 : (i 0).val < 4096 := (i 0).isLt
    have h1 : (i 1).val < 2048 := (i 1).isLt
    have := h (⟨(i 1).val / 128, by omega⟩ : Fin 16) (⟨(i 0).val / 256, by omega⟩ : Fin 16)
      (ix2 ⟨(i 0).val % 256, by omega⟩ ⟨(i 1).val % 128, by omega⟩)
    rw [tile_eq e x w hX hW] at this
    rw [at_coords i _ _ (Nat.div_add_mod' (i 0).val 256) (Nat.div_add_mod' (i 1).val 128)] at this
    exact this
  · intro h c d i
    have := h (ix2 ⟨d.val * 256 + (i 0).val, place_lt d (i 0) (by norm_num)⟩ ⟨c.val * 128 + (i 1).val, place_lt c (i 1) (by norm_num)⟩)
    rw [← tile_eq e x w hX hW c d (i 0) (i 1)] at this
    rw [eq_ix2 i]
    exact this

/-! ## Scaling -/

/-- The quantiser: an element brought to the 8-bit range by the scale of the greatest magnitude `g`, cut off there, and
    brought back. -/
def quant (g y : Ideal .f32) : Ideal .f32 :=
  FloatOps.mulf
    (FloatOps.minimumf (Scalar.ofBits .f32 0x43E00000#32) (FloatOps.maximumf (Scalar.ofBits .f32 0xC3E00000#32)
      (FloatOps.divf y (Scalar.divf g (Scalar.ofBits .f32 0x43E00000#32)))))
    (Scalar.divf g (Scalar.ofBits .f32 0x43E00000#32))

/-- The scale a device uses. -/
theorem scale_eq (e : Env Ideal) : k0_pay46 e.maxima = Scalar.divf (F := Ideal) (φ := .f32) (top e) (Scalar.ofBits .f32 0x43E00000#32) := rfl

/-- An element of a device's result. -/
theorem res_apply (e : Env Ideal) (c : Fin 16) (i : S4096x128.Idx) : e.res c i = quant (top e) (e.out c i) := by
  unfold Env.res k0_pay1 k0_pay47
  rw [scale_eq, shapeCast_id]
  rfl

include hX hW in
/-- The devices' results are the columns of the reference's. -/
theorem res_eq (c : Fin 16) : e.res c
    = Layout.block ⟨2, ![4096, 128]⟩ ⟨2, ![4096, 2048]⟩ 1 16 c (Cert.ReferenceIdeal.Value.G2 (F := Ideal) x w) := by
  funext i
  rw [res_apply, top_eq e x w hX hW, out_eq e x w hX hW]
  rfl

end Blocks

/-! ## The arrays after the run -/

variable (m : (ℓ : Loc nD τ sig) → Buf (Elt Ideal) ℓ) (ρ : Dev nD → PrngReg)

/-- A window's one block is its whole array: for the first argument. -/
theorem at_origin0 : (fun a => (win0_0.index (0 : Fin 1)) a * main_arg0.ty.shape.size a) = fun _ => 0 := by decide +kernel
/-- So for the second argument, -/
theorem at_origin1 : (fun a => (win0_1.index (0 : Fin 1)) a * main_arg1.ty.shape.size a) = fun _ => 0 := by decide +kernel
/-- and for the result. -/
theorem at_origin2 : (fun a => (win0_2.index (0 : Fin 1)) a * main_v1.ty.shape.size a) = fun _ => 0 := by decide +kernel

/-- What a device reads in is its first argument -/
theorem xIn_eq (c : Dev nD) : xIn m ρ c = m ((c.tc : Thread nD τ).loc main_arg0) :=
  Memref.read_access_unit_zero (Elt Ideal) main_arg0 at_origin0 (by decide +kernel) _
/-- and its second. -/
theorem wIn_eq (c : Dev nD) : wIn m ρ c = m ((c.tc : Thread nD τ).loc main_arg1) :=
  Memref.read_access_unit_zero (Elt Ideal) main_arg1 at_origin1 (by decide +kernel) _

/-- What its result array ends with is what it computes. -/
theorem finalA_o (c : Dev nD) : finalA m ρ c (2 : Fin 3) = resOf m ρ c := by
  have h : (win0_2.blk (0 : Fin 1)).view.read (Elt Ideal) (finalA m ρ c (2 : Fin 3)) = resOf m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide +kernel, if_pos rfl]
    exact View.read_write_univ _ _
  exact (Memref.read_access_unit_zero (Elt Ideal) main_v1 at_origin2 (by decide +kernel) _).symm.trans h

/-! ## The claim -/

/-- At the real numbers every device's result is its columns of the reference's result. -/
theorem same_result : Cert.algebraic_KernelIdeal_ReferenceIdeal (hKernelIdeal := Cert.KernelIdeal.Gen.facts)
    (hReferenceIdeal := Cert.ReferenceIdeal.Gen.facts) := by
  intro m ρ m' ρ' _ hin
  refine ⟨Cert.ReferenceIdeal.Value.G2 (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run defs _ _).mono (fun r h c => ⟨?_, (h.1 c (0 : Fin 3)).trans (finalA_x m ρ c), (h.1 c (1 : Fin 3)).trans (finalA_w m ρ c)⟩)
      (run_main (F := Ideal) m ρ)
    refine (h.1 c (2 : Fin 3)).trans ((finalA_o m ρ c).trans ?_)
    exact res_eq _ _ _ (fun d => (xIn_eq m ρ d).trans (hin d).1) (fun d => (wIn_eq m ρ d).trans (hin d).2) c
  · exact (θ_run Cert.ReferenceIdeal.defs _ _).mono (fun _ h => h 0) (Cert.ReferenceIdeal.Value.run (F := Ideal) m' ρ')

end Cert.Gather

end
-- ==== Proof.lean ====
/-
The claim: the sixteen devices' program ends, leaves its arguments, and computes what the plain reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The three programs end with their arguments unchanged, and the devices' results are the columns of the reference's. -/
theorem claim : Cert.Claim := ⟨Cert.Kernel.Gen.facts, Cert.KernelIdeal.Gen.facts, Cert.ReferenceIdeal.Gen.facts,
  Cert.Gather.frame_kernel, Cert.Gather.frame_ideal, fun m ρ _ => Cert.ReferenceIdeal.Gen.frame m ρ, trivial,
  Cert.Gather.same_result⟩

end Cert.Proof

end
